-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v223)) (v1 : (c : Dev Cert.KernelIdeal.nD) → Buf (Elt Ideal) ((c.tc : Thread Cert.KernelIdeal.nD Cert.KernelIdeal.τ).loc Cert.KernelIdeal.main_v220)) (v2 : (c : Dev Cert.KernelIdeal.nD) → Buf (Elt Ideal) ((c.tc : Thread Cert.KernelIdeal.nD Cert.KernelIdeal.τ).loc Cert.KernelIdeal.main_v222)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v223) = v0 c
          ∧ r.2.mem ((c.tc : Thread Cert.KernelIdeal.nD Cert.KernelIdeal.τ).loc Cert.KernelIdeal.main_v220) = v1 c
          ∧ r.2.mem ((c.tc : Thread Cert.KernelIdeal.nD Cert.KernelIdeal.τ).loc Cert.KernelIdeal.main_v222) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v146) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1x256x256 : Shape := ⟨4, ![32, 1, 256, 256]⟩
abbrev S64x1x4x4 : Shape := ⟨4, ![64, 1, 4, 4]⟩
abbrev S64 : Shape := ⟨1, ![64]⟩
abbrev S64x64x4x4 : Shape := ⟨4, ![64, 64, 4, 4]⟩
abbrev S1 : Shape := ⟨1, ![1]⟩
abbrev S512x64 : Shape := ⟨2, ![512, 64]⟩
abbrev S_ : Shape := ⟨0, ![]⟩

class Facts : Prop where
  bcast_S_S32x1x256x256 : S_.BroadcastsInDim S32x1x256x256 (![] : Fin 0 → Fin S32x1x256x256.rank)
  bcast_S_S64x1x4x4 : S_.BroadcastsInDim S64x1x4x4 (![] : Fin 0 → Fin S64x1x4x4.rank)
  bcast_S_S64 : S_.BroadcastsInDim S64 (![] : Fin 0 → Fin S64.rank)
  bcast_S_S64x64x4x4 : S_.BroadcastsInDim S64x64x4x4 (![] : Fin 0 → Fin S64x64x4x4.rank)
  bcast_S_S512x64 : S_.BroadcastsInDim S512x64 (![] : Fin 0 → Fin S512x64.rank)

variable [Facts]

def fn {F : FTy → Type} [FloatOps F] (main_arg0 : FVec F S32x1x256x256 .f32) (main_arg1 : FVec F S64x1x4x4 .f32) (main_arg2 : FVec F S64 .f32) (main_arg3 : FVec F S64x64x4x4 .f32) (main_arg4 : FVec F S64 .f32) (main_arg5 : FVec F S64x64x4x4 .f32) (main_arg6 : FVec F S64 .f32) (main_arg7 : FVec F S64x1x4x4 .f32) (main_arg8 : FVec F S1 .f32) (main_arg9 : FVec F S512x64 .f32) : IVec S32x1x256x256 1 × IVec S64x1x4x4 1 × IVec S64 1 × IVec S64x64x4x4 1 × IVec S64 1 × IVec S512x64 1 :=
  let main_v0 : FVec F S32x1x256x256 .f32 := Host.absf main_arg0
  let main_cst : FVec F S_ .f32 := constant S_ .f32 0x7F800000#32
  let main_v1 : FVec F S32x1x256x256 .f32 := broadcastInDim S32x1x256x256 ![] bcast_S_S32x1x256x256 main_cst
  let main_v2 : IVec S32x1x256x256 1 := cmpf .olt main_v0 main_v1
  let main_v3 : FVec F S64x1x4x4 .f32 := Host.absf main_arg1
  let main_cst_0 : FVec F S_ .f32 := constant S_ .f32 0x7F800000#32
  let main_v4 : FVec F S64x1x4x4 .f32 := broadcastInDim S64x1x4x4 ![] bcast_S_S64x1x4x4 main_cst_0
  let main_v5 : IVec S64x1x4x4 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x64x4x4 .f32 := Host.absf main_arg3
  let main_cst_2 : FVec F S_ .f32 := constant S_ .f32 0x7F800000#32
  let main_v10 : FVec F S64x64x4x4 .f32 := broadcastInDim S64x64x4x4 ![] bcast_S_S64x64x4x4 main_cst_2
  let main_v11 : IVec S64x64x4x4 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S512x64 .f32 := Host.absf main_arg9
  let main_cst_4 : FVec F S_ .f32 := constant S_ .f32 0x7F800000#32
  let main_v16 : FVec F S512x64 .f32 := broadcastInDim S512x64 ![] bcast_S_S512x64 main_cst_4
  let main_v17 : IVec S512x64 1 := cmpf .olt main_v15 main_v16
  (main_v2, main_v5, main_v8, main_v11, main_v14, main_v17)
-- ==== Kernel.lean ====
abbrev S32x1x256x256 : Shape := ⟨4, ![32, 1, 256, 256]⟩
abbrev S64x1x4x4 : Shape := ⟨4, ![64, 1, 4, 4]⟩
abbrev S64 : Shape := ⟨1, ![64]⟩
abbrev S64x64x4x4 : Shape := ⟨4, ![64, 64, 4, 4]⟩
abbrev S1 : Shape := ⟨1, ![1]⟩
abbrev S512x64 : Shape := ⟨2, ![512, 64]⟩
abbrev S32x256x256 : Shape := ⟨3, ![32, 256, 256]⟩
abbrev S_ : Shape := ⟨0, ![]⟩
abbrev S32x260x260 : Shape := ⟨3, ![32, 260, 260]⟩
abbrev S32x64x64 : Shape := ⟨3, ![32, 64, 64]⟩
abbrev S32x4096 : Shape := ⟨2, ![32, 4096]⟩
abbrev S32x1x4096 : Shape := ⟨3, ![32, 1, 4096]⟩
abbrev S32x16x4096 : Shape := ⟨3, ![32, 16, 4096]⟩
abbrev S32x1x16x4096 : Shape := ⟨4, ![32, 1, 16, 4096]⟩
abbrev S32x4x16x4096 : Shape := ⟨4, ![32, 4, 16, 4096]⟩
abbrev S64x16 : Shape := ⟨2, ![64, 16]⟩
abbrev S16x64 : Shape := ⟨2, ![16, 64]⟩
abbrev S64x64x16 : Shape := ⟨3, ![64, 64, 16]⟩
abbrev S16x64x64 : Shape := ⟨3, ![16, 64, 64]⟩
abbrev S64x512 : Shape := ⟨2, ![64, 512]⟩
abbrev S512 : Shape := ⟨1, ![512]⟩
abbrev S1x512 : Shape := ⟨2, ![1, 512]⟩
abbrev S1x64 : Shape := ⟨2, ![1, 64]⟩
abbrev S1x1 : Shape := ⟨2, ![1, 1]⟩
abbrev S32x2x2x2x2x64x64 : Shape := ⟨7, ![32, 2, 2, 2, 2, 64, 64]⟩
abbrev S32x1x1 : Shape := ⟨3, ![32, 1, 1]⟩
abbrev S1x4x16x4096 : Shape := ⟨4, ![1, 4, 16, 4096]⟩
abbrev S1x1x4096 : Shape := ⟨3, ![1, 1, 4096]⟩
abbrev S1x2x2x2x2x64x64 : Shape := ⟨7, ![1, 2, 2, 2, 2, 64, 64]⟩
abbrev S1x1x1 : Shape := ⟨3, ![1, 1, 1]⟩
abbrev S2x65x65x128 : Shape := ⟨4, ![2, 65, 65, 128]⟩
abbrev S66x66x64 : Shape := ⟨3, ![66, 66, 64]⟩
abbrev S2x66x72x128 : Shape := ⟨4, ![2, 66, 72, 128]⟩
abbrev S1x1x16x4096 : Shape := ⟨4, ![1, 1, 16, 4096]⟩
abbrev S16x4096 : Shape := ⟨2, ![16, 4096]⟩
abbrev S4096x64 : Shape := ⟨2, ![4096, 64]⟩
abbrev S64x64x64 : Shape := ⟨3, ![64, 64, 64]⟩
abbrev S1x65x64 : Shape := ⟨3, ![1, 65, 64]⟩
abbrev S1x1x65x64 : Shape := ⟨4, ![1, 1, 65, 64]⟩
abbrev S65x1x64 : Shape := ⟨3, ![65, 1, 64]⟩
abbrev S1x65x1x64 : Shape := ⟨4, ![1, 65, 1, 64]⟩
abbrev S1x64x64x64 : Shape := ⟨4, ![1, 64, 64, 64]⟩
abbrev S1x64x64 : Shape := ⟨3, ![1, 64, 64]⟩
abbrev S64x64 : Shape := ⟨2, ![64, 64]⟩
abbrev S1024x64 : Shape := ⟨2, ![1024, 64]⟩
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1x1024x64 : Shape := ⟨3, ![1, 1024, 64]⟩
abbrev S1x1024x1 : Shape := ⟨3, ![1, 1024, 1]⟩
abbrev S1x66x64 : Shape := ⟨3, ![1, 66, 64]⟩
abbrev S66x1x64 : Shape := ⟨3, ![66, 1, 64]⟩
abbrev S1x72x64 : Shape := ⟨3, ![1, 72, 64]⟩
abbrev S1x1x72x64 : Shape := ⟨4, ![1, 1, 72, 64]⟩
abbrev S1x66x1x64 : Shape := ⟨4, ![1, 66, 1, 64]⟩
abbrev S66x7x64 : Shape := ⟨3, ![66, 7, 64]⟩
abbrev S1x66x7x64 : Shape := ⟨4, ![1, 66, 7, 64]⟩
abbrev S1x66x72x64 : Shape := ⟨4, ![1, 66, 72, 64]⟩
abbrev S66x72x64 : Shape := ⟨3, ![66, 72, 64]⟩
abbrev S4752x64 : Shape := ⟨2, ![4752, 64]⟩
abbrev S4752x16 : Shape := ⟨2, ![4752, 16]⟩
abbrev S66x72x16 : Shape := ⟨3, ![66, 72, 16]⟩
abbrev S64x64x1 : Shape := ⟨3, ![64, 64, 1]⟩
abbrev S1x1x1x1x1x64x64 : Shape := ⟨7, ![1, 1, 1, 1, 1, 64, 64]⟩
abbrev S131072 : Shape := ⟨1, ![131072]⟩
abbrev S131072x1 : Shape := ⟨2, ![131072, 1]⟩
abbrev S32x64x2x2x64x2x2 : Shape := ⟨7, ![32, 64, 2, 2, 64, 2, 2]⟩

abbrev nBuf : Space → Nat
  | .hbm => 240
  | .vmem => 22
  | .smem => 0
  | _ => 0

abbrev hbmTy0_0 (i : Nat) : BufTy := match i % 128 with
  | 0 => ⟨S32x1x256x256, .f32⟩
  | 1 => ⟨S64x1x4x4, .f32⟩
  | 2 => ⟨S64, .f32⟩
  | 3 => ⟨S64x64x4x4, .f32⟩
  | 4 => ⟨S64, .f32⟩
  | 5 => ⟨S64x64x4x4, .f32⟩
  | 6 => ⟨S64, .f32⟩
  | 7 => ⟨S64x1x4x4, .f32⟩
  | 8 => ⟨S1, .f32⟩
  | 9 => ⟨S512x64, .f32⟩
  | 10 => ⟨S32x256x256, .f32⟩
  | 11 => ⟨S_, .i32⟩
  | 12 => ⟨S_, .f32⟩
  | 13 => ⟨S32x260x260, .f32⟩
  | 14 => ⟨S32x64x64, .f32⟩
  | 15 => ⟨S32x4096, .f32⟩
  | 16 => ⟨S32x64x64, .f32⟩
  | 17 => ⟨S32x4096, .f32⟩
  | 18 => ⟨S32x64x64, .f32⟩
  | 19 => ⟨S32x4096, .f32⟩
  | 20 => ⟨S32x64x64, .f32⟩
  | 21 => ⟨S32x4096, .f32⟩
  | 22 => ⟨S32x64x64, .f32⟩
  | 23 => ⟨S32x4096, .f32⟩
  | 24 => ⟨S32x64x64, .f32⟩
  | 25 => ⟨S32x4096, .f32⟩
  | 26 => ⟨S32x64x64, .f32⟩
  | 27 => ⟨S32x4096, .f32⟩
  | 28 => ⟨S32x64x64, .f32⟩
  | 29 => ⟨S32x4096, .f32⟩
  | 30 => ⟨S32x64x64, .f32⟩
  | 31 => ⟨S32x4096, .f32⟩
  | 32 => ⟨S32x64x64, .f32⟩
  | 33 => ⟨S32x4096, .f32⟩
  | 34 => ⟨S32x64x64, .f32⟩
  | 35 => ⟨S32x4096, .f32⟩
  | 36 => ⟨S32x64x64, .f32⟩
  | 37 => ⟨S32x4096, .f32⟩
  | 38 => ⟨S32x64x64, .f32⟩
  | 39 => ⟨S32x4096, .f32⟩
  | 40 => ⟨S32x64x64, .f32⟩
  | 41 => ⟨S32x4096, .f32⟩
  | 42 => ⟨S32x64x64, .f32⟩
  | 43 => ⟨S32x4096, .f32⟩
  | 44 => ⟨S32x64x64, .f32⟩
  | 45 => ⟨S32x4096, .f32⟩
  | 46 => ⟨S32x1x4096, .f32⟩
  | 47 => ⟨S32x1x4096, .f32⟩
  | 48 => ⟨S32x1x4096, .f32⟩
  | 49 => ⟨S32x1x4096, .f32⟩
  | 50 => ⟨S32x1x4096, .f32⟩
  | 51 => ⟨S32x1x4096, .f32⟩
  | 52 => ⟨S32x1x4096, .f32⟩
  | 53 => ⟨S32x1x4096, .f32⟩
  | 54 => ⟨S32x1x4096, .f32⟩
  | 55 => ⟨S32x1x4096, .f32⟩
  | 56 => ⟨S32x1x4096, .f32⟩
  | 57 => ⟨S32x1x4096, .f32⟩
  | 58 => ⟨S32x1x4096, .f32⟩
  | 59 => ⟨S32x1x4096, .f32⟩
  | 60 => ⟨S32x1x4096, .f32⟩
  | 61 => ⟨S32x1x4096, .f32⟩
  | 62 => ⟨S32x16x4096, .f32⟩
  | 63 => ⟨S32x64x64, .f32⟩
  | 64 => ⟨S32x4096, .f32⟩
  | 65 => ⟨S32x64x64, .f32⟩
  | 66 => ⟨S32x4096, .f32⟩
  | 67 => ⟨S32x64x64, .f32⟩
  | 68 => ⟨S32x4096, .f32⟩
  | 69 => ⟨S32x64x64, .f32⟩
  | 70 => ⟨S32x4096, .f32⟩
  | 71 => ⟨S32x64x64, .f32⟩
  | 72 => ⟨S32x4096, .f32⟩
  | 73 => ⟨S32x64x64, .f32⟩
  | 74 => ⟨S32x4096, .f32⟩
  | 75 => ⟨S32x64x64, .f32⟩
  | 76 => ⟨S32x4096, .f32⟩
  | 77 => ⟨S32x64x64, .f32⟩
  | 78 => ⟨S32x4096, .f32⟩
  | 79 => ⟨S32x64x64, .f32⟩
  | 80 => ⟨S32x4096, .f32⟩
  | 81 => ⟨S32x64x64, .f32⟩
  | 82 => ⟨S32x4096, .f32⟩
  | 83 => ⟨S32x64x64, .f32⟩
  | 84 => ⟨S32x4096, .f32⟩
  | 85 => ⟨S32x64x64, .f32⟩
  | 86 => ⟨S32x4096, .f32⟩
  | 87 => ⟨S32x64x64, .f32⟩
  | 88 => ⟨S32x4096, .f32⟩
  | 89 => ⟨S32x64x64, .f32⟩
  | 90 => ⟨S32x4096, .f32⟩
  | 91 => ⟨S32x64x64, .f32⟩
  | 92 => ⟨S32x4096, .f32⟩
  | 93 => ⟨S32x64x64, .f32⟩
  | 94 => ⟨S32x4096, .f32⟩
  | 95 => ⟨S32x1x4096, .f32⟩
  | 96 => ⟨S32x1x4096, .f32⟩
  | 97 => ⟨S32x1x4096, .f32⟩
  | 98 => ⟨S32x1x4096, .f32⟩
  | 99 => ⟨S32x1x4096, .f32⟩
  | 100 => ⟨S32x1x4096, .f32⟩
  | 101 => ⟨S32x1x4096, .f32⟩
  | 102 => ⟨S32x1x4096, .f32⟩
  | 103 => ⟨S32x1x4096, .f32⟩
  | 104 => ⟨S32x1x4096, .f32⟩
  | 105 => ⟨S32x1x4096, .f32⟩
  | 106 => ⟨S32x1x4096, .f32⟩
  | 107 => ⟨S32x1x4096, .f32⟩
  | 108 => ⟨S32x1x4096, .f32⟩
  | 109 => ⟨S32x1x4096, .f32⟩
  | 110 => ⟨S32x1x4096, .f32⟩
  | 111 => ⟨S32x16x4096, .f32⟩
  | 112 => ⟨S32x64x64, .f32⟩
  | 113 => ⟨S32x4096, .f32⟩
  | 114 => ⟨S32x64x64, .f32⟩
  | 115 => ⟨S32x4096, .f32⟩
  | 116 => ⟨S32x64x64, .f32⟩
  | 117 => ⟨S32x4096, .f32⟩
  | 118 => ⟨S32x64x64, .f32⟩
  | 119 => ⟨S32x4096, .f32⟩
  | 120 => ⟨S32x64x64, .f32⟩
  | 121 => ⟨S32x4096, .f32⟩
  | 122 => ⟨S32x64x64, .f32⟩
  | 123 => ⟨S32x4096, .f32⟩
  | 124 => ⟨S32x64x64, .f32⟩
  | 125 => ⟨S32x4096, .f32⟩
  | 126 => ⟨S32x64x64, .f32⟩
  | 127 => ⟨S32x4096, .f32⟩
  | _ => ⟨S32x1x256x256, .f32⟩

abbrev hbmTy0_1 (i : Nat) : BufTy := match i % 128 with
  | 0 => ⟨S32x64x64, .f32⟩
  | 1 => ⟨S32x4096, .f32⟩
  | 2 => ⟨S32x64x64, .f32⟩
  | 3 => ⟨S32x4096, .f32⟩
  | 4 => ⟨S32x64x64, .f32⟩
  | 5 => ⟨S32x4096, .f32⟩
  | 6 => ⟨S32x64x64, .f32⟩
  | 7 => ⟨S32x4096, .f32⟩
  | 8 => ⟨S32x64x64, .f32⟩
  | 9 => ⟨S32x4096, .f32⟩
  | 10 => ⟨S32x64x64, .f32⟩
  | 11 => ⟨S32x4096, .f32⟩
  | 12 => ⟨S32x64x64, .f32⟩
  | 13 => ⟨S32x4096, .f32⟩
  | 14 => ⟨S32x64x64, .f32⟩
  | 15 => ⟨S32x4096, .f32⟩
  | 16 => ⟨S32x1x4096, .f32⟩
  | 17 => ⟨S32x1x4096, .f32⟩
  | 18 => ⟨S32x1x4096, .f32⟩
  | 19 => ⟨S32x1x4096, .f32⟩
  | 20 => ⟨S32x1x4096, .f32⟩
  | 21 => ⟨S32x1x4096, .f32⟩
  | 22 => ⟨S32x1x4096, .f32⟩
  | 23 => ⟨S32x1x4096, .f32⟩
  | 24 => ⟨S32x1x4096, .f32⟩
  | 25 => ⟨S32x1x4096, .f32⟩
  | 26 => ⟨S32x1x4096, .f32⟩
  | 27 => ⟨S32x1x4096, .f32⟩
  | 28 => ⟨S32x1x4096, .f32⟩
  | 29 => ⟨S32x1x4096, .f32⟩
  | 30 => ⟨S32x1x4096, .f32⟩
  | 31 => ⟨S32x1x4096, .f32⟩
  | 32 => ⟨S32x16x4096, .f32⟩
  | 33 => ⟨S32x64x64, .f32⟩
  | 34 => ⟨S32x4096, .f32⟩
  | 35 => ⟨S32x64x64, .f32⟩
  | 36 => ⟨S32x4096, .f32⟩
  | 37 => ⟨S32x64x64, .f32⟩
  | 38 => ⟨S32x4096, .f32⟩
  | 39 => ⟨S32x64x64, .f32⟩
  | 40 => ⟨S32x4096, .f32⟩
  | 41 => ⟨S32x64x64, .f32⟩
  | 42 => ⟨S32x4096, .f32⟩
  | 43 => ⟨S32x64x64, .f32⟩
  | 44 => ⟨S32x4096, .f32⟩
  | 45 => ⟨S32x64x64, .f32⟩
  | 46 => ⟨S32x4096, .f32⟩
  | 47 => ⟨S32x64x64, .f32⟩
  | 48 => ⟨S32x4096, .f32⟩
  | 49 => ⟨S32x64x64, .f32⟩
  | 50 => ⟨S32x4096, .f32⟩
  | 51 => ⟨S32x64x64, .f32⟩
  | 52 => ⟨S32x4096, .f32⟩
  | 53 => ⟨S32x64x64, .f32⟩
  | 54 => ⟨S32x4096, .f32⟩
  | 55 => ⟨S32x64x64, .f32⟩
  | 56 => ⟨S32x4096, .f32⟩
  | 57 => ⟨S32x64x64, .f32⟩
  | 58 => ⟨S32x4096, .f32⟩
  | 59 => ⟨S32x64x64, .f32⟩
  | 60 => ⟨S32x4096, .f32⟩
  | 61 => ⟨S32x64x64, .f32⟩
  | 62 => ⟨S32x4096, .f32⟩
  | 63 => ⟨S32x64x64, .f32⟩
  | 64 => ⟨S32x4096, .f32⟩
  | 65 => ⟨S32x1x4096, .f32⟩
  | 66 => ⟨S32x1x4096, .f32⟩
  | 67 => ⟨S32x1x4096, .f32⟩
  | 68 => ⟨S32x1x4096, .f32⟩
  | 69 => ⟨S32x1x4096, .f32⟩
  | 70 => ⟨S32x1x4096, .f32⟩
  | 71 => ⟨S32x1x4096, .f32⟩
  | 72 => ⟨S32x1x4096, .f32⟩
  | 73 => ⟨S32x1x4096, .f32⟩
  | 74 => ⟨S32x1x4096, .f32⟩
  | 75 => ⟨S32x1x4096, .f32⟩
  | 76 => ⟨S32x1x4096, .f32⟩
  | 77 => ⟨S32x1x4096, .f32⟩
  | 78 => ⟨S32x1x4096, .f32⟩
  | 79 => ⟨S32x1x4096, .f32⟩
  | 80 => ⟨S32x1x4096, .f32⟩
  | 81 => ⟨S32x16x4096, .f32⟩
  | 82 => ⟨S32x1x16x4096, .f32⟩
  | 83 => ⟨S32x1x16x4096, .f32⟩
  | 84 => ⟨S32x1x16x4096, .f32⟩
  | 85 => ⟨S32x1x16x4096, .f32⟩
  | 86 => ⟨S32x4x16x4096, .f32⟩
  | 87 => ⟨S64x16, .f32⟩
  | 88 => ⟨S16x64, .f32⟩
  | 89 => ⟨S64x64x16, .f32⟩
  | 90 => ⟨S16x64x64, .f32⟩
  | 91 => ⟨S64x64x16, .f32⟩
  | 92 => ⟨S16x64x64, .f32⟩
  | 93 => ⟨S64x16, .f32⟩
  | 94 => ⟨S64x512, .f32⟩
  | 95 => ⟨S512x64, .f32⟩
  | 96 => ⟨S_, .f32⟩
  | 97 => ⟨S512, .f32⟩
  | 98 => ⟨S1x512, .f32⟩
  | 99 => ⟨S1x64, .f32⟩
  | 100 => ⟨S1x64, .f32⟩
  | 101 => ⟨S1x64, .f32⟩
  | 102 => ⟨S1x1, .f32⟩
  | 103 => ⟨S32x1x4096, .i32⟩
  | 104 => ⟨S32x2x2x2x2x64x64, .f32⟩
  | 105 => ⟨S32x1x1, .f32⟩
  | 106 => ⟨S131072, .i32⟩
  | 107 => ⟨S131072x1, .i32⟩
  | 108 => ⟨S32x64x2x2x64x2x2, .f32⟩
  | 109 => ⟨S32x1x256x256, .f32⟩
  | 110 => ⟨S_, .f32⟩
  | 111 => ⟨S_, .f32⟩
  | _ => ⟨S32x1x256x256, .f32⟩

abbrev hbmTy (i : Nat) : BufTy := match i / 128 with
  | 0 => hbmTy0_0 i
  | 1 => hbmTy0_1 i
  | _ => ⟨S32x1x256x256, .f32⟩

abbrev bufTy : (tb : Table) → Fin (tcTables nBuf tb) → BufTy
  | .hbm, ⟨i, _⟩ => hbmTy i
  | .local _ .vmem, ⟨0, _⟩ => ⟨S1x4x16x4096, .f32⟩
  | .local _ .vmem, ⟨1, _⟩ => ⟨S1x4x16x4096, .f32⟩
  | .local _ .vmem, ⟨2, _⟩ => ⟨S16x64, .f32⟩
  | .local _ .vmem, ⟨3, _⟩ => ⟨S1x64, .f32⟩
  | .local _ .vmem, ⟨4, _⟩ => ⟨S16x64x64, .f32⟩
  | .local _ .vmem, ⟨5, _⟩ => ⟨S1x64, .f32⟩
  | .local _ .vmem, ⟨6, _⟩ => ⟨S64x512, .f32⟩
  | .local _ .vmem, ⟨7, _⟩ => ⟨S1x512, .f32⟩
  | .local _ .vmem, ⟨8, _⟩ => ⟨S512x64, .f32⟩
  | .local _ .vmem, ⟨9, _⟩ => ⟨S16x64x64, .f32⟩
  | .local _ .vmem, ⟨10, _⟩ => ⟨S1x64, .f32⟩
  | .local _ .vmem, ⟨11, _⟩ => ⟨S64x16, .f32⟩
  | .local _ .vmem, ⟨12, _⟩ => ⟨S1x1, .f32⟩
  | .local _ .vmem, ⟨13, _⟩ => ⟨S1x1x4096, .i32⟩
  | .local _ .vmem, ⟨14, _⟩ => ⟨S1x1x4096, .i32⟩
  | .local _ .vmem, ⟨15, _⟩ => ⟨S1x2x2x2x2x64x64, .f32⟩
  | .local _ .vmem, ⟨16, _⟩ => ⟨S1x2x2x2x2x64x64, .f32⟩
  | .local _ .vmem, ⟨17, _⟩ => ⟨S1x1x1, .f32⟩
  | .local _ .vmem, ⟨18, _⟩ => ⟨S1x1x1, .f32⟩
  | .local _ .vmem, ⟨19, _⟩ => ⟨S2x65x65x128, .f32⟩
  | .local _ .vmem, ⟨20, _⟩ => ⟨S66x66x64, .f32⟩
  | .local _ .vmem, ⟨21, _⟩ => ⟨S2x66x72x128, .f32⟩
  | _, _ => ⟨S32x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_cst : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218_0 : Ref sig .tc := ⟨.hbm, 231, rfl⟩
abbrev main_v218_1 : Ref sig .tc := ⟨.hbm, 232, rfl⟩
abbrev main_v218_2 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_cst_0 : Ref sig .tc := ⟨.hbm, 238, rfl⟩
abbrev main_v223 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32.toNat, c0_i32_0.toNat, c0_i32_1.toNat, c0_i32_2.toNat, c0_i32_3.toNat, c0_i32_4.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x4096 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x2x2x2x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S32x1x256x256 : Shape := ⟨4, ![32, 1, 256, 256]⟩
abbrev S64x1x4x4 : Shape := ⟨4, ![64, 1, 4, 4]⟩
abbrev S64 : Shape := ⟨1, ![64]⟩
abbrev S64x64x4x4 : Shape := ⟨4, ![64, 64, 4, 4]⟩
abbrev S1 : Shape := ⟨1, ![1]⟩
abbrev S512x64 : Shape := ⟨2, ![512, 64]⟩
abbrev S_ : Shape := ⟨0, ![]⟩
abbrev S32x1x258x258 : Shape := ⟨4, ![32, 1, 258, 258]⟩
abbrev S32x1x128x258 : Shape := ⟨4, ![32, 1, 128, 258]⟩
abbrev S32x1x1x128x258 : Shape := ⟨5, ![32, 1, 1, 128, 258]⟩
abbrev S32x1x4x128x258 : Shape := ⟨5, ![32, 1, 4, 128, 258]⟩
abbrev S32x1x4x128x128 : Shape := ⟨5, ![32, 1, 4, 128, 128]⟩
abbrev S32x1x4x1x128x128 : Shape := ⟨6, ![32, 1, 4, 1, 128, 128]⟩
abbrev S32x1x4x4x128x128 : Shape := ⟨6, ![32, 1, 4, 4, 128, 128]⟩
abbrev S64x32x128x128 : Shape := ⟨4, ![64, 32, 128, 128]⟩
abbrev S32x64x128x128 : Shape := ⟨4, ![32, 64, 128, 128]⟩
abbrev S1x64x1x1 : Shape := ⟨4, ![1, 64, 1, 1]⟩
abbrev S32x64x130x130 : Shape := ⟨4, ![32, 64, 130, 130]⟩
abbrev S32x64x64x130 : Shape := ⟨4, ![32, 64, 64, 130]⟩
abbrev S32x64x1x64x130 : Shape := ⟨5, ![32, 64, 1, 64, 130]⟩
abbrev S32x64x4x64x130 : Shape := ⟨5, ![32, 64, 4, 64, 130]⟩
abbrev S32x64x4x64x64 : Shape := ⟨5, ![32, 64, 4, 64, 64]⟩
abbrev S32x64x4x1x64x64 : Shape := ⟨6, ![32, 64, 4, 1, 64, 64]⟩
abbrev S32x64x4x4x64x64 : Shape := ⟨6, ![32, 64, 4, 4, 64, 64]⟩
abbrev S64x32x64x64 : Shape := ⟨4, ![64, 32, 64, 64]⟩
abbrev S32x64x64x64 : Shape := ⟨4, ![32, 64, 64, 64]⟩
abbrev S131072x64 : Shape := ⟨2, ![131072, 64]⟩
abbrev S131072 : Shape := ⟨1, ![131072]⟩
abbrev S131072x1 : Shape := ⟨2, ![131072, 1]⟩
abbrev S64x512 : Shape := ⟨2, ![64, 512]⟩
abbrev S131072x512 : Shape := ⟨2, ![131072, 512]⟩
abbrev S512 : Shape := ⟨1, ![512]⟩
abbrev S1x512 : Shape := ⟨2, ![1, 512]⟩
abbrev S32x64x131x131 : Shape := ⟨4, ![32, 64, 131, 131]⟩
abbrev S32x64x128x131 : Shape := ⟨4, ![32, 64, 128, 131]⟩
abbrev S32x64x1x128x131 : Shape := ⟨5, ![32, 64, 1, 128, 131]⟩
abbrev S32x64x4x128x131 : Shape := ⟨5, ![32, 64, 4, 128, 131]⟩
abbrev S32x64x4x128x128 : Shape := ⟨5, ![32, 64, 4, 128, 128]⟩
abbrev S32x64x4x1x128x128 : Shape := ⟨6, ![32, 64, 4, 1, 128, 128]⟩
abbrev S32x64x4x4x128x128 : Shape := ⟨6, ![32, 64, 4, 4, 128, 128]⟩
abbrev S32x64x259x259 : Shape := ⟨4, ![32, 64, 259, 259]⟩
abbrev S32x64x256x259 : Shape := ⟨4, ![32, 64, 256, 259]⟩
abbrev S32x64x1x256x259 : Shape := ⟨5, ![32, 64, 1, 256, 259]⟩
abbrev S32x64x4x256x259 : Shape := ⟨5, ![32, 64, 4, 256, 259]⟩
abbrev S32x64x4x256x256 : Shape := ⟨5, ![32, 64, 4, 256, 256]⟩
abbrev S32x64x4x1x256x256 : Shape := ⟨6, ![32, 64, 4, 1, 256, 256]⟩
abbrev S32x64x4x4x256x256 : Shape := ⟨6, ![32, 64, 4, 4, 256, 256]⟩
abbrev S1x32x256x256 : Shape := ⟨4, ![1, 32, 256, 256]⟩
abbrev S1x1x1x1 : Shape := ⟨4, ![1, 1, 1, 1]⟩

abbrev nBuf : Space → Nat
  | .hbm => 187
  | .vmem => 0
  | .smem => 0
  | _ => 0

abbrev hbmTy0_0 (i : Nat) : BufTy := match i % 128 with
  | 0 => ⟨S32x1x256x256, .f32⟩
  | 1 => ⟨S64x1x4x4, .f32⟩
  | 2 => ⟨S64, .f32⟩
  | 3 => ⟨S64x64x4x4, .f32⟩
  | 4 => ⟨S64, .f32⟩
  | 5 => ⟨S64x64x4x4, .f32⟩
  | 6 => ⟨S64, .f32⟩
  | 7 => ⟨S64x1x4x4, .f32⟩
  | 8 => ⟨S1, .f32⟩
  | 9 => ⟨S512x64, .f32⟩
  | 10 => ⟨S_, .i32⟩
  | 11 => ⟨S_, .f32⟩
  | 12 => ⟨S32x1x258x258, .f32⟩
  | 13 => ⟨S32x1x128x258, .f32⟩
  | 14 => ⟨S32x1x128x258, .f32⟩
  | 15 => ⟨S32x1x128x258, .f32⟩
  | 16 => ⟨S32x1x128x258, .f32⟩
  | 17 => ⟨S32x1x1x128x258, .f32⟩
  | 18 => ⟨S32x1x1x128x258, .f32⟩
  | 19 => ⟨S32x1x1x128x258, .f32⟩
  | 20 => ⟨S32x1x1x128x258, .f32⟩
  | 21 => ⟨S32x1x4x128x258, .f32⟩
  | 22 => ⟨S32x1x4x128x128, .f32⟩
  | 23 => ⟨S32x1x4x128x128, .f32⟩
  | 24 => ⟨S32x1x4x128x128, .f32⟩
  | 25 => ⟨S32x1x4x128x128, .f32⟩
  | 26 => ⟨S32x1x4x1x128x128, .f32⟩
  | 27 => ⟨S32x1x4x1x128x128, .f32⟩
  | 28 => ⟨S32x1x4x1x128x128, .f32⟩
  | 29 => ⟨S32x1x4x1x128x128, .f32⟩
  | 30 => ⟨S32x1x4x4x128x128, .f32⟩
  | 31 => ⟨S64x32x128x128, .f32⟩
  | 32 => ⟨S32x64x128x128, .f32⟩
  | 33 => ⟨S1x64x1x1, .f32⟩
  | 34 => ⟨S32x64x128x128, .f32⟩
  | 35 => ⟨S32x64x128x128, .f32⟩
  | 36 => ⟨S_, .f32⟩
  | 37 => ⟨S32x64x128x128, .f32⟩
  | 38 => ⟨S32x64x128x128, .f32⟩
  | 39 => ⟨S_, .i32⟩
  | 40 => ⟨S_, .f32⟩
  | 41 => ⟨S32x64x130x130, .f32⟩
  | 42 => ⟨S32x64x64x130, .f32⟩
  | 43 => ⟨S32x64x64x130, .f32⟩
  | 44 => ⟨S32x64x64x130, .f32⟩
  | 45 => ⟨S32x64x64x130, .f32⟩
  | 46 => ⟨S32x64x1x64x130, .f32⟩
  | 47 => ⟨S32x64x1x64x130, .f32⟩
  | 48 => ⟨S32x64x1x64x130, .f32⟩
  | 49 => ⟨S32x64x1x64x130, .f32⟩
  | 50 => ⟨S32x64x4x64x130, .f32⟩
  | 51 => ⟨S32x64x4x64x64, .f32⟩
  | 52 => ⟨S32x64x4x64x64, .f32⟩
  | 53 => ⟨S32x64x4x64x64, .f32⟩
  | 54 => ⟨S32x64x4x64x64, .f32⟩
  | 55 => ⟨S32x64x4x1x64x64, .f32⟩
  | 56 => ⟨S32x64x4x1x64x64, .f32⟩
  | 57 => ⟨S32x64x4x1x64x64, .f32⟩
  | 58 => ⟨S32x64x4x1x64x64, .f32⟩
  | 59 => ⟨S32x64x4x4x64x64, .f32⟩
  | 60 => ⟨S64x32x64x64, .f32⟩
  | 61 => ⟨S32x64x64x64, .f32⟩
  | 62 => ⟨S1x64x1x1, .f32⟩
  | 63 => ⟨S32x64x64x64, .f32⟩
  | 64 => ⟨S32x64x64x64, .f32⟩
  | 65 => ⟨S_, .f32⟩
  | 66 => ⟨S32x64x64x64, .f32⟩
  | 67 => ⟨S32x64x64x64, .f32⟩
  | 68 => ⟨S32x64x64x64, .f32⟩
  | 69 => ⟨S131072x64, .f32⟩
  | 70 => ⟨S131072x64, .f32⟩
  | 71 => ⟨S_, .f32⟩
  | 72 => ⟨S131072, .f32⟩
  | 73 => ⟨S131072x1, .f32⟩
  | 74 => ⟨S64x512, .f32⟩
  | 75 => ⟨S131072x512, .f32⟩
  | 76 => ⟨S_, .f32⟩
  | 77 => ⟨S131072x512, .f32⟩
  | 78 => ⟨S131072x512, .f32⟩
  | 79 => ⟨S131072x512, .f32⟩
  | 80 => ⟨S131072x512, .f32⟩
  | 81 => ⟨S512x64, .f32⟩
  | 82 => ⟨S_, .f32⟩
  | 83 => ⟨S512, .f32⟩
  | 84 => ⟨S1x512, .f32⟩
  | 85 => ⟨S131072x512, .f32⟩
  | 86 => ⟨S131072x512, .f32⟩
  | 87 => ⟨S_, .f32⟩
  | 88 => ⟨S131072x512, .f32⟩
  | 89 => ⟨S131072x512, .f32⟩
  | 90 => ⟨S131072x512, .i32⟩
  | 91 => ⟨S_, .f32⟩
  | 92 => ⟨S_, .i32⟩
  | 93 => ⟨S131072, .f32⟩
  | 94 => ⟨S131072, .i32⟩
  | 95 => ⟨S_, .i32⟩
  | 96 => ⟨S131072, .i32⟩
  | 97 => ⟨S131072, .i1⟩
  | 98 => ⟨S_, .i32⟩
  | 99 => ⟨S131072, .i32⟩
  | 100 => ⟨S131072, .i32⟩
  | 101 => ⟨S131072, .i32⟩
  | 102 => ⟨S131072x1, .i32⟩
  | 103 => ⟨S131072x64, .f32⟩
  | 104 => ⟨S32x64x64x64, .f32⟩
  | 105 => ⟨S32x64x64x64, .f32⟩
  | 106 => ⟨S32x64x64x64, .f32⟩
  | 107 => ⟨S_, .f32⟩
  | 108 => ⟨S_, .f32⟩
  | 109 => ⟨S_, .f32⟩
  | 110 => ⟨S_, .f32⟩
  | 111 => ⟨S32x64x64x64, .f32⟩
  | 112 => ⟨S32x64x64x64, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S32x64x64x64, .f32⟩
  | 121 => ⟨S32x64x64x64, .f32⟩
  | 122 => ⟨S32x64x64x64, .f32⟩
  | 123 => ⟨S_, .f32⟩
  | 124 => ⟨S32x64x131x131, .f32⟩
  | 125 => ⟨S32x64x128x131, .f32⟩
  | 126 => ⟨S32x64x128x131, .f32⟩
  | 127 => ⟨S32x64x128x131, .f32⟩
  | _ => ⟨S32x1x256x256, .f32⟩

abbrev hbmTy0_1 (i : Nat) : BufTy := match i % 128 with
  | 0 => ⟨S32x64x128x131, .f32⟩
  | 1 => ⟨S32x64x1x128x131, .f32⟩
  | 2 => ⟨S32x64x1x128x131, .f32⟩
  | 3 => ⟨S32x64x1x128x131, .f32⟩
  | 4 => ⟨S32x64x1x128x131, .f32⟩
  | 5 => ⟨S32x64x4x128x131, .f32⟩
  | 6 => ⟨S32x64x4x128x128, .f32⟩
  | 7 => ⟨S32x64x4x128x128, .f32⟩
  | 8 => ⟨S32x64x4x128x128, .f32⟩
  | 9 => ⟨S32x64x4x128x128, .f32⟩
  | 10 => ⟨S32x64x4x1x128x128, .f32⟩
  | 11 => ⟨S32x64x4x1x128x128, .f32⟩
  | 12 => ⟨S32x64x4x1x128x128, .f32⟩
  | 13 => ⟨S32x64x4x1x128x128, .f32⟩
  | 14 => ⟨S32x64x4x4x128x128, .f32⟩
  | 15 => ⟨S64x64x4x4, .f32⟩
  | 16 => ⟨S64x32x128x128, .f32⟩
  | 17 => ⟨S32x64x128x128, .f32⟩
  | 18 => ⟨S1x64x1x1, .f32⟩
  | 19 => ⟨S32x64x128x128, .f32⟩
  | 20 => ⟨S32x64x128x128, .f32⟩
  | 21 => ⟨S_, .f32⟩
  | 22 => ⟨S32x64x128x128, .f32⟩
  | 23 => ⟨S32x64x128x128, .f32⟩
  | 24 => ⟨S_, .f32⟩
  | 25 => ⟨S32x64x259x259, .f32⟩
  | 26 => ⟨S32x64x256x259, .f32⟩
  | 27 => ⟨S32x64x256x259, .f32⟩
  | 28 => ⟨S32x64x256x259, .f32⟩
  | 29 => ⟨S32x64x256x259, .f32⟩
  | 30 => ⟨S32x64x1x256x259, .f32⟩
  | 31 => ⟨S32x64x1x256x259, .f32⟩
  | 32 => ⟨S32x64x1x256x259, .f32⟩
  | 33 => ⟨S32x64x1x256x259, .f32⟩
  | 34 => ⟨S32x64x4x256x259, .f32⟩
  | 35 => ⟨S32x64x4x256x256, .f32⟩
  | 36 => ⟨S32x64x4x256x256, .f32⟩
  | 37 => ⟨S32x64x4x256x256, .f32⟩
  | 38 => ⟨S32x64x4x256x256, .f32⟩
  | 39 => ⟨S32x64x4x1x256x256, .f32⟩
  | 40 => ⟨S32x64x4x1x256x256, .f32⟩
  | 41 => ⟨S32x64x4x1x256x256, .f32⟩
  | 42 => ⟨S32x64x4x1x256x256, .f32⟩
  | 43 => ⟨S32x64x4x4x256x256, .f32⟩
  | 44 => ⟨S64x1x4x4, .f32⟩
  | 45 => ⟨S1x32x256x256, .f32⟩
  | 46 => ⟨S32x1x256x256, .f32⟩
  | 47 => ⟨S1x1x1x1, .f32⟩
  | 48 => ⟨S32x1x256x256, .f32⟩
  | 49 => ⟨S32x1x256x256, .f32⟩
  | 50 => ⟨S32x1x256x256, .f32⟩
  | 51 => ⟨S32x1x256x256, .f32⟩
  | 52 => ⟨S_, .f32⟩
  | 53 => ⟨S32x1x256x256, .f32⟩
  | 54 => ⟨S32x1x256x256, .f32⟩
  | 55 => ⟨S_, .f32⟩
  | 56 => ⟨S32x1x256x256, .f32⟩
  | 57 => ⟨S32x1x256x256, .f32⟩
  | 58 => ⟨S131072x1, .i32⟩
  | _ => ⟨S32x1x256x256, .f32⟩

abbrev hbmTy (i : Nat) : BufTy := match i / 128 with
  | 0 => hbmTy0_0 i
  | 1 => hbmTy0_1 i
  | _ => ⟨S32x1x256x256, .f32⟩

abbrev bufTy : (tb : Table) → Fin (tcTables nBuf tb) → BufTy
  | .hbm, ⟨i, _⟩ => hbmTy i
  | _, _ => ⟨S32x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_cst : Ref sig .tc := ⟨.hbm, 36, rfl⟩
abbrev main_call1_v0 : Ref sig .tc := ⟨.hbm, 37, rfl⟩
abbrev main_v24 : Ref sig .tc := ⟨.hbm, 38, rfl⟩
abbrev main_c_0 : Ref sig .tc := ⟨.hbm, 39, rfl⟩
abbrev main_call2_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call3_cst : Ref sig .tc := ⟨.hbm, 65, rfl⟩
abbrev main_call3_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_1 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_2 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_3 : Ref sig .tc := ⟨.hbm, 87, rfl⟩
abbrev main_v66 : Ref sig .tc := ⟨.hbm, 88, rfl⟩
abbrev main_v67 : Ref sig .tc := ⟨.hbm, 89, rfl⟩
abbrev main_call4_v0 : Ref sig .tc := ⟨.hbm, 90, rfl⟩
abbrev main_call4_cst : Ref sig .tc := ⟨.hbm, 91, rfl⟩
abbrev main_call4_c : Ref sig .tc := ⟨.hbm, 92, rfl⟩
abbrev main_call4_v1_0 : Ref sig .tc := ⟨.hbm, 93, rfl⟩
abbrev main_v68 : Ref sig .tc := ⟨.hbm, 94, rfl⟩
abbrev main_c_4 : Ref sig .tc := ⟨.hbm, 95, rfl⟩
abbrev main_v69 : Ref sig .tc := ⟨.hbm, 96, rfl⟩
abbrev main_v70 : Ref sig .tc := ⟨.hbm, 97, rfl⟩
abbrev main_c_5 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_6 : Ref sig .tc := ⟨.hbm, 107, rfl⟩
abbrev main_v79 : Ref sig .tc := ⟨.hbm, 108, rfl⟩
abbrev main_cst_7 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_8 : Ref sig .tc := ⟨.hbm, 113, rfl⟩
abbrev main_v83 : Ref sig .tc := ⟨.hbm, 114, rfl⟩
abbrev main_cst_9 : Ref sig .tc := ⟨.hbm, 115, rfl⟩
abbrev main_v84 : Ref sig .tc := ⟨.hbm, 116, rfl⟩
abbrev main_cst_10 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_11 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_call6_cst : Ref sig .tc := ⟨.hbm, 149, rfl⟩
abbrev main_call6_v0 : Ref sig .tc := ⟨.hbm, 150, rfl⟩
abbrev main_v115 : Ref sig .tc := ⟨.hbm, 151, rfl⟩
abbrev main_cst_12 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_13 : Ref sig .tc := ⟨.hbm, 180, rfl⟩
abbrev main_v143 : Ref sig .tc := ⟨.hbm, 181, rfl⟩
abbrev main_v144 : Ref sig .tc := ⟨.hbm, 182, rfl⟩
abbrev main_cst_14 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩

abbrev nD : Nat := 1
abbrev τ : Topo := Topo.v7x

variable {F : FTy → Type} [FloatOps F]
-- ==== Proof.Spec.lean ====
/-
  The network's arithmetic over the extended reals, with every tensor read as a function of natural numbers
  that is zero outside its shape. The kernel's blocks and the reference's arrays are both described with these
  functions, and the equations between the two descriptions are proved from them.
-/
module

public import Idealize.ShloMosaic.Lib.Pointwise
public import Idealize.ShloMosaic.Lib.SortNet.Extract

@[expose] public section

noncomputable section

open Idealize.ShloMosaic

namespace Cert.Spec

/-- A tensor of rank two read at two natural numbers, zero outside its shape. -/
def rd2 {a b : ℕ} (x : (⟨2, ![a, b]⟩ : Shape).Idx → EReal) (i j : ℕ) : EReal :=
  if h : i < a ∧ j < b then x (ix2 ⟨i, h.1⟩ ⟨j, h.2⟩) else 0

/-- A tensor of rank three read at three natural numbers, zero outside its shape. -/
def rd3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- A tensor of rank four read at four natural numbers, zero outside its shape. -/
def rd4 {a b c d : ℕ} (x : (⟨4, ![a, b, c, d]⟩ : Shape).Idx → EReal) (i j k l : ℕ) : EReal :=
  if h : i < a ∧ j < b ∧ k < c ∧ l < d then
    x (ix4 ⟨i, h.1⟩ ⟨j, h.2.1⟩ ⟨k, h.2.2.1⟩ ⟨l, h.2.2.2⟩) else 0

/-- Inside its shape a rank-two tensor is its natural-number reading. -/
theorem rd2_ix {a b : ℕ} (x : (⟨2, ![a, b]⟩ : Shape).Idx → EReal) (i : Fin a) (j : Fin b) :
    x (ix2 i j) = rd2 x i j := by
  simp [rd2]

/-- Inside its shape a rank-three tensor is its natural-number reading. -/
theorem rd3_ix {a b c : ℕ} (x : (⟨3, ![a, b, c]⟩ : Shape).Idx → EReal) (i : Fin a) (j : Fin b) (k : Fin c) :
    x (ix3 i j k) = rd3 x i j k := by
  simp [rd3]

/-- Inside its shape a rank-four tensor is its natural-number reading. -/
theorem rd4_ix {a b c d : ℕ} (x : (⟨4, ![a, b, c, d]⟩ : Shape).Idx → EReal) (i : Fin a) (j : Fin b) (k : Fin c)
    (l : Fin d) : x (ix4 i j k l) = rd4 x i j k l := by
  simp [rd4]

/-- Image `f` of side `n` with a border of zeros: rows and columns `1 … n` hold it. -/
def pdn (n : ℕ) (f : ℕ → ℕ → EReal) (r c : ℕ) : EReal :=
  if 1 ≤ r ∧ r ≤ n ∧ 1 ≤ c ∧ c ≤ n then f (r - 1) (c - 1) else 0

/-- Inside its border a bordered image is the image. -/
theorem pdn_in (n : ℕ) (f : ℕ → ℕ → EReal) (r c i j : ℕ) (h : r = i + 1 ∧ c = j + 1 ∧ i < n ∧ j < n) :
    pdn n f r c = f i j := by
  obtain ⟨rfl, rfl, hi, hj⟩ := h
  rw [pdn, if_pos (by omega), Nat.add_sub_cancel, Nat.add_sub_cancel]

/-- On its border, and beyond, a bordered image is zero. -/
theorem pdn_out (n : ℕ) (f : ℕ → ℕ → EReal) (r c : ℕ) (h : r = 0 ∨ c = 0 ∨ n < r ∨ n < c) : pdn n f r c = 0 :=
  if_neg (by omega)

/-- A stride-two transposed convolution with a four by four window at output place `(i, j)`: the tap `(kh, kw)` reaches
    bordered input place `(r, s)` where `2 r = i + 3 - kh` and `2 s = j + 3 - kw`, and adds `T kh kw r s`. -/
def dect (T : ℕ → ℕ → ℕ → ℕ → EReal) (i j : ℕ) : EReal :=
  ∑ kh : Fin 4, ∑ kw : Fin 4,
    if (i + (3 - kh)) % 2 = 0 ∧ (j + (3 - kw)) % 2 = 0 then T kh kw ((i + (3 - kh)) / 2) ((j + (3 - kw)) / 2) else 0

/-- The four taps that reach an output place of even row and even column. -/
theorem dect_00 (T : ℕ → ℕ → ℕ → ℕ → EReal) (u v : ℕ) :
    dect T (2 * u) (2 * v) = T 1 1 (u + 1) (v + 1) + T 1 3 (u + 1) v + T 3 1 u (v + 1) + T 3 3 u v := by
  have e0 : ∀ n, (2 * n + 3) % 2 = 1 := fun n => by omega
  have e1 : ∀ n, (2 * n + 2) % 2 = 0 := fun n => by omega
  have e2 : ∀ n, (2 * n + 1) % 2 = 1 := fun n => by omega
  have d1 : ∀ n, (2 * n + 2) / 2 = n + 1 := fun n => by omega
  simp [dect, Fin.sum_univ_four, e0, e1, e2, d1, add_assoc]

/-- The four taps that reach an output place of even row and odd column. -/
theorem dect_01 (T : ℕ → ℕ → ℕ → ℕ → EReal) (u v : ℕ) :
    dect T (2 * u) (2 * v + 1) = T 1 0 (u + 1) (v + 2) + T 1 2 (u + 1) (v + 1) + T 3 0 u (v + 2) + T 3 2 u (v + 1) := by
  have e0 : ∀ n, (2 * n + 3) % 2 = 1 := fun n => by omega
  have e1 : ∀ n, (2 * n + 2) % 2 = 0 := fun n => by omega
  have e2 : ∀ n, (2 * n + 1) % 2 = 1 := fun n => by omega
  have e3 : ∀ n, (2 * n + 4) % 2 = 0 := fun n => by omega
  have d1 : ∀ n, (2 * n + 2) / 2 = n + 1 := fun n => by omega
  have d2 : ∀ n, (2 * n + 4) / 2 = n + 2 := fun n => by omega
  simp [dect, Fin.sum_univ_four, add_assoc, e0, e1, e2, e3, d1, d2]

/-- The four taps that reach an output place of odd row and even column. -/
theorem dect_10 (T : ℕ → ℕ → ℕ → ℕ → EReal) (u v : ℕ) :
    dect T (2 * u + 1) (2 * v) = T 0 1 (u + 2) (v + 1) + T 0 3 (u + 2) v + T 2 1 (u + 1) (v + 1) + T 2 3 (u + 1) v := by
  have e0 : ∀ n, (2 * n + 3) % 2 = 1 := fun n => by omega
  have e1 : ∀ n, (2 * n + 2) % 2 = 0 := fun n => by omega
  have e2 : ∀ n, (2 * n + 1) % 2 = 1 := fun n => by omega
  have e3 : ∀ n, (2 * n + 4) % 2 = 0 := fun n => by omega
  have d1 : ∀ n, (2 * n + 2) / 2 = n + 1 := fun n => by omega
  have d2 : ∀ n, (2 * n + 4) / 2 = n + 2 := fun n => by omega
  simp [dect, Fin.sum_univ_four, add_assoc, e0, e1, e2, e3, d1, d2]

/-- The four taps that reach an output place of odd row and odd column. -/
theorem dect_11 (T : ℕ → ℕ → ℕ → ℕ → EReal) (u v : ℕ) :
    dect T (2 * u + 1) (2 * v + 1) =
      T 0 0 (u + 2) (v + 2) + T 0 2 (u + 2) (v + 1) + T 2 0 (u + 1) (v + 2) + T 2 2 (u + 1) (v + 1) := by
  have e0 : ∀ n, (2 * n + 3) % 2 = 1 := fun n => by omega
  have e1 : ∀ n, (2 * n + 2) % 2 = 0 := fun n => by omega
  have e2 : ∀ n, (2 * n + 1) % 2 = 1 := fun n => by omega
  have e3 : ∀ n, (2 * n + 4) % 2 = 0 := fun n => by omega
  have d1 : ∀ n, (2 * n + 2) / 2 = n + 1 := fun n => by omega
  have d2 : ∀ n, (2 * n + 4) / 2 = n + 2 := fun n => by omega
  simp [dect, Fin.sum_univ_four, add_assoc, e0, e1, e2, e3, d1, d2]

/-! ## The nearest code -/

/-- `k` is the first place at which `f` takes its least value. -/
def IsFirst {n : ℕ} (f : Fin n → EReal) (k : Fin n) : Prop := (∀ j, f k ≤ f j) ∧ ∀ j, j < k → f k < f j

/-- A row has at most one first place of its least value. -/
theorem IsFirst.unique {n : ℕ} {f : Fin n → EReal} {k l : Fin n} (hk : IsFirst f k) (hl : IsFirst f l) : k = l := by
  rcases lt_trichotomy k l with h | h | h
  · exact absurd (hl.2 k h) (not_lt.mpr (hk.1 l))
  · exact h
  · exact absurd (hk.2 l h) (not_lt.mpr (hl.1 k))

/-- A row of 512 values has a first place of its least value. -/
theorem exists_isFirst (f : Fin 512 → EReal) : ∃ k, IsFirst f k := by
  obtain ⟨m, hm⟩ := Finite.exists_min f
  have hne : (Finset.univ.filter fun k => ∀ j, f k ≤ f j).Nonempty := ⟨m, by simpa using hm⟩
  have hmem := Finset.min'_mem _ hne
  refine ⟨(Finset.univ.filter fun k => ∀ j, f k ≤ f j).min' hne, by simpa using hmem, fun j hj => ?_⟩
  by_contra hcon
  have hj' : ∀ i, f j ≤ f i := fun i => (not_lt.mp hcon).trans ((Finset.mem_filter.mp hmem).2 i)
  exact absurd (Finset.min'_le _ j (Finset.mem_filter.mpr ⟨Finset.mem_univ _, hj'⟩)) (not_le.mpr hj)

/-- The first place of the least value of a row. -/
def amin (f : Fin 512 → EReal) : Fin 512 := (exists_isFirst f).choose

/-- `amin` is a first place of the least value. -/
theorem amin_isFirst (f : Fin 512 → EReal) : IsFirst f (amin f) := (exists_isFirst f).choose_spec

/-- Any first place of the least value is `amin`. -/
theorem eq_amin {f : Fin 512 → EReal} {k : Fin 512} (h : IsFirst f k) : k = amin f := h.unique (amin_isFirst f)

/-- The minimum of a row, folded from plus infinity, is its value at `amin`. -/
theorem fold_min_eq (f : Fin 512 → EReal) : Finset.univ.fold min ⊤ f = f (amin f) := by
  apply le_antisymm
  · exact (Finset.fold_min_le _).mpr (.inr ⟨_, Finset.mem_univ _, le_rfl⟩)
  · exact (Finset.le_fold_min _).mpr ⟨le_top, fun x _ => (amin_isFirst f).1 x⟩

/-- The signed minimum of words, folded, is the minimum of the integers they hold. -/
theorem toInt_fold_minsi {ι : Type} (s : Finset ι) (b : BitVec 32) (g : ι → BitVec 32) :
    (s.fold IntOp.minsi b g).toInt = s.fold min b.toInt fun x => (g x).toInt := by
  refine Finset.fold_hom (op := IntOp.minsi) (op' := min) (m := BitVec.toInt) (fun x y => ?_) |>.symm
  exact SortNet.toInt_minsi x y

/-- The least of the places at which a row is equal to its least value, as a word, is `amin`. -/
theorem fold_minsi_eq (f : Fin 512 → EReal) :
    (Finset.univ.fold IntOp.minsi 2147483647#32 fun x : Fin 512 =>
      if f x = f (amin f) then BitVec.ofNat 32 (x : ℕ) else 512#32) = BitVec.ofNat 32 (amin f : ℕ) := by
  have hv : ∀ x : Fin 512, (BitVec.ofNat 32 (x : ℕ)).toInt = (x : ℕ) := fun x => by
    rw [BitVec.toInt_eq_toNat_cond]; simp; omega
  apply BitVec.eq_of_toInt_eq
  rw [toInt_fold_minsi, hv]
  apply le_antisymm
  · refine (Finset.fold_min_le _).mpr (.inr ⟨amin f, Finset.mem_univ _, ?_⟩)
    rw [if_pos rfl, hv]
  · refine (Finset.le_fold_min _).mpr ⟨?_, fun x _ => ?_⟩
    · have := (amin f).isLt
      have e : (2147483647#32).toInt = 2147483647 := by decide
      omega
    · split
      · next h =>
        rw [hv]
        have : amin f ≤ x := by
          by_contra hc
          exact absurd ((amin_isFirst f).2 x (not_le.mp hc)) (by rw [h]; exact lt_irrefl _)
        exact_mod_cast this
      · have := (amin f).isLt
        have e : (512#32).toInt = 512 := by decide
        omega

/-- A comparison of two places, widened and made a float, is one where they agree and zero elsewhere. -/
theorem onehot_apply (x k : Fin 512) :
    (FloatOps.sitofp (F := Ideal) FTy.f32 (BitVec.setWidth 32 (IntOp.cmpi CmpIPredicate.eq (BitVec.ofNat 32 (x : ℕ)) (BitVec.ofNat 32 (k : ℕ)))) : EReal) =
      if x = k then 1 else 0 := by
  have h : (BitVec.ofNat 32 (x : ℕ) = BitVec.ofNat 32 (k : ℕ)) ↔ x = k := by
    constructor
    · intro h
      have := congrArg BitVec.toNat h
      simp at this
      omega
    · rintro rfl; rfl
  by_cases hx : x = k
  · subst hx
    simp [IntOp.cmpi, FloatOps.sitofp]
  · rw [if_neg hx]
    have : ¬ (BitVec.ofNat 32 (x : ℕ) = BitVec.ofNat 32 (k : ℕ)) := fun hh => hx (h.mp hh)
    have hb : (BitVec.ofNat 32 (x : ℕ) == BitVec.ofNat 32 (k : ℕ)) = false := by simpa using this
    simp [IntOp.cmpi, FloatOps.sitofp, hb]

/-- The product of a one-hot row with a column picks the column's entry. -/
theorem onehot_sum (k : Fin 512) (b : Fin 512 → EReal) :
    ∑ x : Fin 512, (FloatOps.sitofp (F := Ideal) FTy.f32 (BitVec.setWidth 32 (IntOp.cmpi CmpIPredicate.eq (BitVec.ofNat 32 (x : ℕ)) (BitVec.ofNat 32 (k : ℕ)))) : EReal) * b x = b k := by
  simp only [onehot_apply, ite_mul, one_mul, zero_mul, Finset.sum_ite_eq', Finset.mem_univ, if_true]

end Cert.Spec
-- ==== Proof.KBox.lean ====
module
public import proofs.«01_k».proof.Proof.Spec
public import proofs.«01_k».proof.Proof.Gen.KernelIdeal.Frame
public import Idealize.ShloMosaic.Lib.Pipeline.ValueKit
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec

/-- What a rank-four rectangle written with payload `w` must satisfy to agree with `g`. -/
theorem good4 {N : Fin 4 → ℕ} (g : ℕ → ℕ → ℕ → ℕ → EReal) (a b c d n0 n1 n2 n3 : ℕ) (inb)
    (w : (⟨4, ![n0, n1, n2, n3]⟩ : Shape).Idx → EReal)
    (h : ∀ (j0 : Fin n0) (j1 : Fin n1) (j2 : Fin n2) (j3 : Fin n3), w (ix4 j0 j1 j2 j3) = g (a + j0) (b + j1) (c + j2) (d + j3))
    (x : (Rect.unit (s := ⟨4, N⟩) ![a, b, c, d] ![n0, n1, n2, n3] inb).shape.Idx) :
    w x = (fun y : (⟨4, N⟩ : Shape).Idx => g (y 0) (y 1) (y 2) (y 3)) ((Rect.unit (s := ⟨4, N⟩) ![a, b, c, d] ![n0, n1, n2, n3] inb).emb x) := by
  change (⟨4, ![n0, n1, n2, n3]⟩ : Shape).Idx at x
  refine (congrArg w (eq_ix4 x)).trans ((h (x 0) (x 1) (x 2) (x 3)).trans ?_)
  show g _ _ _ _ = g (a + 1 * (x 0).val) (b + 1 * (x 1).val) (c + 1 * (x 2).val) (d + 1 * (x 3).val)
  simp only [one_mul]

/-- Membership of an index in a rank-four rectangle. -/
theorem mem4 {N : Fin 4 → ℕ} (a b c d n0 n1 n2 n3 : ℕ) (inb) (y : (⟨4, N⟩ : Shape).Idx) :
    y ∈ (Rect.unit (s := ⟨4, N⟩) ![a, b, c, d] ![n0, n1, n2, n3] inb).set ↔
      (a ≤ (y 0).val ∧ (y 0).val < a + n0) ∧ (b ≤ (y 1).val ∧ (y 1).val < b + n1) ∧
        (c ≤ (y 2).val ∧ (y 2).val < c + n2) ∧ (d ≤ (y 3).val ∧ (y 3).val < d + n3) := by
  rw [Rect.mem_set_unit]
  exact ⟨fun h => ⟨h 0, h 1, h 2, h 3⟩, fun h i => match i with
    | ⟨0, _⟩ => h.1 | ⟨1, _⟩ => h.2.1 | ⟨2, _⟩ => h.2.2.1 | ⟨3, _⟩ => h.2.2.2⟩

/-- A load of a rank-four box from contents that `g` describes. -/
theorem load4 {κ : Kind} {sp : Space} {N : Fin 4 → ℕ} (v : View sig κ sp ⟨4, N⟩ .f32) (L : List (View.Piece (Elt Ideal) ⟨4, N⟩ .f32))
    (g : ℕ → ℕ → ℕ → ℕ → EReal) (hL : ∀ y : (⟨4, N⟩ : Shape).Idx, View.canon L y = g (y 0) (y 1) (y 2) (y 3)) (a b c d n0 n1 n2 n3 : ℕ) (inb)
    (j0 : Fin n0) (j1 : Fin n1) (j2 : Fin n2) (j3 : Fin n3) :
    v.readCov L (Rect.unit (s := ⟨4, N⟩) ![a, b, c, d] ![n0, n1, n2, n3] inb).toLoadRect (ix4 j0 j1 j2 j3) = g (a + j0) (b + j1) (c + j2) (d + j3) := by
  rw [View.readCov_eq_canon']
  refine (hL _).trans ?_
  show g (a + 1 * j0.val) (b + 1 * j1.val) (c + 1 * j2.val) (d + 1 * j3.val) = _
  simp only [one_mul]

/-- What a rank-three rectangle written with payload `w` must satisfy to agree with `g`. -/
theorem good3 {V : Type} {N : Fin 3 → ℕ} (g : ℕ → ℕ → ℕ → V) (a b c n0 n1 n2 : ℕ) (inb)
    (w : (⟨3, ![n0, n1, n2]⟩ : Shape).Idx → V)
    (h : ∀ (j0 : Fin n0) (j1 : Fin n1) (j2 : Fin n2), w (ix3 j0 j1 j2) = g (a + j0) (b + j1) (c + j2))
    (x : (Rect.unit (s := ⟨3, N⟩) ![a, b, c] ![n0, n1, n2] inb).shape.Idx) :
    w x = (fun y : (⟨3, N⟩ : Shape).Idx => g (y 0) (y 1) (y 2)) ((Rect.unit (s := ⟨3, N⟩) ![a, b, c] ![n0, n1, n2] inb).emb x) := by
  change (⟨3, ![n0, n1, n2]⟩ : Shape).Idx at x
  refine (congrArg w (eq_ix3 x)).trans ((h (x 0) (x 1) (x 2)).trans ?_)
  show g _ _ _ = g (a + 1 * (x 0).val) (b + 1 * (x 1).val) (c + 1 * (x 2).val)
  simp only [one_mul]

/-- Membership of an index in a rank-three rectangle. -/
theorem mem3 {N : Fin 3 → ℕ} (a b c n0 n1 n2 : ℕ) (inb) (y : (⟨3, N⟩ : Shape).Idx) :
    y ∈ (Rect.unit (s := ⟨3, N⟩) ![a, b, c] ![n0, n1, n2] inb).set ↔
      (a ≤ (y 0).val ∧ (y 0).val < a + n0) ∧ (b ≤ (y 1).val ∧ (y 1).val < b + n1) ∧
        (c ≤ (y 2).val ∧ (y 2).val < c + n2) := by
  rw [Rect.mem_set_unit]
  exact ⟨fun h => ⟨h 0, h 1, h 2⟩, fun h i => match i with
    | ⟨0, _⟩ => h.1 | ⟨1, _⟩ => h.2.1 | ⟨2, _⟩ => h.2.2⟩

/-- A load of a rank-three box from contents that `g` describes. -/
theorem load3 {κ : Kind} {sp : Space} {N : Fin 3 → ℕ} (v : View sig κ sp ⟨3, N⟩ .f32) (L : List (View.Piece (Elt Ideal) ⟨3, N⟩ .f32))
    (g : ℕ → ℕ → ℕ → EReal) (hL : ∀ y : (⟨3, N⟩ : Shape).Idx, View.canon L y = g (y 0) (y 1) (y 2)) (a b c n0 n1 n2 : ℕ) (inb)
    (j0 : Fin n0) (j1 : Fin n1) (j2 : Fin n2) :
    v.readCov L (Rect.unit (s := ⟨3, N⟩) ![a, b, c] ![n0, n1, n2] inb).toLoadRect (ix3 j0 j1 j2) = g (a + j0) (b + j1) (c + j2) := by
  rw [View.readCov_eq_canon']
  refine (hL _).trans ?_
  show g (a + 1 * j0.val) (b + 1 * j1.val) (c + 1 * j2.val) = _
  simp only [one_mul]

/-- A load of a whole rank-two buffer is the buffer. -/
theorem ld2 {a b : ℕ} (X : Vec Ideal ⟨2, ![a, b]⟩ .f32) (inb) :
    View.ld X (Rect.unit (s := ⟨2, ![a, b]⟩) ![0, 0] ![a, b] inb) = X :=
  View.ld_unit_zero (by funext i; fin_cases i <;> rfl) inb X

end Cert.KernelIdeal.Value
-- ==== Proof.KEnc.lean ====
module
public import proofs.«01_k».proof.Proof.KBox
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec

/-- The first convolution at one parity: parity `q` of the hidden picture, row `u`, column `v`, channel `o`. -/
def hplane (x0 : Vec Ideal S1x4x16x4096 .f32) (x1 : Vec Ideal S16x64 .f32) (x2 : Vec Ideal S1x64 .f32) (q u v o : ℕ) : EReal :=
  max (∑ t : Fin 16, rd4 x0 0 q t (u * 64 + v) * rd2 x1 t o + rd2 x2 0 o) 0

/-- The hidden picture: channel `o`, row `i`, column `j`, found in the plane of its parity. -/
def hid (x0 : Vec Ideal S1x4x16x4096 .f32) (x1 : Vec Ideal S16x64 .f32) (x2 : Vec Ideal S1x64 .f32) (o i j : ℕ) : EReal :=
  hplane x0 x1 x2 (i % 2 * 2 + j % 2) (i / 2) (j / 2) o

/-- What the first scratch buffer is to hold: the bordered hidden picture, even and odd rows apart, even and odd columns side by side along the channels. -/
def hph (x0 : Vec Ideal S1x4x16x4096 .f32) (x1 : Vec Ideal S16x64 .f32) (x2 : Vec Ideal S1x64 .f32) (a r s l : ℕ) : EReal :=
  pdn 128 (hid x0 x1 x2 (l % 64)) (2 * r + a) (2 * s + l / 64)

/-- Inside the border the scratch holds the plane of the pixel's parity. -/
theorem hph_in (x0 x1 x2) (a r s l q u v o i j : ℕ) (h : 2 * r + a = i + 1 ∧ 2 * s + l / 64 = j + 1 ∧ i < 128 ∧ j < 128)
    (hq : q = i % 2 * 2 + j % 2 ∧ u = i / 2 ∧ v = j / 2 ∧ o = l % 64) :
    hph x0 x1 x2 a r s l = hplane x0 x1 x2 q u v o := by
  obtain ⟨rfl, rfl, rfl, rfl⟩ := hq
  rw [hph, pdn_in _ _ _ _ i j h, hid]

variable (c : Dev nD) (arg1 : Memref sig .tc .vmem S1x4x16x4096 .f32) (harg1 : arg1.IsWhole) (arg2 : Memref sig .tc .vmem S16x64 .f32) (harg2 : arg2.IsWhole) (arg3 : Memref sig .tc .vmem S1x64 .f32) (harg3 : arg3.IsWhole)
  (x0 : Vec Ideal S1x4x16x4096 .f32) (x1 : Vec Ideal S16x64 .f32) (x2 : Vec Ideal S1x64 .f32)

/-- The first scratch buffer, after all that is stored into it, holds the bordered hidden picture. -/
theorem HS0_eq (y : S2x65x65x128.Idx) :
    View.canon (kernelRun0_A.sl.HS0_12 c arg1 harg1 arg2 harg2 arg3 harg3 x0 x1 x2) y = hph x0 x1 x2 (y 0) (y 1) (y 2) (y 3) := by
  refine View.canon_apply_of_pieces (Val := Elt Ideal) (e := .f32) (fun y : S2x65x65x128.Idx => hph x0 x1 x2 (y 0) (y 1) (y 2) (y 3)) _ ?_ y ?_
  · unfold kernelRun0_A.sl.HS0_12
    simp only [kernelRun0_A.sl.r, kernelRun0_A.sl.r_1, kernelRun0_A.sl.r_2, kernelRun0_A.sl.r_3, kernelRun0_A.sl.cst_52, View.readAt_eq_ld, harg1.read_unread, harg2.read_unread, harg3.read_unread, List.forall_mem_cons]
    refine ⟨?_, ?_, ?_, ?_, ?_, ?_, ?_, ?_, ?_, ?_, ?_, ?_, by simp⟩ <;>
      refine good4 (hph x0 x1 x2) _ _ _ _ _ _ _ _ _ _ fun j0 j1 j2 j3 => ?_
    · refine Eq.trans ?_ (hph_in x0 x1 x2 _ _ _ _ 3 j1 j2 j3 (2 * j1 + 1) (2 * j2 + 1) (by omega) (by omega)).symm
      pointwise [k0_pay17, k0_pay13]
      simp only [rd4_ix x0, rd2_ix x1, rd2_ix x2]
      rfl
    · refine Eq.trans ?_ (pdn_out _ _ _ _ (by omega)).symm
      pointwise [k0_pay16]
    · refine Eq.trans ?_ (pdn_out _ _ _ _ (by omega)).symm
      pointwise [k0_pay15, k0_pay14]
    · refine Eq.trans ?_ (hph_in x0 x1 x2 _ _ _ _ 2 j1 j2 j3 (2 * j1 + 1) (2 * j2 + 0) (by omega) (by omega)).symm
      pointwise [k0_pay12, k0_pay9]
      simp only [rd4_ix x0, rd2_ix x1, rd2_ix x2]
      rfl
    · refine Eq.trans ?_ (pdn_out _ _ _ _ (by omega)).symm
      pointwise [k0_pay11]
    · refine Eq.trans ?_ (pdn_out _ _ _ _ (by omega)).symm
      pointwise [k0_pay10]
    · refine Eq.trans ?_ (hph_in x0 x1 x2 _ _ _ _ 1 j1 j2 j3 (2 * j1 + 0) (2 * j2 + 1) (by omega) (by omega)).symm
      pointwise [k0_pay8, k0_pay5]
      simp only [rd4_ix x0, rd2_ix x1, rd2_ix x2]
      rfl
    · refine Eq.trans ?_ (pdn_out _ _ _ _ (by omega)).symm
      pointwise [k0_pay7]
    · refine Eq.trans ?_ (pdn_out _ _ _ _ (by omega)).symm
      pointwise [k0_pay6]
    · refine Eq.trans ?_ (hph_in x0 x1 x2 _ _ _ _ 0 j1 j2 j3 (2 * j1 + 0) (2 * j2 + 0) (by omega) (by omega)).symm
      pointwise [k0_pay4]
      simp only [rd4_ix x0, rd2_ix x1, rd2_ix x2]
      rfl
    · refine Eq.trans ?_ (pdn_out _ _ _ _ (by omega)).symm
      pointwise [k0_pay3]
    · refine Eq.trans ?_ (pdn_out _ _ _ _ (by omega)).symm
      pointwise [k0_pay2]
  · unfold kernelRun0_A.sl.HS0_12
    have h0 : (y 0).val < 2 := (y 0).isLt
    have h1 : (y 1).val < 65 := (y 1).isLt
    have h2 : (y 2).val < 65 := (y 2).isLt
    have h3 : (y 3).val < 128 := (y 3).isLt
    simp only [List.exists_mem_cons_iff, mem4]
    generalize (y 0).val = a at *
    generalize (y 1).val = b at *
    generalize (y 2).val = cc at *
    generalize (y 3).val = d at *
    rcases (by omega : a = 0 ∨ a = 1) with rfl | rfl <;> rcases lt_or_ge d 64 with hd | hd <;>
    simp only [Nat.reduceLeDiff, Nat.reduceAdd, Nat.reduceLT, false_and, true_and, and_false, false_or, zero_le, lt_irrefl]
    all_goals omega

/-- The latent of the block: row `p` of the 4096 positions, channel `o`, by the second convolution over a hidden picture `H`. -/
def lat (H : ℕ → ℕ → ℕ → EReal) (x3 : Vec Ideal S16x64x64 .f32) (x4 : Vec Ideal S1x64 .f32) (p o : ℕ) : EReal :=
  max (∑ kh : Fin 4, ∑ kw : Fin 4, ∑ c : Fin 64, pdn 128 (H c) (2 * (p / 64) + kh) (2 * (p % 64) + kw) * rd3 x3 (kh * 4 + kw) c o + rd2 x4 0 o) 0

variable (arg4 : Memref sig .tc .vmem S16x64x64 .f32) (harg4 : arg4.IsWhole) (arg5 : Memref sig .tc .vmem S1x64 .f32) (harg5 : arg5.IsWhole)
  (arg16 : Memref sig .tc .vmem S2x65x65x128 .f32) (x3 : Vec Ideal S16x64x64 .f32) (x4 : Vec Ideal S1x64 .f32)

/-- The value the body computes for its latent is the second convolution of the hidden picture. -/
theorem r12_eq (p : Fin 4096) (o : Fin 64) : kernelRun0_A.sl.r_12 c arg1 harg1 arg2 harg2 arg3 harg3 arg4 harg4 arg5 harg5 arg16 x0 x1 x2 x3 x4 (ix2 p o) = lat (hid x0 x1 x2) x3 x4 p o := by
  unfold kernelRun0_A.sl.r_12 kernelRun0_A.sl.r_10 kernelRun0_A.sl.r_11 kernelRun0_A.sl.r_8 kernelRun0_A.sl.r_9 kernelRun0_A.sl.r_6 kernelRun0_A.sl.r_7 kernelRun0_A.sl.r_4 kernelRun0_A.sl.r_5
  simp only [View.readAt_eq_ld, harg4.read_unread, harg5.read_unread]
  pointwise [k0_pay26, k0_pay25, k0_pay24, k0_pay23, k0_pay22, k0_pay21, k0_pay20, k0_pay19, k0_pay18]
  unfold kernelRun0_A.sl.v93 kernelRun0_A.sl.v100 kernelRun0_A.sl.v107 kernelRun0_A.sl.v114 kernelRun0_A.sl.v121 kernelRun0_A.sl.v128 kernelRun0_A.sl.v135 kernelRun0_A.sl.v142 kernelRun0_A.sl.v149 kernelRun0_A.sl.v156 kernelRun0_A.sl.v163 kernelRun0_A.sl.v170 kernelRun0_A.sl.v177 kernelRun0_A.sl.v184 kernelRun0_A.sl.v191 kernelRun0_A.sl.v198
  simp only [load4 _ _ _ (HS0_eq c arg1 harg1 arg2 harg2 arg3 harg3 x0 x1 x2), rd2_ix x4, rd3_ix x3]
  have e1 : ∀ x : Fin 64, (x : ℕ) % 64 = x := fun x => by omega
  have e2 : ∀ x : Fin 64, (64 + (x : ℕ)) % 64 = x := fun x => by omega
  have e3 : ∀ x : Fin 64, (x : ℕ) / 64 = 0 := fun x => by omega
  have e4 : ∀ x : Fin 64, (64 + (x : ℕ)) / 64 = 1 := fun x => by omega
  have e5 : ∀ a b : ℕ, 2 * (1 + a) + b = 2 * a + (2 + b) := fun a b => by omega
  simp only [hph, e1, e2, e3, e4, e5, zero_add, lat, Fin.sum_univ_four]
  simp [add_assoc]
end Cert.KernelIdeal.Value
-- ==== Proof.KPre.lean ====
module
public import proofs.«01_k».proof.Proof.KEnc
public import Idealize.ShloMosaic.Lib.StableHlo.RunRead
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec
open StableHlo View

/-- A one-row array as one piece of a pile on the middle axis. -/
theorem piece3 (f : Vec Ideal S32x1x4096 .f32) (g : ℕ → Fin 32 → Fin 4096 → EReal) (k : ℕ) (h : ∀ a c, f (ix3 a 0 c) = g k a c)
    (a : Fin 32) (b : Fin 16) (c : Fin 4096) : PieceAt (t := S32x16x4096) 1 (ix3 a b c) (g b a c) S32x1x4096 f k := by
  intro hk _ i h0 hb
  have hi : i = ix3 a 0 c := by
    funext e
    fin_cases e
    · exact Fin.ext (hb 0 (by decide))
    · exact Fin.ext h0
    · exact Fin.ext (hb 2 (by decide))
  rw [hi, h]
  exact congrArg (fun n => g n a c) (Eq.symm hk)

/-- Sixteen one-row arrays laid side by side on the middle axis. -/
theorem stack16 (f0 f1 f2 f3 f4 f5 f6 f7 f8 f9 f10 f11 f12 f13 f14 f15 : Vec Ideal S32x1x4096 .f32) (g : ℕ → Fin 32 → Fin 4096 → EReal)
    (h0 : ∀ a c, f0 (ix3 a 0 c) = g 0 a c)
    (h1 : ∀ a c, f1 (ix3 a 0 c) = g 1 a c)
    (h2 : ∀ a c, f2 (ix3 a 0 c) = g 2 a c)
    (h3 : ∀ a c, f3 (ix3 a 0 c) = g 3 a c)
    (h4 : ∀ a c, f4 (ix3 a 0 c) = g 4 a c)
    (h5 : ∀ a c, f5 (ix3 a 0 c) = g 5 a c)
    (h6 : ∀ a c, f6 (ix3 a 0 c) = g 6 a c)
    (h7 : ∀ a c, f7 (ix3 a 0 c) = g 7 a c)
    (h8 : ∀ a c, f8 (ix3 a 0 c) = g 8 a c)
    (h9 : ∀ a c, f9 (ix3 a 0 c) = g 9 a c)
    (h10 : ∀ a c, f10 (ix3 a 0 c) = g 10 a c)
    (h11 : ∀ a c, f11 (ix3 a 0 c) = g 11 a c)
    (h12 : ∀ a c, f12 (ix3 a 0 c) = g 12 a c)
    (h13 : ∀ a c, f13 (ix3 a 0 c) = g 13 a c)
    (h14 : ∀ a c, f14 (ix3 a 0 c) = g 14 a c)
    (h15 : ∀ a c, f15 (ix3 a 0 c) = g 15 a c)
    (hc) (a : Fin 32) (b : Fin 16) (c : Fin 4096) :
    concatenate S32x16x4096 1 [⟨S32x1x4096, f0⟩, ⟨S32x1x4096, f1⟩, ⟨S32x1x4096, f2⟩, ⟨S32x1x4096, f3⟩, ⟨S32x1x4096, f4⟩, ⟨S32x1x4096, f5⟩, ⟨S32x1x4096, f6⟩, ⟨S32x1x4096, f7⟩, ⟨S32x1x4096, f8⟩, ⟨S32x1x4096, f9⟩, ⟨S32x1x4096, f10⟩, ⟨S32x1x4096, f11⟩, ⟨S32x1x4096, f12⟩, ⟨S32x1x4096, f13⟩, ⟨S32x1x4096, f14⟩, ⟨S32x1x4096, f15⟩] hc (ix3 a b c) = g b a c := by
  exact concatenate_unit_eq _ _ hc _ _ rfl ⟨piece3 f0 g 0 h0 a b c, piece3 f1 g 1 h1 a b c, piece3 f2 g 2 h2 a b c, piece3 f3 g 3 h3 a b c, piece3 f4 g 4 h4 a b c, piece3 f5 g 5 h5 a b c, piece3 f6 g 6 h6 a b c, piece3 f7 g 7 h7 a b c, piece3 f8 g 8 h8 a b c, piece3 f9 g 9 h9 a b c, piece3 f10 g 10 h10 a b c, piece3 f11 g 11 h11 a b c, piece3 f12 g 12 h12 a b c, piece3 f13 g 13 h13 a b c, piece3 f14 g 14 h14 a b c, piece3 f15 g 15 h15 a b c, trivial⟩

/-- Four one-plane arrays laid side by side on the second axis. -/
theorem stack4 (f0 f1 f2 f3 : Vec Ideal S32x1x16x4096 .f32) (g : ℕ → Fin 32 → Fin 16 → Fin 4096 → EReal)
    (h0 : ∀ a b c, f0 (ix4 a 0 b c) = g 0 a b c) (h1 : ∀ a b c, f1 (ix4 a 0 b c) = g 1 a b c)
    (h2 : ∀ a b c, f2 (ix4 a 0 b c) = g 2 a b c) (h3 : ∀ a b c, f3 (ix4 a 0 b c) = g 3 a b c)
    (hc) (a : Fin 32) (q : Fin 4) (b : Fin 16) (c : Fin 4096) :
    concatenate S32x4x16x4096 1 [⟨S32x1x16x4096, f0⟩, ⟨S32x1x16x4096, f1⟩, ⟨S32x1x16x4096, f2⟩, ⟨S32x1x16x4096, f3⟩] hc (ix4 a q b c) = g q a b c := by
  pointwise
  fin_vals q with hq
  all_goals simp only [hq, Nat.reduceSub, Nat.reduceLT, ↓reduceDIte]
  · exact h0 a b c
  · exact h1 a b c
  · exact h2 a b c
  · exact h3 a b c

/-- One strided window of the bordered picture, as a row. -/
theorem row_at (X : Vec Ideal S32x260x260 .f32) (p q : ℕ) (h h' h'') (a : Fin 32) (c : Fin 4096) :
    broadcastInDim S32x1x4096 ![0, 2] h'' (fun i => shapeCast S32x4096 (Host.slice S32x64x64 ![0, p, q] ![1, 4, 4] X h) h' i : Vec Ideal S32x4096 .f32) (ix3 a 0 c) =
      rd3 X a (4 * (c / 64) + p) (4 * (c % 64) + q) := by
  pointwise
  refine (rd3_ix X _ _ _).trans ?_
  simp only [add_comm]

/-- A plane axis of length one added in front. -/
theorem plane_at (X : Vec Ideal S32x16x4096 .f32) (h) (a : Fin 32) (b : Fin 16) (c : Fin 4096) :
    broadcastInDim S32x1x16x4096 ![0, 2, 3] h X (ix4 a 0 b c) = X (ix3 a b c) := by
  pointwise

variable (W : Valuation τ sig (Elt Ideal))

set_option maxHeartbeats 4000000 in
/-- The windows as the call gets them: entry `b` of parity `q` at position `c` is a pixel of the bordered picture. -/
theorem pre_v202 (a : Fin 32) (q : Fin 4) (b : Fin 16) (c : Fin 4096) :
    (after hostOps0_2 W (Proc.devRef .tc main_v202) : Vec Ideal S32x4x16x4096 .f32) (ix4 a q b c) =
    rd3 (W (Proc.devRef .tc main_v1) : Vec Ideal S32x260x260 .f32) a (4 * (c / 64) + (2 * (q / 2) + b / 4)) (4 * (c % 64) + (2 * (q % 2) + b % 4)) := by
  unfold_abbrev_sides
  after_reads_simp
  dsimp only [Matrix.cons_val]
  refine stack4 _ _ _ _ (fun q a b c => rd3 (W (Proc.devRef .tc main_v1) : Vec Ideal S32x260x260 .f32) a
    (4 * (c / 64) + (2 * (q / 2) + b / 4)) (4 * (c % 64) + (2 * (q % 2) + b % 4))) ?_ ?_ ?_ ?_ _ a q b c <;> intro a b c <;> after_reads_simp <;>
    refine (plane_at _ _ a b c).trans ?_ <;> dsimp only [Matrix.cons_val] <;>
    refine stack16 _ _ _ _ _ _ _ _ _ _ _ _ _ _ _ _ (fun b a c => rd3 (W (Proc.devRef .tc main_v1) : Vec Ideal S32x260x260 .f32) a
      (4 * (c / 64) + (2 * (_ / 2) + b / 4)) (4 * (c % 64) + (2 * (_ % 2) + b % 4)))
      ?_ ?_ ?_ ?_ ?_ ?_ ?_ ?_ ?_ ?_ ?_ ?_ ?_ ?_ ?_ ?_ _ a b c <;> intro a c <;> after_reads_simp <;> exact row_at _ _ _ _ _ _ a c

/-- A table of four by four windows with one flattened window axis, transposed so that the window comes first. -/
theorem flat1_at (X : Vec Ideal S64x1x4x4 .f32) (h h') (t : Fin 16) (o : Fin 64) :
    transpose S16x64 [1, 0] (shapeCast S64x16 X h) h' (ix2 t o) = rd4 X o 0 (t / 4) (t % 4) := by
  pointwise
  refine (rd4_ix X _ _ _ _).trans ?_
  congr 1 <;> dsimp only <;> omega

/-- The same table, its window axis flattened and left last. -/
theorem flat2_at (X : Vec Ideal S64x1x4x4 .f32) (h) (c : Fin 64) (t : Fin 16) :
    (shapeCast S64x16 X h : Vec Ideal S64x16 .f32) (ix2 c t) = rd4 X c 0 (t / 4) (t % 4) := by
  pointwise
  refine (rd4_ix X _ _ _ _).trans ?_
  congr 1 <;> dsimp only <;> omega

/-- A table of windows by two channels, the window first and the two channels exchanged. -/
theorem flat3_at (X : Vec Ideal S64x64x4x4 .f32) (h h') (t : Fin 16) (c o : Fin 64) :
    transpose S16x64x64 [2, 1, 0] (shapeCast S64x64x16 X h) h' (ix3 t c o) = rd4 X o c (t / 4) (t % 4) := by
  pointwise
  refine (rd4_ix X _ _ _ _).trans ?_
  congr 1 <;> dsimp only <;> omega

/-- A table of windows by two channels, the window first and the two channels in their order. -/
theorem flat4_at (X : Vec Ideal S64x64x4x4 .f32) (h h') (t : Fin 16) (c o : Fin 64) :
    transpose S16x64x64 [2, 0, 1] (shapeCast S64x64x16 X h) h' (ix3 t c o) = rd4 X c o (t / 4) (t % 4) := by
  pointwise
  refine (rd4_ix X _ _ _ _).trans ?_
  congr 1 <;> dsimp only <;> omega

/-- The codebook's rows and columns exchanged. -/
theorem tr_at (X : Vec Ideal S512x64 .f32) (h) (c : Fin 64) (k : Fin 512) :
    transpose S64x512 [1, 0] X h (ix2 c k) = rd2 X k c := by
  pointwise
  exact rd2_ix X _ _

/-- The sum of the squares of each row of the codebook. -/
theorem sq_at (X : FVec Ideal S512x64 .f32) (h : S512x64.ReducesTo [1] S512) (hs) (hb : S512.BroadcastsInDim S1x512 ![1]) (k : Fin 512) :
    (broadcastInDim S1x512 ![1] hb (Host.reduceAdd (F := Ideal) (t := S512) (mulf X X) (constant S_ .f32 0x00000000#32) h hs) : S1x512.Idx → EReal) (ix2 0 k)
      = ∑ c : Fin 64, rd2 X k c * rd2 X k c := by
  pointwise
  simp only [rd2_ix]

section values
variable (W : Valuation τ sig (Elt Ideal))

/-- The weights of the first convolution as the call gets them. -/
theorem pre_v204 (t : Fin 16) (o : Fin 64) : (after hostOps0_2 W (Proc.devRef .tc main_v204) : Vec Ideal S16x64 .f32) (ix2 t o)
    = rd4 (W (Proc.devRef .tc main_arg1) : Vec Ideal S64x1x4x4 .f32) o 0 (t / 4) (t % 4) := by
  unfold_abbrev_sides
  after_reads_simp
  exact flat1_at _ _ _ t o
/-- The weights of the second convolution as the call gets them. -/
theorem pre_v206 (t : Fin 16) (c o : Fin 64) : (after hostOps0_2 W (Proc.devRef .tc main_v206) : Vec Ideal S16x64x64 .f32) (ix3 t c o)
    = rd4 (W (Proc.devRef .tc main_arg3) : Vec Ideal S64x64x4x4 .f32) o c (t / 4) (t % 4) := by
  unfold_abbrev_sides
  after_reads_simp
  exact flat3_at _ _ _ t c o
/-- The weights of the first transposed convolution as the call gets them. -/
theorem pre_v208 (t : Fin 16) (c o : Fin 64) : (after hostOps0_2 W (Proc.devRef .tc main_v208) : Vec Ideal S16x64x64 .f32) (ix3 t c o)
    = rd4 (W (Proc.devRef .tc main_arg5) : Vec Ideal S64x64x4x4 .f32) c o (t / 4) (t % 4) := by
  unfold_abbrev_sides
  after_reads_simp
  exact flat4_at _ _ _ t c o
/-- The weights of the last transposed convolution as the call gets them. -/
theorem pre_v209 (c : Fin 64) (t : Fin 16) : (after hostOps0_2 W (Proc.devRef .tc main_v209) : Vec Ideal S64x16 .f32) (ix2 c t)
    = rd4 (W (Proc.devRef .tc main_arg7) : Vec Ideal S64x1x4x4 .f32) c 0 (t / 4) (t % 4) := by
  unfold_abbrev_sides
  after_reads_simp
  exact flat2_at _ _ c t
/-- The codebook, transposed. -/
theorem pre_v210 (c : Fin 64) (k : Fin 512) : (after hostOps0_2 W (Proc.devRef .tc main_v210) : Vec Ideal S64x512 .f32) (ix2 c k)
    = rd2 (W (Proc.devRef .tc main_arg9) : Vec Ideal S512x64 .f32) k c := by
  unfold_abbrev_sides
  after_reads_simp
  exact tr_at _ _ c k
/-- The squared lengths of the codebook's rows. -/
theorem pre_v213 (k : Fin 512) : (after hostOps0_2 W (Proc.devRef .tc main_v213) : Vec Ideal S1x512 .f32) (ix2 0 k)
    = ∑ c : Fin 64, rd2 (W (Proc.devRef .tc main_arg9) : Vec Ideal S512x64 .f32) k c * rd2 (W (Proc.devRef .tc main_arg9) : Vec Ideal S512x64 .f32) k c := by
  unfold_abbrev_sides
  after_reads_simp
  exact sq_at _ _ _ _ k
/-- A bias laid out as one row. -/
theorem bias_at (X : Vec Ideal S64 .f32) (h) (o : Fin 64) : (broadcastInDim S1x64 ![1] h X : Vec Ideal S1x64 .f32) (ix2 0 o) = X (ix1 o) := by
  pointwise
/-- The bias of the first convolution as the call gets it. -/
theorem pre_v214 (o : Fin 64) : (after hostOps0_2 W (Proc.devRef .tc main_v214) : Vec Ideal S1x64 .f32) (ix2 0 o)
    = (W (Proc.devRef .tc main_arg2) : Vec Ideal S64 .f32) (ix1 o) := by
  unfold_abbrev_sides
  after_reads_simp
  exact bias_at _ _ o
/-- The bias of the second convolution as the call gets it. -/
theorem pre_v215 (o : Fin 64) : (after hostOps0_2 W (Proc.devRef .tc main_v215) : Vec Ideal S1x64 .f32) (ix2 0 o)
    = (W (Proc.devRef .tc main_arg4) : Vec Ideal S64 .f32) (ix1 o) := by
  unfold_abbrev_sides
  after_reads_simp
  exact bias_at _ _ o
/-- The bias of the first transposed convolution as the call gets it. -/
theorem pre_v216 (o : Fin 64) : (after hostOps0_2 W (Proc.devRef .tc main_v216) : Vec Ideal S1x64 .f32) (ix2 0 o)
    = (W (Proc.devRef .tc main_arg6) : Vec Ideal S64 .f32) (ix1 o) := by
  unfold_abbrev_sides
  after_reads_simp
  exact bias_at _ _ o
/-- A single number laid out as one row. -/
theorem bias1_at (X : Vec Ideal S1 .f32) (h) : (broadcastInDim S1x1 ![1] h X : Vec Ideal S1x1 .f32) (ix2 0 0) = X (ix1 0) := by
  pointwise
/-- The bias of the last transposed convolution as the call gets it. -/
theorem pre_v217 : (after hostOps0_2 W (Proc.devRef .tc main_v217) : Vec Ideal S1x1 .f32) (ix2 0 0)
    = (W (Proc.devRef .tc main_arg8) : Vec Ideal S1 .f32) (ix1 0) := by
  unfold_abbrev_sides
  after_reads_simp
  exact bias1_at _ _

/-- The picture with its border of zeros, as the padding operation makes it. -/
theorem pad_at (X : Vec Ideal S32x1x256x256 .f32) (h h' h'') (n : Fin 32) (r c : Fin 260) :
    (pad S32x260x260 ![0, 1, 1] ![0, 3, 3] ![0, 0, 0] (shapeCast S32x256x256 X h) (sitofp (F := Ideal) .f32 (constantI S_ 32 0#32)) h' h'' : S32x260x260.Idx → EReal) (ix3 n r c)
      = pdn 256 (fun i j => rd4 X n 0 i j) r c := by
  pointwise
  have h0 : (FloatOps.sitofp FTy.f32 (0#32) : Ideal .f32) = (0 : EReal) := by simp [FloatOps.sitofp]
  rw [pdn]
  by_cases hr : (1 ≤ (r : ℕ) ∧ (r : ℕ) - 1 < 256) ∧ 1 ≤ (c : ℕ) ∧ (c : ℕ) - 1 < 256
  · rw [dif_pos hr, if_pos (by omega)]
    exact rd4_ix X n 0 ⟨(r : ℕ) - 1, hr.1.2⟩ ⟨(c : ℕ) - 1, hr.2.2⟩
  · rw [dif_neg hr, if_neg (by omega)]
    exact h0

/-- The pictures with their border of zeros, as the windows are cut from them. -/
theorem pre_v1 (n : Fin 32) (r c : Fin 260) : (after hostOps0_1 (after hostOps0 W) (Proc.devRef .tc main_v1) : Vec Ideal S32x260x260 .f32) (ix3 n r c)
    = pdn 256 (fun i j => rd4 (W (Proc.devRef .tc main_arg0) : Vec Ideal S32x1x256x256 .f32) n 0 i j) r c := by
  unfold_abbrev_sides
  after_reads_simp
  simp only [TRef.toBuf, TRef.ofBuf, cast_eq]
  exact pad_at _ _ _ _ n r c
end values
end Cert.KernelIdeal.Value
-- ==== Proof.Net.lean ====
/-
  The network as functions of natural numbers: a stride-two convolution twice, the nearest codebook row at every
  place, the row put back in the place of the vector, and a stride-two transposed convolution twice.
-/
module
public import proofs.«01_k».proof.Proof.Spec
@[expose] public section
noncomputable section
open Idealize.ShloMosaic
namespace Cert.Spec

/-- A tensor of rank one read at a natural number, zero outside its shape. -/
def rd1 {a : ℕ} (x : (⟨1, ![a]⟩ : Shape).Idx → EReal) (i : ℕ) : EReal :=
  if h : i < a then x (ix1 ⟨i, h⟩) else 0

/-- Inside its shape a rank-one tensor is its natural-number reading. -/
theorem rd1_ix {a : ℕ} (x : (⟨1, ![a]⟩ : Shape).Idx → EReal) (i : Fin a) : x (ix1 i) = rd1 x i := by
  simp [rd1]

/-- The network's ten arguments: the pictures (image, row, column), the four tables of windows with their biases, and
    the codebook (row, channel). The first two tables list the output channel first, the last two the input channel. -/
structure Args where
  /-- The pictures. -/
  x : ℕ → ℕ → ℕ → EReal
  /-- The first convolution's windows. -/
  w1 : ℕ → ℕ → ℕ → EReal
  /-- The first convolution's bias. -/
  b1 : ℕ → EReal
  /-- The second convolution's windows. -/
  w2 : ℕ → ℕ → ℕ → ℕ → EReal
  /-- The second convolution's bias. -/
  b2 : ℕ → EReal
  /-- The first transposed convolution's windows. -/
  w3 : ℕ → ℕ → ℕ → ℕ → EReal
  /-- The first transposed convolution's bias. -/
  b3 : ℕ → EReal
  /-- The second transposed convolution's windows. -/
  w4 : ℕ → ℕ → ℕ → EReal
  /-- The second transposed convolution's bias. -/
  b4 : EReal
  /-- The codebook. -/
  cb : ℕ → ℕ → EReal

namespace Args
variable (a : Args)

/-- The first convolution, clipped below at zero: image `n`, channel `o`, place `(i, j)`. -/
def hid (n o i j : ℕ) : EReal :=
  max (∑ kh : Fin 4, ∑ kw : Fin 4, pdn 256 (a.x n) (2 * i + kh) (2 * j + kw) * a.w1 o kh kw + a.b1 o) 0

/-- The second convolution, clipped below at zero: image `n`, place `p` of `64 × 64`, channel `o`. -/
def lat (n p o : ℕ) : EReal :=
  max (∑ kh : Fin 4, ∑ kw : Fin 4, ∑ c : Fin 64, pdn 128 (a.hid n c) (2 * (p / 64) + kh) (2 * (p % 64) + kw) * a.w2 o c kh kw
    + a.b2 o) 0

/-- What ranks codebook row `k` at place `p`: the row's square less twice its product with the vector there. -/
def score (n p k : ℕ) : EReal :=
  ∑ c : Fin 64, a.cb k c * a.cb k c - Ideal.ofBits FTy.f32 0x40000000#32 * ∑ c : Fin 64, a.lat n p c * a.cb k c

/-- The first codebook row of least score at place `p`. -/
def code (n p : ℕ) : Fin 512 := amin fun k : Fin 512 => a.score n p k

/-- The codebook row put at row `r`, column `s`. -/
def quant (n r s l : ℕ) : EReal := a.cb (a.code n (r * 64 + s)) l

/-- The first transposed convolution, clipped below at zero: channel `o`, place `(i, j)`. -/
def up (n o i j : ℕ) : EReal :=
  max (dect (fun kh kw r s => ∑ c : Fin 64, pdn 64 (fun r s => a.quant n r s c) r s * a.w3 c o kh kw) i j + a.b3 o) 0

/-- The second transposed convolution through the logistic function: place `(i, j)` of the picture rebuilt. -/
def pix (n i j : ℕ) : EReal :=
  Ideal.logistic (dect (fun kh kw r s => ∑ c : Fin 64, pdn 128 (a.up n c) r s * a.w4 c kh kw) i j + a.b4)

/-- The part of image `n` in the loss before scaling: every vector's square with the least score at its place. -/
def share (n : ℕ) : EReal :=
  ∑ p : Fin 4096, ∑ c : Fin 64, a.lat n p c * a.lat n p c + ∑ p : Fin 4096, a.score n p (a.code n p)

/-- The loss: the images' parts scaled and added. -/
def loss : EReal := ∑ n : Fin 32, a.share n * Ideal.ofBits FTy.f32 0x34200000#32

end Args

/-- A sum over sixteen window places as a sum over rows and columns. -/
theorem sum16 (f : ℕ → EReal) : ∑ t : Fin 16, f t = ∑ kh : Fin 4, ∑ kw : Fin 4, f (kh * 4 + kw) := by
  simp [Fin.sum_univ_succ, add_assoc]

/-- Bordered images agree where the images do. -/
theorem pdn_congr {n : ℕ} {f g : ℕ → ℕ → EReal} (h : ∀ i < n, ∀ j < n, f i j = g i j) (r c : ℕ) : pdn n f r c = pdn n g r c := by
  unfold pdn
  split
  · exact h _ (by omega) _ (by omega)
  · rfl

/-- The sums of the taps agree where the taps do. -/
theorem dect_congr {T U : ℕ → ℕ → ℕ → ℕ → EReal} (h : ∀ kh < 4, ∀ kw < 4, ∀ r s, T kh kw r s = U kh kw r s) (i j : ℕ) : dect T i j = dect U i j := by
  unfold dect
  refine Finset.sum_congr rfl fun kh _ => Finset.sum_congr rfl fun kw _ => ?_
  rw [h kh kh.isLt kw kw.isLt]

end Cert.Spec
-- ==== Proof.KVq.lean ====
module
public import proofs.«01_k».proof.Proof.KEnc
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec

/-- The distances, up to a constant of the row, of row `p` of `L` from the codes: the code's own sum of squares less
    twice the product. -/
def score (L : ℕ → ℕ → EReal) (x5 : Vec Ideal S64x512 .f32) (x6 : Vec Ideal S1x512 .f32) (p : ℕ) (k : Fin 512) : EReal :=
  rd2 x6 0 k - Ideal.ofBits FTy.f32 1073741824#32 * ∑ c : Fin 64, L p c * rd2 x5 c k

/-- The code chosen for row `p`. -/
def code (L : ℕ → ℕ → EReal) (x5 : Vec Ideal S64x512 .f32) (x6 : Vec Ideal S1x512 .f32) (p : ℕ) : Fin 512 :=
  amin (score L x5 x6 p)

/-- The least distance of row `p`. -/
def least (L : ℕ → ℕ → EReal) (x5 : Vec Ideal S64x512 .f32) (x6 : Vec Ideal S1x512 .f32) (p : ℕ) : EReal :=
  score L x5 x6 p (code L x5 x6 p)

/-- The float word of plus infinity. -/
theorem ofBits_inf : Ideal.ofBits FTy.f32 2139095040#32 = (⊤ : EReal) := by
  simp [Ideal.ofBits, Ideal.ieee]

variable (v : FVec Ideal S4096x64 .f32) (L : ℕ → ℕ → EReal) (hv : ∀ (p : Fin 4096) (o : Fin 64), v (ix2 p o) = L p o)
  (x5 : Vec Ideal S64x512 .f32) (x6 : Vec Ideal S1x512 .f32) (x7 : Vec Ideal S512x64 .f32)

/-! ### The second quarter of the rows -/

include hv in
/-- The scores computed for the second quarter of the rows. -/
theorem score1 (i : Fin 1024) (k : Fin 512) : k0_pay37 v x6 x5 (ix2 i k) = score L x5 x6 (1024 + i) k := by
  pointwise [k0_pay37, k0_pay36]
  simp only [hv, rd2_ix x5, rd2_ix x6]
  rfl

include hv in
/-- The least score of each row of the second quarter. -/
theorem least1 (i : Fin 1024) (k : Fin 1) : k0_pay38 v x6 x5 (ix2 i k) = least L x5 x6 (1024 + i) := by
  pointwise [k0_pay38]
  simp only [score1 v L hv, ofBits_inf, fold_min_eq]
  rfl

include hv in
/-- The code word chosen for each row of the second quarter. -/
theorem word1 (i : Fin 1024) : k0_pay39 (k0_pay37 v x6 x5) (k0_pay38 v x6 x5) (ix1 i) = BitVec.ofNat 32 (code L x5 x6 (1024 + i) : ℕ) := by
  pointwise [k0_pay39]
  simp only [score1 v L hv, least1 v L hv, least, code, fold_minsi_eq]

include hv in
/-- What is stored of the codes of the second quarter. -/
theorem out1 (a b : Fin 1) (i : Fin 1024) : k0_pay40 (k0_pay37 v x6 x5) (k0_pay38 v x6 x5) (ix3 a b i) = BitVec.ofNat 32 (code L x5 x6 (1024 + i) : ℕ) := by
  pointwise [k0_pay40]
  simp only [word1 v L hv]

include hv in
/-- The codebook rows looked up for the second quarter, by the product with rows of zeros and a one. -/
theorem q1 (i : Fin 16) (k l : Fin 64) : k0_pay42 (k0_pay37 v x6 x5) (k0_pay38 v x6 x5) x7 (ix3 i k l) = rd2 x7 (code L x5 x6 (1024 + (i * 64 + k))) l := by
  pointwise [k0_pay42]
  simp only [word1 v L hv, rd2_ix x7, onehot_sum]

/-! ### The third quarter of the rows -/

include hv in
/-- The scores computed for the third quarter of the rows. -/
theorem score2 (i : Fin 1024) (k : Fin 512) : k0_pay46 (F := Ideal) (k0_pay44 x6) (k0_pay45 v x5) (Ideal.ofBits FTy.f32 1073741824#32) (ix2 i k) = score L x5 x6 (2048 + i) k := by
  pointwise [k0_pay46, k0_pay45, k0_pay44, k0_pay43]
  simp only [hv, rd2_ix x5, rd2_ix x6]
  rfl

include hv in
/-- The least score of each row of the third quarter. -/
theorem least2 (i : Fin 1024) (k : Fin 1) : k0_pay47 (F := Ideal) (k0_pay44 x6) (k0_pay45 v x5) (Ideal.ofBits FTy.f32 1073741824#32) (ix2 i k) = least L x5 x6 (2048 + i) := by
  pointwise [k0_pay47]
  simp only [score2 v L hv, ofBits_inf, fold_min_eq]
  rfl

include hv in
/-- The code word chosen for each row of the third quarter. -/
theorem word2 (i : Fin 1024) : k0_pay48 (F := Ideal) (k0_pay44 x6) (k0_pay45 v x5) (Ideal.ofBits FTy.f32 1073741824#32) (ix1 i) = BitVec.ofNat 32 (code L x5 x6 (2048 + i) : ℕ) := by
  pointwise [k0_pay48]
  simp only [score2 v L hv, least2 v L hv, least, code, fold_minsi_eq]

include hv in
/-- What is stored of the codes of the third quarter. -/
theorem out2 (a b : Fin 1) (i : Fin 1024) : k0_pay49 (F := Ideal) (k0_pay44 x6) (k0_pay45 v x5) (Ideal.ofBits FTy.f32 1073741824#32) (ix3 a b i) = BitVec.ofNat 32 (code L x5 x6 (2048 + i) : ℕ) := by
  pointwise [k0_pay49]
  simp only [word2 v L hv]

include hv in
/-- The codebook rows looked up for the third quarter, by the product with rows of zeros and a one. -/
theorem q2 (i : Fin 16) (k l : Fin 64) : k0_pay51 (F := Ideal) (k0_pay44 x6) (k0_pay45 v x5) (Ideal.ofBits FTy.f32 1073741824#32) x7 (ix3 i k l) = rd2 x7 (code L x5 x6 (2048 + (i * 64 + k))) l := by
  pointwise [k0_pay51]
  simp only [word2 v L hv, rd2_ix x7, onehot_sum]

/-! ### The last quarter of the rows -/

include hv in
/-- The scores computed for the fourth quarter of the rows. -/
theorem score3 (i : Fin 1024) (k : Fin 512) : k0_pay54 (k0_pay52 v) (k0_pay53 x6) x5 (ix2 i k) = score L x5 x6 (3072 + i) k := by
  pointwise [k0_pay54, k0_pay53, k0_pay52]
  simp only [hv, rd2_ix x5, rd2_ix x6]
  rfl

include hv in
/-- The least score of each row of the fourth quarter. -/
theorem least3 (i : Fin 1024) (k : Fin 1) : k0_pay55 (k0_pay52 v) (k0_pay53 x6) x5 (ix2 i k) = least L x5 x6 (3072 + i) := by
  pointwise [k0_pay55]
  simp only [score3 v L hv, ofBits_inf, fold_min_eq]
  rfl

include hv in
/-- The code word chosen for each row of the fourth quarter. -/
theorem word3 (i : Fin 1024) : k0_pay56 (k0_pay52 v) (k0_pay53 x6) x5 (ix1 i) = BitVec.ofNat 32 (code L x5 x6 (3072 + i) : ℕ) := by
  pointwise [k0_pay56]
  simp only [score3 v L hv, least3 v L hv, least, code, fold_minsi_eq]

include hv in
/-- What is stored of the codes of the fourth quarter. -/
theorem out3 (a b : Fin 1) (i : Fin 1024) : k0_pay57 (k0_pay52 v) (k0_pay53 x6) x5 (ix3 a b i) = BitVec.ofNat 32 (code L x5 x6 (3072 + i) : ℕ) := by
  pointwise [k0_pay57]
  simp only [word3 v L hv]

include hv in
/-- The codebook rows looked up for the fourth quarter, by the product with rows of zeros and a one. -/
theorem q3 (i : Fin 16) (k l : Fin 64) : k0_pay60 (k0_pay59 (k0_pay52 v) (k0_pay53 x6) x5 x7) (ix3 i k l) = rd2 x7 (code L x5 x6 (3072 + (i * 64 + k))) l := by
  pointwise [k0_pay60, k0_pay59]
  simp only [word3 v L hv, rd2_ix x7, onehot_sum]

/-! ### The sums the loss is made of -/

include hv in
/-- What the second quarter adds to the loss: its squares and its least scores. -/
theorem loss1 (acc : FVec Ideal S1x1 .f32) (a b : Fin 1) : k0_pay41 acc (k0_pay36 v) (k0_pay38 v x6 x5) (ix2 a b) = acc (ix2 a b) +
    (∑ i : Fin 1024, ∑ c : Fin 64, L (1024 + i) c * L (1024 + i) c + ∑ i : Fin 1024, least L x5 x6 (1024 + i)) := by
  pointwise [k0_pay41, k0_pay36]
  simp only [hv, least1 v L hv, Finset.univ_unique, Finset.sum_singleton]

include hv in
/-- What the third quarter adds to the loss: its squares and its least scores. -/
theorem loss2 (acc : FVec Ideal S1x1 .f32) (a b : Fin 1) : k0_pay50 acc (k0_pay43 v) (k0_pay44 x6) (k0_pay45 v x5) (Ideal.ofBits FTy.f32 1073741824#32 : Ideal .f32) (ix2 a b) = acc (ix2 a b) +
    (∑ i : Fin 1024, ∑ c : Fin 64, L (2048 + i) c * L (2048 + i) c + ∑ i : Fin 1024, least L x5 x6 (2048 + i)) := by
  pointwise [k0_pay50, k0_pay43]
  simp only [hv, least2 v L hv, Finset.univ_unique, Finset.sum_singleton]

include hv in
/-- What the fourth quarter adds to the loss: its squares and its least scores. -/
theorem loss3 (acc : FVec Ideal S1x1 .f32) (a b : Fin 1) : k0_pay58 acc (k0_pay52 v) (k0_pay53 x6) x5 (ix2 a b) = acc (ix2 a b) +
    (∑ i : Fin 1024, ∑ c : Fin 64, L (3072 + i) c * L (3072 + i) c + ∑ i : Fin 1024, least L x5 x6 (3072 + i)) := by
  have e := least3 v L hv x5 x6
  unfold k0_pay52 at e
  pointwise [k0_pay58, k0_pay52]
  simp only [hv, e, Finset.univ_unique, Finset.sum_singleton]

variable (a1 a2 : FVec Ideal S4096x64 .f32) (a3 : Vec Ideal S1x64x64 .f32) (a4 : Vec Ideal S1x64x64x64 .f32) (a5 : Vec Ideal S1x64x64 .f32)
  (a6 : Vec Ideal S1x64 .f32) (h0 : ∀ (p : Fin 4096) (o : Fin 64), k0_pay26 a1 a2 a3 a4 a5 a6 (ix2 p o) = L p o)

/-! ### The first quarter of the rows -/

include h0 in
/-- The scores computed for the first quarter of the rows. -/
theorem score0 (i : Fin 1024) (k : Fin 512) : k0_pay29 a1 a2 a3 a4 a5 a6 x6 x5 (ix2 i k) = score L x5 x6 i k := by
  pointwise [k0_pay29, k0_pay28]
  simp only [h0, rd2_ix x5, rd2_ix x6]
  rfl

include h0 in
/-- The least score of each row of the first quarter. -/
theorem least0 (i : Fin 1024) (k : Fin 1) : k0_pay30 a1 a2 a3 a4 a5 a6 x6 x5 (ix2 i k) = least L x5 x6 i := by
  pointwise [k0_pay30]
  simp only [score0 L _ _ _ _ _ _ _ _ h0, ofBits_inf, fold_min_eq]
  rfl

include h0 in
/-- The code word chosen for each row of the first quarter. -/
theorem word0 (i : Fin 1024) : k0_pay32 (k0_pay31 a1 a2 a3 a4 a5 a6 x6 x5) (ix1 i) = BitVec.ofNat 32 (code L x5 x6 i : ℕ) := by
  pointwise [k0_pay32, k0_pay31]
  simp only [score0 L _ _ _ _ _ _ _ _ h0, least0 L _ _ _ _ _ _ _ _ h0, least, code, fold_minsi_eq]

include h0 in
/-- What is stored of the codes of the first quarter. -/
theorem out0 (a b : Fin 1) (i : Fin 1024) : k0_pay33 (k0_pay31 a1 a2 a3 a4 a5 a6 x6 x5) (ix3 a b i) = BitVec.ofNat 32 (code L x5 x6 i : ℕ) := by
  pointwise [k0_pay33]
  simp only [word0 L _ _ _ _ _ _ _ _ h0]

include h0 in
/-- The codebook rows looked up for the first quarter, by the product with rows of zeros and a one. -/
theorem q0 (i : Fin 16) (k l : Fin 64) : k0_pay35 kernelRun0_A.sl.v224 (k0_pay31 a1 a2 a3 a4 a5 a6 x6 x5) x7 (ix3 i k l) = rd2 x7 (code L x5 x6 (i * 64 + k)) l := by
  pointwise [k0_pay35, kernelRun0_A.sl.v224]
  simp only [word0 L _ _ _ _ _ _ _ _ h0, rd2_ix x7, onehot_sum]
include h0 in
/-- What the first quarter adds to the loss: its squares and its least scores. -/
theorem loss0 (acc : FVec Ideal S1x1 .f32) (a b : Fin 1) : k0_pay34 acc (k0_pay28 a1 a2 a3 a4 a5 a6) (k0_pay30 a1 a2 a3 a4 a5 a6 x6 x5) (ix2 a b) = acc (ix2 a b) +
    (∑ i : Fin 1024, ∑ c : Fin 64, L i c * L i c + ∑ i : Fin 1024, least L x5 x6 i) := by
  pointwise [k0_pay34, k0_pay28]
  simp only [h0, least0 L _ _ _ _ _ _ _ _ h0, Finset.univ_unique, Finset.sum_singleton]
end Cert.KernelIdeal.Value
-- ==== Proof.KDec.lean ====
module
public import proofs.«01_k».proof.Proof.KVq
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec

variable (c : Dev nD) (arg1 : Memref sig .tc .vmem S1x4x16x4096 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x64 .f32) (harg4 : arg4.IsWhole) (arg5 : Memref sig .tc .vmem S1x64 .f32) (harg5 : arg5.IsWhole) (arg6 : Memref sig .tc .vmem S64x512 .f32) (harg6 : arg6.IsWhole) (arg7 : Memref sig .tc .vmem S1x512 .f32) (harg7 : arg7.IsWhole) (arg8 : Memref sig .tc .vmem S512x64 .f32) (harg8 : arg8.IsWhole) (arg16 : Memref sig .tc .vmem S2x65x65x128 .f32) (x0 : Vec Ideal S1x4x16x4096 .f32) (x1 : Vec Ideal S16x64 .f32) (x2 : Vec Ideal S1x64 .f32) (x3 : Vec Ideal S16x64x64 .f32) (x4 : Vec Ideal S1x64 .f32) (x5 : Vec Ideal S64x512 .f32) (x6 : Vec Ideal S1x512 .f32) (x7 : Vec Ideal S512x64 .f32)

/-- The chosen codes of the block: row `p`, channel `l`. -/
def quant (L : ℕ → ℕ → EReal) (x5 : Vec Ideal S64x512 .f32) (x6 : Vec Ideal S1x512 .f32) (x7 : Vec Ideal S512x64 .f32) (p l : ℕ) : EReal :=
  rd2 x7 (code L x5 x6 p) l

/-- The bordered image of the chosen codes: row `r`, column `s`, channel `l`. -/
def qpad (L : ℕ → ℕ → EReal) (x5 : Vec Ideal S64x512 .f32) (x6 : Vec Ideal S1x512 .f32) (x7 : Vec Ideal S512x64 .f32) (r s l : ℕ) : EReal :=
  pdn 64 (fun u v => quant L x5 x6 x7 (u * 64 + v) l) r s

/-- Inside the border the image holds the codebook row of the position's code. -/
theorem qpad_in (L x5 x6 x7) (r s l u v p : ℕ) (h : r = u + 1 ∧ s = v + 1 ∧ u < 64 ∧ v < 64) (hp : p = u * 64 + v) :
    qpad L x5 x6 x7 r s l = rd2 x7 (code L x5 x6 p) l := by
  subst hp
  exact pdn_in _ _ _ _ u v h

/-- The second scratch buffer, after all that is stored into it, holds the bordered image of the chosen codes. -/
theorem HS1_eq (y : S66x66x64.Idx) :
    View.canon (kernelRun0_A.sl.HS1_8 c arg1 harg1 arg2 harg2 arg3 harg3 arg4 harg4 arg5 harg5 arg6 harg6 arg7 harg7 arg8 harg8 arg16 x0 x1 x2 x3 x4 x5 x6 x7) y = qpad (lat (hid x0 x1 x2) x3 x4) x5 x6 x7 (y 0) (y 1) (y 2) := by
  have hv := r12_eq c arg1 harg1 arg2 harg2 arg3 harg3 x0 x1 x2 arg4 harg4 arg5 harg5 arg16 x3 x4
  have hv0 := hv
  unfold kernelRun0_A.sl.r_12 at hv0
  simp only [View.readAt_eq_ld, harg4.read_unread, harg5.read_unread, ld2] at hv0
  refine View.canon_apply_of_pieces (Val := Elt Ideal) (e := .f32)
    (fun y : S66x66x64.Idx => qpad (lat (hid x0 x1 x2) x3 x4) x5 x6 x7 (y 0) (y 1) (y 2)) _ ?_ y ?_
  · unfold kernelRun0_A.sl.HS1_8
    simp only [kernelRun0_A.sl.r_28, kernelRun0_A.sl.r_25, kernelRun0_A.sl.r_26, kernelRun0_A.sl.r_22, kernelRun0_A.sl.r_23,
      kernelRun0_A.sl.r_18, kernelRun0_A.sl.r_19, kernelRun0_A.sl.r_15, kernelRun0_A.sl.cst_253, View.readAt_eq_ld, harg4.read_unread, harg5.read_unread, harg6.read_unread,
      harg7.read_unread, harg8.read_unread, ld2, List.forall_mem_cons]
    refine ⟨?_, ?_, ?_, ?_, ?_, ?_, ?_, ?_, by simp⟩ <;>
      refine good3 (qpad (lat (hid x0 x1 x2) x3 x4) x5 x6 x7) _ _ _ _ _ _ _ _ fun j0 j1 j2 => ?_
    · refine Eq.trans ?_ (pdn_out _ _ _ _ (by omega)).symm
      pointwise [k0_pay65]
    · refine Eq.trans ?_ (pdn_out _ _ _ _ (by omega)).symm
      pointwise [k0_pay64]
    · refine Eq.trans ?_ (pdn_out _ _ _ _ (by omega)).symm
      pointwise [k0_pay63]
    · refine Eq.trans ?_ (pdn_out _ _ _ _ (by omega)).symm
      pointwise [k0_pay62]
    · refine Eq.trans ?_ (qpad_in _ _ _ _ _ _ _ (48 + j0) j1 (3072 + (j0 * 64 + j1)) (by omega) (by omega)).symm
      rw [q3 _ _ hv]; simp only [Nat.zero_add]
    · refine Eq.trans ?_ (qpad_in _ _ _ _ _ _ _ (32 + j0) j1 (2048 + (j0 * 64 + j1)) (by omega) (by omega)).symm
      refine (q2 _ _ hv x5 x6 x7 j0 j1 j2).trans ?_; simp only [Nat.zero_add]
    · refine Eq.trans ?_ (qpad_in _ _ _ _ _ _ _ (16 + j0) j1 (1024 + (j0 * 64 + j1)) (by omega) (by omega)).symm
      rw [q1 _ _ hv]; simp only [Nat.zero_add]
    · refine Eq.trans ?_ (qpad_in _ _ _ _ _ _ _ j0 j1 (j0 * 64 + j1) (by omega) (by omega)).symm
      refine (q0 _ x5 x6 x7 _ _ _ _ _ _ hv0 j0 j1 j2).trans ?_; simp only [Nat.zero_add]
  · unfold kernelRun0_A.sl.HS1_8
    have h0 : (y 0).val < 66 := (y 0).isLt
    have h1 : (y 1).val < 66 := (y 1).isLt
    have h2 : (y 2).val < 64 := (y 2).isLt
    simp only [List.exists_mem_cons_iff, mem3]
    generalize (y 0).val = a at *
    generalize (y 1).val = b at *
    generalize (y 2).val = d at *
    omega
end Cert.KernelIdeal.Value
-- ==== Proof.KUp.lean ====
module
public import proofs.«01_k».proof.Proof.KDec
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec

/-- One tap of the first transposed convolution: the product over the channels at bordered place `(r, s)`. -/
def tap1 (Q : ℕ → ℕ → ℕ → EReal) (x8 : Vec Ideal S16x64x64 .f32) (o kh kw r s : ℕ) : EReal :=
  ∑ c : Fin 64, Q r s c * rd3 x8 (kh * 4 + kw) c o

/-- The first transposed convolution with its bias, cut off at zero: channel `o` at place `(i, j)`. -/
def hdec (Q : ℕ → ℕ → ℕ → EReal) (x8 : Vec Ideal S16x64x64 .f32) (x9 : Vec Ideal S1x64 .f32) (o i j : ℕ) : EReal :=
  max (dect (tap1 Q x8 o) i j + rd2 x9 0 o) 0

/-- The bordered output of the first transposed convolution as the kernel keeps it: row parity `p`, row `r`, column `s`,
    and on the last axis the column parity times sixty-four plus the channel. -/
def hdp (Q : ℕ → ℕ → ℕ → EReal) (x8 : Vec Ideal S16x64x64 .f32) (x9 : Vec Ideal S1x64 .f32) (p r s l : ℕ) : EReal :=
  pdn 128 (hdec Q x8 x9 (l % 64)) (2 * r + p - 1) (2 * s + l / 64 - 1)

/-- Inside the border `hdp` is the convolution's value. -/
theorem hdp_in (Q x8 x9) (p r s l o i j : ℕ) (h : 2 * r + p - 1 = i + 1 ∧ 2 * s + l / 64 - 1 = j + 1 ∧ i < 128 ∧ j < 128) (hl : l % 64 = o) :
    hdp Q x8 x9 p r s l = hdec Q x8 x9 o i j := by
  subst hl
  exact pdn_in _ _ _ _ i j h

variable (c : Dev nD) (arg1 : Memref sig .tc .vmem S1x4x16x4096 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x64 .f32) (harg4 : arg4.IsWhole) (arg5 : Memref sig .tc .vmem S1x64 .f32) (harg5 : arg5.IsWhole) (arg6 : Memref sig .tc .vmem S64x512 .f32) (harg6 : arg6.IsWhole) (arg7 : Memref sig .tc .vmem S1x512 .f32) (harg7 : arg7.IsWhole) (arg8 : Memref sig .tc .vmem S512x64 .f32) (harg8 : arg8.IsWhole) (arg9 : Memref sig .tc .vmem S16x64x64 .f32) (harg9 : arg9.IsWhole) (arg10 : Memref sig .tc .vmem S1x64 .f32) (harg10 : arg10.IsWhole) (arg16 : Memref sig .tc .vmem S2x65x65x128 .f32) (arg17 : Memref sig .tc .vmem S66x66x64 .f32) (x0 : Vec Ideal S1x4x16x4096 .f32) (x1 : Vec Ideal S16x64 .f32) (x2 : Vec Ideal S1x64 .f32) (x3 : Vec Ideal S16x64x64 .f32) (x4 : Vec Ideal S1x64 .f32) (x5 : Vec Ideal S64x512 .f32) (x6 : Vec Ideal S1x512 .f32) (x7 : Vec Ideal S512x64 .f32) (x8 : Vec Ideal S16x64x64 .f32) (x9 : Vec Ideal S1x64 .f32)

/-- The run's word for the first transposed convolution at even rows and even columns. -/
theorem r_31_eq (p : Fin 4096) (o : Fin 64) : kernelRun0_A.sl.r_31 c arg1 harg1 arg2 harg2 arg3 harg3 arg4 harg4 arg5 harg5 arg6 harg6 arg7 harg7 arg8 harg8 arg9 harg9 arg10 harg10 arg16 arg17 x0 x1 x2 x3 x4 x5 x6 x7 x8 x9 (ix2 p o) =
    hdec (qpad (lat (hid x0 x1 x2) x3 x4) x5 x6 x7) x8 x9 o (2 * (p / 64 : ℕ)) (2 * (p % 64 : ℕ)) := by
  unfold kernelRun0_A.sl.r_31 kernelRun0_A.sl.r_29 kernelRun0_A.sl.r_30
  simp only [View.readAt_eq_ld, harg9.read_unread, harg10.read_unread]
  pointwise [k0_pay69, k0_pay66, k0_pay67, k0_pay68]
  unfold kernelRun0_A.sl.v414 kernelRun0_A.sl.v420 kernelRun0_A.sl.v426 kernelRun0_A.sl.v432
  simp only [load3 _ _ _ (HS1_eq c arg1 harg1 arg2 harg2 arg3 harg3 arg4 harg4 arg5 harg5 arg6 harg6 arg7 harg7 arg8 harg8 arg16 x0 x1 x2 x3 x4 x5 x6 x7), rd2_ix x9, rd3_ix x8]
  simp only [hdec, dect_00, tap1]
  simp [add_comm]

/-- The run's word for the first transposed convolution at even rows and odd columns. -/
theorem r_34_eq (p : Fin 4096) (o : Fin 64) : kernelRun0_A.sl.r_34 c arg1 harg1 arg2 harg2 arg3 harg3 arg4 harg4 arg5 harg5 arg6 harg6 arg7 harg7 arg8 harg8 arg9 harg9 arg10 harg10 arg16 arg17 x0 x1 x2 x3 x4 x5 x6 x7 x8 x9 (ix2 p o) =
    hdec (qpad (lat (hid x0 x1 x2) x3 x4) x5 x6 x7) x8 x9 o (2 * (p / 64 : ℕ)) (2 * (p % 64 : ℕ) + 1) := by
  unfold kernelRun0_A.sl.r_34 kernelRun0_A.sl.r_32 kernelRun0_A.sl.r_33
  simp only [View.readAt_eq_ld, harg9.read_unread, harg10.read_unread]
  pointwise [k0_pay77, k0_pay75, k0_pay76]
  unfold kernelRun0_A.sl.v414 kernelRun0_A.sl.v465 kernelRun0_A.sl.v477 kernelRun0_A.sl.v426
  simp only [load3 _ _ _ (HS1_eq c arg1 harg1 arg2 harg2 arg3 harg3 arg4 harg4 arg5 harg5 arg6 harg6 arg7 harg7 arg8 harg8 arg16 x0 x1 x2 x3 x4 x5 x6 x7), rd2_ix x9, rd3_ix x8]
  simp only [hdec, dect_01, tap1]
  simp [add_comm]

/-- The run's word for the first transposed convolution at odd rows and even columns. -/
theorem r_36_eq (p : Fin 4096) (o : Fin 64) : kernelRun0_A.sl.r_36 c arg1 harg1 arg2 harg2 arg3 harg3 arg4 harg4 arg5 harg5 arg6 harg6 arg7 harg7 arg8 harg8 arg9 harg9 arg10 harg10 arg16 arg17 x0 x1 x2 x3 x4 x5 x6 x7 x8 x9 (ix2 p o) =
    hdec (qpad (lat (hid x0 x1 x2) x3 x4) x5 x6 x7) x8 x9 o (2 * (p / 64 : ℕ) + 1) (2 * (p % 64 : ℕ)) := by
  unfold kernelRun0_A.sl.r_36 kernelRun0_A.sl.r_35
  simp only [View.readAt_eq_ld, harg9.read_unread, harg10.read_unread]
  pointwise [k0_pay85, k0_pay84]
  unfold kernelRun0_A.sl.v414 kernelRun0_A.sl.v420 kernelRun0_A.sl.v516 kernelRun0_A.sl.v522
  simp only [load3 _ _ _ (HS1_eq c arg1 harg1 arg2 harg2 arg3 harg3 arg4 harg4 arg5 harg5 arg6 harg6 arg7 harg7 arg8 harg8 arg16 x0 x1 x2 x3 x4 x5 x6 x7), rd2_ix x9, rd3_ix x8]
  simp only [hdec, dect_10, tap1]
  simp [add_comm]

/-- The run's word for the first transposed convolution at odd rows and odd columns. -/
theorem r_39_eq (p : Fin 4096) (o : Fin 64) : kernelRun0_A.sl.r_39 c arg1 harg1 arg2 harg2 arg3 harg3 arg4 harg4 arg5 harg5 arg6 harg6 arg7 harg7 arg8 harg8 arg9 harg9 arg10 harg10 arg16 arg17 x0 x1 x2 x3 x4 x5 x6 x7 x8 x9 (ix2 p o) =
    hdec (qpad (lat (hid x0 x1 x2) x3 x4) x5 x6 x7) x8 x9 o (2 * (p / 64 : ℕ) + 1) (2 * (p % 64 : ℕ) + 1) := by
  unfold kernelRun0_A.sl.r_39 kernelRun0_A.sl.r_37 kernelRun0_A.sl.r_38
  simp only [View.readAt_eq_ld, harg9.read_unread, harg10.read_unread]
  pointwise [k0_pay94, k0_pay92, k0_pay93]
  unfold kernelRun0_A.sl.v414 kernelRun0_A.sl.v465 kernelRun0_A.sl.v516 kernelRun0_A.sl.v567
  simp only [load3 _ _ _ (HS1_eq c arg1 harg1 arg2 harg2 arg3 harg3 arg4 harg4 arg5 harg5 arg6 harg6 arg7 harg7 arg8 harg8 arg16 x0 x1 x2 x3 x4 x5 x6 x7), rd2_ix x9, rd3_ix x8]
  simp only [hdec, dect_11, tap1]
  simp [add_comm]

/-- The scratch buffer of the first transposed convolution after all its stores. -/
theorem HS2_eq (y : S2x66x72x128.Idx) : View.canon (kernelRun0_A.sl.HS2_20 c arg1 harg1 arg2 harg2 arg3 harg3 arg4 harg4 arg5 harg5 arg6 harg6 arg7 harg7 arg8 harg8 arg9 harg9 arg10 harg10 arg16 arg17 x0 x1 x2 x3 x4 x5 x6 x7 x8 x9) y = hdp (qpad (lat (hid x0 x1 x2) x3 x4) x5 x6 x7) x8 x9 (y 0) (y 1) (y 2) (y 3) := by
  refine View.canon_apply_of_pieces (Val := Elt Ideal) (e := .f32)
    (fun y : S2x66x72x128.Idx => hdp (qpad (lat (hid x0 x1 x2) x3 x4) x5 x6 x7) x8 x9 (y 0) (y 1) (y 2) (y 3)) _ ?_ y ?_
  · unfold kernelRun0_A.sl.HS2_20
    simp only [List.forall_mem_cons]
    refine ⟨?_, ?_, ?_, ?_, ?_, ?_, ?_, ?_, ?_, ?_, ?_, ?_, ?_, ?_, ?_, ?_, ?_, ?_, ?_, ?_, by simp⟩ <;>
      refine good4 (hdp (qpad (lat (hid x0 x1 x2) x3 x4) x5 x6 x7) x8 x9) _ _ _ _ _ _ _ _ _ _ fun j0 j1 j2 j3 => ?_
    · refine Eq.trans ?_ (hdp_in _ _ _ _ _ _ _ j3 (2 * j1 + 1) (2 * j2 + 1) (by omega) (by omega)).symm
      pointwise [k0_pay100]
      rw [r_39_eq]
      have e1 : ((j1 : ℕ) * 64 + j2) / 64 = j1 := by omega
      have e2 : ((j1 : ℕ) * 64 + j2) % 64 = j2 := by omega
      simp only [e1, e2, add_zero]
    · refine Eq.trans ?_ (pdn_out _ _ _ _ (by omega)).symm
      pointwise [k0_pay99, k0_pay98]
    · refine Eq.trans ?_ (pdn_out _ _ _ _ (by omega)).symm
      pointwise [k0_pay97]
    · refine Eq.trans ?_ (pdn_out _ _ _ _ (by omega)).symm
      pointwise [k0_pay96]
    · refine Eq.trans ?_ (pdn_out _ _ _ _ (by omega)).symm
      pointwise [k0_pay95]
    · refine Eq.trans ?_ (hdp_in _ _ _ _ _ _ _ j3 (2 * j1 + 1) (2 * j2 + 0) (by omega) (by omega)).symm
      pointwise [k0_pay91]
      rw [r_36_eq]
      have e1 : ((j1 : ℕ) * 64 + j2) / 64 = j1 := by omega
      have e2 : ((j1 : ℕ) * 64 + j2) % 64 = j2 := by omega
      simp only [e1, e2, add_zero]
    · refine Eq.trans ?_ (pdn_out _ _ _ _ (by omega)).symm
      pointwise [k0_pay90]
    · refine Eq.trans ?_ (pdn_out _ _ _ _ (by omega)).symm
      pointwise [k0_pay89, k0_pay88]
    · refine Eq.trans ?_ (pdn_out _ _ _ _ (by omega)).symm
      pointwise [k0_pay87]
    · refine Eq.trans ?_ (pdn_out _ _ _ _ (by omega)).symm
      pointwise [k0_pay86]
    · refine Eq.trans ?_ (hdp_in _ _ _ _ _ _ _ j3 (2 * j1 + 0) (2 * j2 + 1) (by omega) (by omega)).symm
      pointwise [k0_pay83]
      rw [r_34_eq]
      have e1 : ((j1 : ℕ) * 64 + j2) / 64 = j1 := by omega
      have e2 : ((j1 : ℕ) * 64 + j2) % 64 = j2 := by omega
      simp only [e1, e2, add_zero]
    · refine Eq.trans ?_ (pdn_out _ _ _ _ (by omega)).symm
      pointwise [k0_pay82]
    · refine Eq.trans ?_ (pdn_out _ _ _ _ (by omega)).symm
      pointwise [k0_pay81]
    · refine Eq.trans ?_ (pdn_out _ _ _ _ (by omega)).symm
      pointwise [k0_pay80, k0_pay79]
    · refine Eq.trans ?_ (pdn_out _ _ _ _ (by omega)).symm
      pointwise [k0_pay78]
    · refine Eq.trans ?_ (hdp_in _ _ _ _ _ _ _ j3 (2 * j1 + 0) (2 * j2 + 0) (by omega) (by omega)).symm
      pointwise [k0_pay74]
      rw [r_31_eq]
      have e1 : ((j1 : ℕ) * 64 + j2) / 64 = j1 := by omega
      have e2 : ((j1 : ℕ) * 64 + j2) % 64 = j2 := by omega
      simp only [e1, e2, add_zero]
    · refine Eq.trans ?_ (pdn_out _ _ _ _ (by omega)).symm
      pointwise [k0_pay73]
    · refine Eq.trans ?_ (pdn_out _ _ _ _ (by omega)).symm
      pointwise [k0_pay72]
    · refine Eq.trans ?_ (pdn_out _ _ _ _ (by omega)).symm
      pointwise [k0_pay71]
    · refine Eq.trans ?_ (pdn_out _ _ _ _ (by omega)).symm
      pointwise [k0_pay70]
  · unfold kernelRun0_A.sl.HS2_20
    have h0 : (y 0).val < 2 := (y 0).isLt
    have h1 : (y 1).val < 66 := (y 1).isLt
    have h2 : (y 2).val < 72 := (y 2).isLt
    have h3 : (y 3).val < 128 := (y 3).isLt
    simp only [List.exists_mem_cons_iff, mem4]
    generalize (y 0).val = a at *
    generalize (y 1).val = b at *
    generalize (y 2).val = cc at *
    generalize (y 3).val = d at *
    rcases (by omega : a = 0 ∨ a = 1) with rfl | rfl <;> rcases lt_or_ge d 64 with hd | hd <;>
    simp only [Nat.reduceLeDiff, Nat.reduceAdd, Nat.reduceLT, false_and, true_and, and_false, false_or, zero_le, lt_irrefl]
    all_goals omega
end Cert.KernelIdeal.Value
-- ==== Proof.KOut.lean ====
module
public import proofs.«01_k».proof.Proof.KUp
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec

/-- What a rank-seven rectangle written with payload `w` must satisfy to agree with `g`. -/
theorem good7 {N : Fin 7 → ℕ} (g : ℕ → ℕ → ℕ → ℕ → ℕ → ℕ → ℕ → EReal) (a0 a1 a2 a3 a4 a5 a6 n0 n1 n2 n3 n4 n5 n6 : ℕ) (inb)
    (w : (⟨7, ![n0, n1, n2, n3, n4, n5, n6]⟩ : Shape).Idx → EReal)
    (h : ∀ (j0 : Fin n0) (j1 : Fin n1) (j2 : Fin n2) (j3 : Fin n3) (j4 : Fin n4) (j5 : Fin n5) (j6 : Fin n6),
      w (ix7 j0 j1 j2 j3 j4 j5 j6) = g (a0 + j0) (a1 + j1) (a2 + j2) (a3 + j3) (a4 + j4) (a5 + j5) (a6 + j6))
    (x : (Rect.unit (s := ⟨7, N⟩) ![a0, a1, a2, a3, a4, a5, a6] ![n0, n1, n2, n3, n4, n5, n6] inb).shape.Idx) :
    w x = (fun y : (⟨7, N⟩ : Shape).Idx => g (y 0) (y 1) (y 2) (y 3) (y 4) (y 5) (y 6))
      ((Rect.unit (s := ⟨7, N⟩) ![a0, a1, a2, a3, a4, a5, a6] ![n0, n1, n2, n3, n4, n5, n6] inb).emb x) := by
  change (⟨7, ![n0, n1, n2, n3, n4, n5, n6]⟩ : Shape).Idx at x
  refine (congrArg w (eq_ix7 x)).trans ((h (x 0) (x 1) (x 2) (x 3) (x 4) (x 5) (x 6)).trans ?_)
  show g _ _ _ _ _ _ _ = g (a0 + 1 * (x 0).val) (a1 + 1 * (x 1).val) (a2 + 1 * (x 2).val) (a3 + 1 * (x 3).val) (a4 + 1 * (x 4).val) (a5 + 1 * (x 5).val) (a6 + 1 * (x 6).val)
  simp only [one_mul]

/-- Membership of an index in a rank-seven rectangle. -/
theorem mem7 {N : Fin 7 → ℕ} (a0 a1 a2 a3 a4 a5 a6 n0 n1 n2 n3 n4 n5 n6 : ℕ) (inb) (y : (⟨7, N⟩ : Shape).Idx) :
    y ∈ (Rect.unit (s := ⟨7, N⟩) ![a0, a1, a2, a3, a4, a5, a6] ![n0, n1, n2, n3, n4, n5, n6] inb).set ↔
      (a0 ≤ (y 0).val ∧ (y 0).val < a0 + n0) ∧ (a1 ≤ (y 1).val ∧ (y 1).val < a1 + n1) ∧
      (a2 ≤ (y 2).val ∧ (y 2).val < a2 + n2) ∧ (a3 ≤ (y 3).val ∧ (y 3).val < a3 + n3) ∧
      (a4 ≤ (y 4).val ∧ (y 4).val < a4 + n4) ∧ (a5 ≤ (y 5).val ∧ (y 5).val < a5 + n5) ∧
      (a6 ≤ (y 6).val ∧ (y 6).val < a6 + n6) := by
  rw [Rect.mem_set_unit]
  exact ⟨fun h => ⟨h 0, h 1, h 2, h 3, h 4, h 5, h 6⟩, fun h i => match i with
    | ⟨0, _⟩ => h.1 | ⟨1, _⟩ => h.2.1 | ⟨2, _⟩ => h.2.2.1 | ⟨3, _⟩ => h.2.2.2.1
    | ⟨4, _⟩ => h.2.2.2.2.1 | ⟨5, _⟩ => h.2.2.2.2.2.1 | ⟨6, _⟩ => h.2.2.2.2.2.2⟩

/-- One tap of the second transposed convolution: the product over the channels at bordered place `(r, s)`. -/
def tap2 (H : ℕ → ℕ → ℕ → EReal) (x10 : Vec Ideal S64x16 .f32) (kh kw r s : ℕ) : EReal :=
  ∑ c : Fin 64, pdn 128 (H c) r s * rd2 x10 c (kh * 4 + kw)

/-- The reconstructed picture at row `i`, column `j`. -/
def pix (H : ℕ → ℕ → ℕ → EReal) (x10 : Vec Ideal S64x16 .f32) (x11 : Vec Ideal S1x1 .f32) (i j : ℕ) : EReal :=
  Ideal.logistic (dect (tap2 H x10) i j + rd2 x11 0 0)

/-- The reconstructed picture at the kernel's place: row `4 u + 2 b + a`, column `4 v + 2 e + d`. -/
def pix7 (H : ℕ → ℕ → ℕ → EReal) (x10 : Vec Ideal S64x16 .f32) (x11 : Vec Ideal S1x1 .f32) (_ a b d e u v : ℕ) : EReal :=
  pix H x10 x11 (2 * (2 * u + b) + a) (2 * (2 * v + e) + d)

variable (c : Dev nD) (i : grid0.Coords) (arg1 : Memref sig .tc .vmem S1x4x16x4096 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x64 .f32) (harg4 : arg4.IsWhole) (arg5 : Memref sig .tc .vmem S1x64 .f32) (harg5 : arg5.IsWhole) (arg6 : Memref sig .tc .vmem S64x512 .f32) (harg6 : arg6.IsWhole) (arg7 : Memref sig .tc .vmem S1x512 .f32) (harg7 : arg7.IsWhole) (arg8 : Memref sig .tc .vmem S512x64 .f32) (harg8 : arg8.IsWhole) (arg9 : Memref sig .tc .vmem S16x64x64 .f32) (harg9 : arg9.IsWhole) (arg10 : Memref sig .tc .vmem S1x64 .f32) (harg10 : arg10.IsWhole) (arg11 : Memref sig .tc .vmem S64x16 .f32) (harg11 : arg11.IsWhole) (arg12 : Memref sig .tc .vmem S1x1 .f32) (harg12 : arg12.IsWhole) (arg13 : Memref sig .tc .vmem S1x1x4096 .i32) (harg13 : arg13.IsWhole) (arg14 : Memref sig .tc .vmem S1x2x2x2x2x64x64 .f32) (harg14 : arg14.IsWhole) (arg15 : Memref sig .tc .vmem S1x1x1 .f32) (harg15 : arg15.IsWhole) (arg16 : Memref sig .tc .vmem S2x65x65x128 .f32) (harg16 : arg16.IsWhole) (arg17 : Memref sig .tc .vmem S66x66x64 .f32) (harg17 : arg17.IsWhole) (arg18 : Memref sig .tc .vmem S2x66x72x128 .f32) (harg18 : arg18.IsWhole) (x0 : Vec Ideal S1x4x16x4096 .f32) (x1 : Vec Ideal S16x64 .f32) (x2 : Vec Ideal S1x64 .f32) (x3 : Vec Ideal S16x64x64 .f32) (x4 : Vec Ideal S1x64 .f32) (x5 : Vec Ideal S64x512 .f32) (x6 : Vec Ideal S1x512 .f32) (x7 : Vec Ideal S512x64 .f32) (x8 : Vec Ideal S16x64x64 .f32) (x9 : Vec Ideal S1x64 .f32) (x10 : Vec Ideal S64x16 .f32) (x11 : Vec Ideal S1x1 .f32)

set_option maxHeartbeats 2000000 in
/-- The written picture block. -/
theorem picture_eq (y : S1x2x2x2x2x64x64.Idx) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.1 y =
    pix7 (hdec (qpad (lat (hid x0 x1 x2) x3 x4) x5 x6 x7) x8 x9) x10 x11 (y 0) (y 1) (y 2) (y 3) (y 4) (y 5) (y 6) := by
  have q1 : ∀ (a : ℕ) (j : Fin 64) (b : ℕ) (k : Fin 64) (_ : b ≤ 2), ((a + (j : ℕ)) * 72 + (b + k)) / 72 = a + j := fun a j b k h => by omega
  have q2 : ∀ (a : ℕ) (j : Fin 64) (b : ℕ) (k : Fin 64) (_ : b ≤ 2), ((a + (j : ℕ)) * 72 + (b + k)) % 72 = b + k := fun a j b k h => by omega
  have q3 : ∀ x : Fin 64, (64 + (x : ℕ)) / 64 = 1 := fun x => by omega
  have q4 : ∀ x : Fin 64, (64 + (x : ℕ)) % 64 = x := fun x => by omega
  have q5 : ∀ x : Fin 64, (x : ℕ) / 64 = 0 := fun x => by omega
  have q6 : ∀ x : Fin 64, (x : ℕ) % 64 = x := fun x => by omega
  have q7 : ∀ (j : Fin 64) (b : ℕ) (k : Fin 64) (_ : b ≤ 2), ((j : ℕ) * 72 + (b + k)) / 72 = j := fun j b k h => by omega
  have q8 : ∀ (j : Fin 64) (b : ℕ) (k : Fin 64) (_ : b ≤ 2), ((j : ℕ) * 72 + (b + k)) % 72 = b + k := fun j b k h => by omega
  have q9 : ∀ (a : ℕ) (j : Fin 64) (k : Fin 64), ((a + (j : ℕ)) * 72 + k) / 72 = a + j := fun a j k => by omega
  have q10 : ∀ (a : ℕ) (j : Fin 64) (k : Fin 64), ((a + (j : ℕ)) * 72 + k) % 72 = k := fun a j k => by omega
  have q11 : ∀ (j : Fin 64) (k : Fin 64), ((j : ℕ) * 72 + k) / 72 = j := fun j k => by omega
  have q12 : ∀ (j : Fin 64) (k : Fin 64), ((j : ℕ) * 72 + k) % 72 = k := fun j k => by omega
  have w1 : ∀ n : ℕ, 2 * (1 + n) - 1 = 2 * n + 1 := fun n => by omega
  have w2 : ∀ n : ℕ, 2 * (1 + n) = 2 * n + 2 := fun n => by omega
  have w3 : ∀ n : ℕ, 2 * (2 + n) - 1 = 2 * n + 3 := fun n => by omega
  have w4 : ∀ n : ℕ, 2 * (2 + n) = 2 * n + 4 := fun n => by omega
  unfold kernelRun0_A
  dsimp only
  refine View.canon_apply_of_pieces (Val := Elt Ideal) (e := .f32)
    (fun y : S1x2x2x2x2x64x64.Idx => pix7 (hdec (qpad (lat (hid x0 x1 x2) x3 x4) x5 x6 x7) x8 x9) x10 x11 (y 0) (y 1) (y 2) (y 3) (y 4) (y 5) (y 6)) _ ?_ y ?_
  · simp only [List.forall_mem_cons]
    refine ⟨?_, ?_, ?_, ?_, ?_, ?_, ?_, ?_, ?_, ?_, ?_, ?_, ?_, ?_, ?_, ?_, by simp⟩ <;>
      refine good7 (pix7 (hdec (qpad (lat (hid x0 x1 x2) x3 x4) x5 x6 x7) x8 x9) x10 x11) _ _ _ _ _ _ _ _ _ _ _ _ _ _ _ _ fun j0 j1 j2 j3 j4 u v => ?_
    all_goals

      obtain rfl : j1 = 0 := Subsingleton.elim _ _
      obtain rfl : j2 = 0 := Subsingleton.elim _ _
      obtain rfl : j3 = 0 := Subsingleton.elim _ _
      obtain rfl : j4 = 0 := Subsingleton.elim _ _
      simp only [kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, View.readAt_eq_ld, harg11.read_unread, harg12.read_unread, ld2]
      pointwise [k0_pay1, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
      unfold kernelRun0_A.sl.v617 kernelRun0_A.sl.v624 kernelRun0_A.sl.v631 kernelRun0_A.sl.v638
      simp only [load4 _ _ _ (HS2_eq c arg1 harg1 arg2 harg2 arg3 harg3 arg4 harg4 arg5 harg5 arg6 harg6 arg7 harg7 arg8 harg8 arg9 harg9 arg10 harg10 arg16 arg17 x0 x1 x2 x3 x4 x5 x6 x7 x8 x9), rd2_ix x10, rd2_ix x11]
      simp only [pix7, pix, zero_add, add_zero, dect_00, dect_01, dect_10, dect_11, tap2, hdp]
      simp [q1, q2, q3, q4, q5, q6, q7, q8, q9, q10, q11, q12, w1, w2, w3, w4, add_assoc]
  · have h0 : (y 0).val < 1 := (y 0).isLt
    have h1 : (y 1).val < 2 := (y 1).isLt
    have h2 : (y 2).val < 2 := (y 2).isLt
    have h3 : (y 3).val < 2 := (y 3).isLt
    have h4 : (y 4).val < 2 := (y 4).isLt
    have h5 : (y 5).val < 64 := (y 5).isLt
    have h6 : (y 6).val < 64 := (y 6).isLt
    simp only [List.exists_mem_cons_iff, mem7]
    generalize (y 0).val = a at *
    generalize (y 1).val = b at *
    generalize (y 2).val = c at *
    generalize (y 3).val = d at *
    generalize (y 4).val = e at *
    generalize (y 5).val = f at *
    generalize (y 6).val = g at *
    obtain rfl : a = 0 := by omega
    rcases (by omega : b = 0 ∨ b = 1) with rfl | rfl <;> rcases (by omega : c = 0 ∨ c = 1) with rfl | rfl <;>
      rcases (by omega : d = 0 ∨ d = 1) with rfl | rfl <;> rcases (by omega : e = 0 ∨ e = 1) with rfl | rfl <;> simp [h5, h6]

/-- The written block of code numbers. -/
theorem codes_eq (y : S1x1x4096.Idx) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1 y = BitVec.ofNat 32 (code (lat (hid x0 x1 x2) x3 x4) x5 x6 (y 2) : ℕ) := by
  have hv := r12_eq c arg1 harg1 arg2 harg2 arg3 harg3 x0 x1 x2 arg4 harg4 arg5 harg5 arg16 x3 x4
  have hv0 := hv
  unfold kernelRun0_A.sl.r_12 at hv0
  simp only [View.readAt_eq_ld, harg4.read_unread, harg5.read_unread, ld2] at hv0
  unfold kernelRun0_A
  dsimp only
  refine View.canon_apply_of_pieces (Val := Elt Ideal) (e := .i32)
    (fun y : S1x1x4096.Idx => BitVec.ofNat 32 (code (lat (hid x0 x1 x2) x3 x4) x5 x6 (y 2) : ℕ)) _ ?_ y ?_
  · simp only [kernelRun0_A.sl.r_25, kernelRun0_A.sl.r_26, kernelRun0_A.sl.r_22, kernelRun0_A.sl.r_23,
      kernelRun0_A.sl.r_18, kernelRun0_A.sl.r_19, kernelRun0_A.sl.r_15, kernelRun0_A.sl.cst_253, View.readAt_eq_ld,
      harg4.read_unread, harg5.read_unread, harg6.read_unread, harg7.read_unread, ld2, List.forall_mem_cons]
    refine ⟨?_, ?_, ?_, ?_, by simp⟩ <;>
      refine good3 (fun _ _ p => BitVec.ofNat 32 (code (lat (hid x0 x1 x2) x3 x4) x5 x6 p : ℕ)) _ _ _ _ _ _ _ _ fun a b i => ?_
    · exact out3 _ _ hv x5 x6 a b i
    · exact out2 _ _ hv x5 x6 a b i
    · exact out1 _ _ hv x5 x6 a b i
    · simp only [Nat.zero_add]
      exact out0 _ x5 x6 _ _ _ _ _ _ hv0 a b i
  · have h0 : (y 0).val < 1 := (y 0).isLt
    have h1 : (y 1).val < 1 := (y 1).isLt
    have h2 : (y 2).val < 4096 := (y 2).isLt
    simp only [List.exists_mem_cons_iff, mem3]
    generalize (y 0).val = a at *
    generalize (y 1).val = b at *
    generalize (y 2).val = d at *
    omega

/-- The sum over one quarter of the rows that the loss is made of: the squares, and the least distances. -/
def quarter (L : ℕ → ℕ → EReal) (x5 : Vec Ideal S64x512 .f32) (x6 : Vec Ideal S1x512 .f32) (b : ℕ) : EReal :=
  ∑ i : Fin 1024, ∑ c : Fin 64, L (b + i) c * L (b + i) c + ∑ i : Fin 1024, least L x5 x6 (b + i)

/-- The written share of the loss. -/
theorem share_eq (y : S1x1x1.Idx) : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.2.1 y =
    (quarter (lat (hid x0 x1 x2) x3 x4) x5 x6 0 + quarter (lat (hid x0 x1 x2) x3 x4) x5 x6 1024 + quarter (lat (hid x0 x1 x2) x3 x4) x5 x6 2048 + quarter (lat (hid x0 x1 x2) x3 x4) x5 x6 3072) * Ideal.ofBits FTy.f32 874512384#32 := by
  have hv := r12_eq c arg1 harg1 arg2 harg2 arg3 harg3 x0 x1 x2 arg4 harg4 arg5 harg5 arg16 x3 x4
  have hv0 := hv
  unfold kernelRun0_A.sl.r_12 at hv0
  simp only [View.readAt_eq_ld, harg4.read_unread, harg5.read_unread, ld2] at hv0
  unfold kernelRun0_A
  dsimp only
  refine View.canon_apply_of_pieces (Val := Elt Ideal) (e := .f32)
    (fun _ : S1x1x1.Idx => (quarter (lat (hid x0 x1 x2) x3 x4) x5 x6 0 + quarter (lat (hid x0 x1 x2) x3 x4) x5 x6 1024 + quarter (lat (hid x0 x1 x2) x3 x4) x5 x6 2048 + quarter (lat (hid x0 x1 x2) x3 x4) x5 x6 3072) * Ideal.ofBits FTy.f32 874512384#32) _ ?_ y ?_
  · simp only [kernelRun0_A.sl.r_27, kernelRun0_A.sl.r_24, kernelRun0_A.sl.r_20, kernelRun0_A.sl.r_16, kernelRun0_A.sl.r_17, kernelRun0_A.sl.r_21,
      kernelRun0_A.sl.r_13, kernelRun0_A.sl.r_14, kernelRun0_A.sl.r_25, kernelRun0_A.sl.r_26, kernelRun0_A.sl.r_22, kernelRun0_A.sl.r_23,
      kernelRun0_A.sl.r_18, kernelRun0_A.sl.r_19, kernelRun0_A.sl.r_15, kernelRun0_A.sl.cst_253, View.readAt_eq_ld,
      harg4.read_unread, harg5.read_unread, harg6.read_unread, harg7.read_unread, ld2, List.forall_mem_cons]
    refine ⟨?_, by simp⟩
    refine good3 (fun _ _ _ => (quarter (lat (hid x0 x1 x2) x3 x4) x5 x6 0 + quarter (lat (hid x0 x1 x2) x3 x4) x5 x6 1024 + quarter (lat (hid x0 x1 x2) x3 x4) x5 x6 2048 + quarter (lat (hid x0 x1 x2) x3 x4) x5 x6 3072) * Ideal.ofBits FTy.f32 874512384#32) _ _ _ _ _ _ _ _ fun a b i => ?_
    have e3 := fun acc => loss3 _ _ hv x5 x6 acc 0 0
    have e2 := fun acc => loss2 _ _ hv x5 x6 acc 0 0
    have e1 := fun acc => loss1 _ _ hv x5 x6 acc 0 0
    have e0 := fun acc => loss0 _ x5 x6 _ _ _ _ _ _ hv0 acc 0 0
    pointwise [k0_pay61]
    refine congrArg (· * Ideal.ofBits FTy.f32 874512384#32) ?_
    rw [e3, e2, e1, e0]
    simp only [quarter, zero_add]
    pointwise [k0_pay27]
  · have h0 : (y 0).val < 1 := (y 0).isLt
    have h1 : (y 1).val < 1 := (y 1).isLt
    have h2 : (y 2).val < 1 := (y 2).isLt
    simp only [List.exists_mem_cons_iff, mem3]
    generalize (y 0).val = a at *
    generalize (y 1).val = b at *
    generalize (y 2).val = d at *
    omega
end Cert.KernelIdeal.Value
-- ==== Proof.KNet.lean ====
/-
  The kernel's block functions are the network's: when a point's input blocks hold the windows of one image and the
  rearranged tables, what the body computes from them is the network at that image.
-/
module
public import proofs.«01_k».proof.Proof.Net
public import proofs.«01_k».proof.Proof.KOut
@[expose] public section
noncomputable section
open Idealize.ShloMosaic Idealize.ShloMosaic.TcCoe Idealize.SL.Sem
namespace Cert.KernelIdeal.Value
open Cert.KernelIdeal Cert.KernelIdeal.Gen Cert.Spec

variable (a : Args) (n : ℕ) (x0 : Vec Ideal S1x4x16x4096 .f32) (x1 : Vec Ideal S16x64 .f32) (x2 : Vec Ideal S1x64 .f32)
  (x3 : Vec Ideal S16x64x64 .f32) (x4 : Vec Ideal S1x64 .f32) (x5 : Vec Ideal S64x512 .f32) (x6 : Vec Ideal S1x512 .f32)
  (x7 : Vec Ideal S512x64 .f32) (x8 : Vec Ideal S16x64x64 .f32) (x9 : Vec Ideal S1x64 .f32) (x10 : Vec Ideal S64x16 .f32) (x11 : Vec Ideal S1x1 .f32)
  (h0 : ∀ (q : Fin 4) (b : Fin 16) (p : Fin 4096), x0 (ix4 0 q b p) = pdn 256 (a.x n) (4 * (p / 64) + (2 * (q / 2) + b / 4)) (4 * (p % 64) + (2 * (q % 2) + b % 4)))
  (h1 : ∀ (t : Fin 16) (o : Fin 64), x1 (ix2 t o) = a.w1 o (t / 4) (t % 4))
  (h2 : ∀ o : Fin 64, x2 (ix2 0 o) = a.b1 o)
  (h3 : ∀ (t : Fin 16) (c o : Fin 64), x3 (ix3 t c o) = a.w2 o c (t / 4) (t % 4))
  (h4 : ∀ o : Fin 64, x4 (ix2 0 o) = a.b2 o)
  (h5 : ∀ (c : Fin 64) (k : Fin 512), x5 (ix2 c k) = a.cb k c)
  (h6 : ∀ k : Fin 512, x6 (ix2 0 k) = ∑ c : Fin 64, a.cb k c * a.cb k c)
  (h7 : ∀ (k : Fin 512) (c : Fin 64), x7 (ix2 k c) = a.cb k c)
  (h8 : ∀ (t : Fin 16) (c o : Fin 64), x8 (ix3 t c o) = a.w3 c o (t / 4) (t % 4))
  (h9 : ∀ o : Fin 64, x9 (ix2 0 o) = a.b3 o)
  (h10 : ∀ (c : Fin 64) (t : Fin 16), x10 (ix2 c t) = a.w4 c (t / 4) (t % 4))
  (h11 : x11 (ix2 0 0) = a.b4)

include h0 h1 h2 in
/-- The body's first convolution is the network's at the point's image. -/
theorem hid_net (o i j : ℕ) (ho : o < 64) (hi : i < 128) (hj : j < 128) : hid x0 x1 x2 o i j = a.hid n o i j := by
  have e0 : ∀ t : Fin 16, rd4 x0 0 (i % 2 * 2 + j % 2) t (i / 2 * 64 + j / 2) = pdn 256 (a.x n) (2 * i + t / 4) (2 * j + t % 4) := fun t => by
    refine (rd4_ix x0 0 ⟨i % 2 * 2 + j % 2, by omega⟩ t ⟨i / 2 * 64 + j / 2, by omega⟩).symm.trans ((h0 _ _ _).trans ?_)
    dsimp only
    congr 1 <;> omega
  have e1 : ∀ t : Fin 16, rd2 x1 t o = a.w1 o (t / 4) (t % 4) := fun t => (rd2_ix x1 t ⟨o, ho⟩).symm.trans (h1 _ _)
  have e2 : rd2 x2 0 o = a.b1 o := (rd2_ix x2 0 ⟨o, ho⟩).symm.trans (h2 _)
  rw [hid, hplane, e2, Args.hid]
  simp only [e0, e1]
  rw [sum16 fun t => pdn 256 (a.x n) (2 * i + t / 4) (2 * j + t % 4) * a.w1 o (t / 4) (t % 4)]
  refine congrArg (fun s => max (s + a.b1 o) 0) ?_
  refine Finset.sum_congr rfl fun kh _ => Finset.sum_congr rfl fun kw _ => ?_
  rw [show ((kh : ℕ) * 4 + kw) / 4 = kh by omega, show ((kh : ℕ) * 4 + kw) % 4 = kw by omega]

include h0 h1 h2 h3 h4 in
/-- The body's second convolution is the network's at the point's image. -/
theorem lat_net (p o : ℕ) (ho : o < 64) : lat (hid x0 x1 x2) x3 x4 p o = a.lat n p o := by
  have e4 : rd2 x4 0 o = a.b2 o := (rd2_ix x4 0 ⟨o, ho⟩).symm.trans (h4 _)
  rw [lat, e4, Args.lat]
  refine congrArg (fun s => max (s + a.b2 o) 0) ?_
  refine Finset.sum_congr rfl fun kh _ => Finset.sum_congr rfl fun kw _ => Finset.sum_congr rfl fun c _ => ?_
  have e3 : rd3 x3 (kh * 4 + kw) c o = a.w2 o c kh kw := by
    refine (rd3_ix x3 ⟨(kh : ℕ) * 4 + kw, by omega⟩ c ⟨o, ho⟩).symm.trans ((h3 _ _ _).trans ?_)
    dsimp only
    congr 1 <;> omega
  rw [e3, pdn_congr fun i hi j hj => hid_net a n x0 x1 x2 h0 h1 h2 c i j c.isLt hi hj]

section codes
variable (L : ℕ → ℕ → EReal) (hL : ∀ p o, o < 64 → L p o = a.lat n p o)

include h5 h6 hL in
/-- The body's scores are the network's. -/
theorem score_net (p : ℕ) (k : Fin 512) : score L x5 x6 p k = a.score n p k := by
  have e6 : rd2 x6 0 k = ∑ c : Fin 64, a.cb k c * a.cb k c := (rd2_ix x6 0 k).symm.trans (h6 _)
  rw [score, e6, Args.score]
  congr 2
  refine Finset.sum_congr rfl fun c _ => ?_
  rw [hL _ _ c.isLt, (rd2_ix x5 c k).symm.trans (h5 _ _)]

include h5 h6 hL in
/-- The body's codes are the network's. -/
theorem code_net (p : ℕ) : code L x5 x6 p = a.code n p :=
  congrArg amin (funext fun k => score_net a n x5 x6 h5 h6 L hL p k)

include h5 h6 h7 hL in
/-- The codebook rows the body puts in place are the network's. -/
theorem qpad_net (r s l : ℕ) (hl : l < 64) : qpad L x5 x6 x7 r s l = pdn 64 (fun r s => a.quant n r s l) r s := by
  rw [qpad]
  refine pdn_congr (fun i _ j _ => ?_) r s
  rw [quant, code_net a n x5 x6 h5 h6 L hL, Args.quant]
  exact (rd2_ix x7 _ ⟨l, hl⟩).symm.trans (h7 _ _)

include h5 h6 h7 h8 h9 hL in
/-- The body's first transposed convolution is the network's. -/
theorem up_net (o i j : ℕ) (ho : o < 64) : hdec (qpad L x5 x6 x7) x8 x9 o i j = a.up n o i j := by
  have e9 : rd2 x9 0 o = a.b3 o := (rd2_ix x9 0 ⟨o, ho⟩).symm.trans (h9 _)
  rw [hdec, e9, Args.up]
  refine congrArg (fun s => max (s + a.b3 o) 0) ?_
  refine dect_congr (fun kh hkh kw hkw r s => ?_) i j
  rw [tap1]
  refine Finset.sum_congr rfl fun c _ => ?_
  have e8 : rd3 x8 (kh * 4 + kw) c o = a.w3 c o kh kw := by
    refine (rd3_ix x8 ⟨kh * 4 + kw, by omega⟩ c ⟨o, ho⟩).symm.trans ((h8 _ _ _).trans ?_)
    dsimp only
    congr 1 <;> omega
  rw [e8, qpad_net a n x5 x6 x7 h5 h6 h7 L hL r s c c.isLt]

include h5 h6 h7 h8 h9 h10 h11 hL in
/-- The body's picture is the network's. -/
theorem pix_net (i j : ℕ) : pix (hdec (qpad L x5 x6 x7) x8 x9) x10 x11 i j = a.pix n i j := by
  have e11 : rd2 x11 0 0 = a.b4 := (rd2_ix x11 0 0).symm.trans h11
  rw [pix, e11, Args.pix]
  refine congrArg (fun s => Ideal.logistic (s + a.b4)) ?_
  refine dect_congr (fun kh hkh kw hkw r s => ?_) i j
  rw [tap2]
  refine Finset.sum_congr rfl fun c _ => ?_
  have e10 : rd2 x10 c (kh * 4 + kw) = a.w4 c kh kw := by
    refine (rd2_ix x10 c ⟨kh * 4 + kw, by omega⟩).symm.trans ((h10 _ _).trans ?_)
    dsimp only
    congr 1 <;> omega
  rw [e10, pdn_congr fun i _ j _ => up_net a n x5 x6 x7 x8 x9 h5 h6 h7 h8 h9 L hL c i j c.isLt]

/-- A sum over four thousand and ninety-six rows as four sums over a thousand and twenty-four. -/
theorem sum_quarters (f : ℕ → EReal) : ∑ p : Fin 4096, f p =
    ∑ i : Fin 1024, f (0 + i) + ∑ i : Fin 1024, f (1024 + i) + ∑ i : Fin 1024, f (2048 + i) + ∑ i : Fin 1024, f (3072 + i) := by
  have e : ∀ (m k : ℕ), ∑ p : Fin (m + k), f p = ∑ i : Fin m, f i + ∑ i : Fin k, f (m + i) := fun m k => by
    rw [Fin.sum_univ_add]; rfl
  rw [e 3072 1024, e 2048 1024, e 1024 1024]
  simp only [zero_add]

include h5 h6 hL in
/-- The four quarters' sums are the image's part of the loss. -/
theorem share_net : quarter L x5 x6 0 + quarter L x5 x6 1024 + quarter L x5 x6 2048 + quarter L x5 x6 3072 = a.share n := by
  have e : ∀ b, quarter L x5 x6 b = ∑ i : Fin 1024, ∑ c : Fin 64, a.lat n (b + i) c * a.lat n (b + i) c
      + ∑ i : Fin 1024, a.score n (b + i) (a.code n (b + i)) := fun b => by
    rw [quarter]
    simp only [least, code_net a n x5 x6 h5 h6 L hL, score_net a n x5 x6 h5 h6 L hL, fun p (c : Fin 64) => hL p c c.isLt]
  simp only [e]
  rw [Args.share, sum_quarters fun p => ∑ c : Fin 64, a.lat n p c * a.lat n p c, sum_quarters fun p => a.score n p (a.code n p)]
  ac_rfl
end codes
end Cert.KernelIdeal.Value
-- ==== Proof.KHost.lean ====
/-
  The kernel's blocks and arrays: every point's input blocks read from the arguments, the three arrays the pipelined
  call leaves, and the three results the host makes of them.
-/
module
public import proofs.«01_k».proof.Proof.KPre
public import proofs.«01_k».proof.Proof.KNet
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec
open StableHlo
open Idealize.ShloMosaic.Pipeline (Dat)

variable (m : (ℓ : Loc nD τ sig) → Buf (Elt Ideal) ℓ) (c : Dev nD)

/-- The network's arguments, read from the kernel's ten argument arrays. -/
def net : Args where
  x n i j := rd4 (m ((c : Thread nD τ).loc main_arg0) : Vec Ideal S32x1x256x256 .f32) n 0 i j
  w1 o kh kw := rd4 (m ((c : Thread nD τ).loc main_arg1) : Vec Ideal S64x1x4x4 .f32) o 0 kh kw
  b1 o := rd1 (m ((c : Thread nD τ).loc main_arg2) : Vec Ideal S64 .f32) o
  w2 o i kh kw := rd4 (m ((c : Thread nD τ).loc main_arg3) : Vec Ideal S64x64x4x4 .f32) o i kh kw
  b2 o := rd1 (m ((c : Thread nD τ).loc main_arg4) : Vec Ideal S64 .f32) o
  w3 i o kh kw := rd4 (m ((c : Thread nD τ).loc main_arg5) : Vec Ideal S64x64x4x4 .f32) i o kh kw
  b3 o := rd1 (m ((c : Thread nD τ).loc main_arg6) : Vec Ideal S64 .f32) o
  w4 i kh kw := rd4 (m ((c : Thread nD τ).loc main_arg7) : Vec Ideal S64x1x4x4 .f32) i 0 kh kw
  b4 := rd1 (m ((c : Thread nD τ).loc main_arg8) : Vec Ideal S1 .f32) 0
  cb k l := rd2 (m ((c : Thread nD τ).loc main_arg9) : Vec Ideal S512x64 .f32) k l

/-- What the host's last and longest stretch before the call starts from. -/
abbrev W0 : Valuation τ sig (Elt Ideal) := after hostOps0_1 (after hostOps0 fun b => m (c, b))

/-- The memory the call finds is what that stretch leaves. -/
theorem V0_eq : V0 m c = after hostOps0_2 (W0 m c) := by
  show after (List.flatten [hostOps0, hostOps0_1, hostOps0_2]) _ = _
  rw [List.flatten_cons, List.flatten_cons, List.flatten_cons, List.flatten_nil, List.append_nil, after_append, after_append]

/-- The first operations leave argument 1 as it was. -/
theorem W0_arg1 : W0 m c (Proc.devRef .tc main_arg1) = m ((c : Thread nD τ).loc main_arg1) := by unfold_abbrev_sides; after_reads_simp
/-- The first operations leave argument 2 as it was. -/
theorem W0_arg2 : W0 m c (Proc.devRef .tc main_arg2) = m ((c : Thread nD τ).loc main_arg2) := by unfold_abbrev_sides; after_reads_simp
/-- The first operations leave argument 3 as it was. -/
theorem W0_arg3 : W0 m c (Proc.devRef .tc main_arg3) = m ((c : Thread nD τ).loc main_arg3) := by unfold_abbrev_sides; after_reads_simp
/-- The first operations leave argument 4 as it was. -/
theorem W0_arg4 : W0 m c (Proc.devRef .tc main_arg4) = m ((c : Thread nD τ).loc main_arg4) := by unfold_abbrev_sides; after_reads_simp
/-- The first operations leave argument 5 as it was. -/
theorem W0_arg5 : W0 m c (Proc.devRef .tc main_arg5) = m ((c : Thread nD τ).loc main_arg5) := by unfold_abbrev_sides; after_reads_simp
/-- The first operations leave argument 6 as it was. -/
theorem W0_arg6 : W0 m c (Proc.devRef .tc main_arg6) = m ((c : Thread nD τ).loc main_arg6) := by unfold_abbrev_sides; after_reads_simp
/-- The first operations leave argument 7 as it was. -/
theorem W0_arg7 : W0 m c (Proc.devRef .tc main_arg7) = m ((c : Thread nD τ).loc main_arg7) := by unfold_abbrev_sides; after_reads_simp
/-- The first operations leave argument 8 as it was. -/
theorem W0_arg8 : W0 m c (Proc.devRef .tc main_arg8) = m ((c : Thread nD τ).loc main_arg8) := by unfold_abbrev_sides; after_reads_simp
/-- The first operations leave argument 9 as it was. -/
theorem W0_arg9 : W0 m c (Proc.devRef .tc main_arg9) = m ((c : Thread nD τ).loc main_arg9) := by unfold_abbrev_sides; after_reads_simp

/-- Which block of the first array of the call each step works on: that of its own image. -/
theorem idx0 : ∀ t : Fin grid0.N, win0_0.index t = ![t.val, 0, 0, 0] := by decide +kernel
/-- Which block of the second array of the call each step works on: always the only one. -/
theorem idx1 : ∀ t : Fin grid0.N, win0_1.index t = ![0, 0] := by decide +kernel
/-- Which block of the third array of the call each step works on: always the only one. -/
theorem idx2 : ∀ t : Fin grid0.N, win0_2.index t = ![0, 0] := by decide +kernel
/-- Which block of the fourth array of the call each step works on: always the only one. -/
theorem idx3 : ∀ t : Fin grid0.N, win0_3.index t = ![0, 0, 0] := by decide +kernel
/-- Which block of the fifth array of the call each step works on: always the only one. -/
theorem idx4 : ∀ t : Fin grid0.N, win0_4.index t = ![0, 0] := by decide +kernel
/-- Which block of the sixth array of the call each step works on: always the only one. -/
theorem idx5 : ∀ t : Fin grid0.N, win0_5.index t = ![0, 0] := by decide +kernel
/-- Which block of the seventh array of the call each step works on: always the only one. -/
theorem idx6 : ∀ t : Fin grid0.N, win0_6.index t = ![0, 0] := by decide +kernel
/-- Which block of the eighth array of the call each step works on: always the only one. -/
theorem idx7 : ∀ t : Fin grid0.N, win0_7.index t = ![0, 0] := by decide +kernel
/-- Which block of the ninth array of the call each step works on: always the only one. -/
theorem idx8 : ∀ t : Fin grid0.N, win0_8.index t = ![0, 0, 0] := by decide +kernel
/-- Which block of the tenth array of the call each step works on: always the only one. -/
theorem idx9 : ∀ t : Fin grid0.N, win0_9.index t = ![0, 0] := by decide +kernel
/-- Which block of the eleventh array of the call each step works on: always the only one. -/
theorem idx10 : ∀ t : Fin grid0.N, win0_10.index t = ![0, 0] := by decide +kernel
/-- Which block of the twelfth array of the call each step works on: always the only one. -/
theorem idx11 : ∀ t : Fin grid0.N, win0_11.index t = ![0, 0] := by decide +kernel
/-- Which block of the thirteenth array of the call each step works on: that of its own image. -/
theorem idx12 : ∀ t : Fin grid0.N, win0_12.index t = ![t.val, 0, 0] := by decide +kernel
/-- Which block of the fourteenth array of the call each step works on: that of its own image. -/
theorem idx13 : ∀ t : Fin grid0.N, win0_13.index t = ![t.val, 0, 0, 0, 0, 0, 0] := by decide +kernel
/-- Which block of the fifteenth array of the call each step works on: that of its own image. -/
theorem idx14 : ∀ t : Fin grid0.N, win0_14.index t = ![t.val, 0, 0] := by decide +kernel

/-- What a step reads from the first array: the windows of its image, as pixels of the bordered picture. -/
theorem in0 (t : Fin cfg0.N) (q : Fin 4) (b : Fin 16) (p : Fin 4096) :
    (iblk m c 0 t : Vec Ideal S1x4x16x4096 .f32) (ix4 0 q b p)
      = pdn 256 ((net m c).x t) (4 * (p / 64) + (2 * (q / 2) + b / 4)) (4 * (p % 64) + (2 * (q % 2) + b % 4)) := by
  have ht : (t : ℕ) < 32 := t.isLt
  have e : (iblk m c 0 t : Vec Ideal S1x4x16x4096 .f32) (ix4 0 q b p)
      = (V0 m c (Proc.devRef .tc main_v202) : Vec Ideal S32x4x16x4096 .f32) (ix4 ⟨t, ht⟩ q b p) := by
    blk_simp [iblk]
    refine congrArg (V0 m c (Proc.devRef .tc main_v202) : Vec Ideal S32x4x16x4096 .f32) ?_
    blk_ext [idx0]
  rw [e, V0_eq]
  refine (pre_v202 (W0 m c) ⟨t, ht⟩ q b p).trans ?_
  refine (rd3_ix _ ⟨t, ht⟩ ⟨4 * (p / 64) + (2 * (q / 2) + b / 4), by omega⟩ ⟨4 * (p % 64) + (2 * (q % 2) + b % 4), by omega⟩).symm.trans ?_
  exact pre_v1 _ _ _ _

/-- What a step reads from the second array: the weights of the first convolution. -/
theorem in1 (t : Fin cfg0.N) (k : Fin 16) (o : Fin 64) :
    (iblk m c 1 t : Vec Ideal S16x64 .f32) (ix2 k o) = (net m c).w1 o (k / 4) (k % 4) := by
  have e : (iblk m c 1 t : Vec Ideal S16x64 .f32) = (V0 m c (Proc.devRef .tc main_v204) : Vec Ideal S16x64 .f32) := by
    blk_ext! [iblk, idx1]
  rw [e, V0_eq, pre_v204, W0_arg1]
  rfl

/-- What a step reads from the third array: the bias of the first convolution. -/
theorem in2 (t : Fin cfg0.N) (o : Fin 64) : (iblk m c 2 t : Vec Ideal S1x64 .f32) (ix2 0 o) = (net m c).b1 o := by
  have e : (iblk m c 2 t : Vec Ideal S1x64 .f32) = (V0 m c (Proc.devRef .tc main_v214) : Vec Ideal S1x64 .f32) := by
    blk_ext! [iblk, idx2]
  rw [e, V0_eq, pre_v214, W0_arg2]
  exact rd1_ix _ o

/-- What a step reads from the fourth array: the weights of the second convolution. -/
theorem in3 (t : Fin cfg0.N) (k : Fin 16) (i o : Fin 64) :
    (iblk m c 3 t : Vec Ideal S16x64x64 .f32) (ix3 k i o) = (net m c).w2 o i (k / 4) (k % 4) := by
  have e : (iblk m c 3 t : Vec Ideal S16x64x64 .f32) (ix3 k i o) = (V0 m c (Proc.devRef .tc main_v206) : Vec Ideal S16x64x64 .f32) (ix3 k i o) := by
    blk_simp [iblk]
    refine congrArg (V0 m c (Proc.devRef .tc main_v206) : Vec Ideal S16x64x64 .f32) ?_
    blk_ext [idx3]
  rw [e, V0_eq, pre_v206, W0_arg3]
  rfl

/-- What a step reads from the fifth array: the bias of the second convolution. -/
theorem in4 (t : Fin cfg0.N) (o : Fin 64) : (iblk m c 4 t : Vec Ideal S1x64 .f32) (ix2 0 o) = (net m c).b2 o := by
  have e : (iblk m c 4 t : Vec Ideal S1x64 .f32) = (V0 m c (Proc.devRef .tc main_v215) : Vec Ideal S1x64 .f32) := by
    blk_ext! [iblk, idx4]
  rw [e, V0_eq, pre_v215, W0_arg4]
  exact rd1_ix _ o

/-- What a step reads from the sixth array: the transposed codebook. -/
theorem in5 (t : Fin cfg0.N) (i : Fin 64) (k : Fin 512) :
    (iblk m c 5 t : Vec Ideal S64x512 .f32) (ix2 i k) = (net m c).cb k i := by
  have e : (iblk m c 5 t : Vec Ideal S64x512 .f32) = (V0 m c (Proc.devRef .tc main_v210) : Vec Ideal S64x512 .f32) := by
    blk_ext! [iblk, idx5]
  rw [e, V0_eq, pre_v210, W0_arg9]
  rfl

/-- What a step reads from the seventh array: the squared lengths of the codebook's rows. -/
theorem in6 (t : Fin cfg0.N) (k : Fin 512) :
    (iblk m c 6 t : Vec Ideal S1x512 .f32) (ix2 0 k) = ∑ i : Fin 64, (net m c).cb k i * (net m c).cb k i := by
  have e : (iblk m c 6 t : Vec Ideal S1x512 .f32) = (V0 m c (Proc.devRef .tc main_v213) : Vec Ideal S1x512 .f32) := by
    blk_ext! [iblk, idx6]
  rw [e, V0_eq, pre_v213, W0_arg9]
  rfl

/-- What a step reads from the eighth array: the codebook. -/
theorem in7 (t : Fin cfg0.N) (k : Fin 512) (i : Fin 64) :
    (iblk m c 7 t : Vec Ideal S512x64 .f32) (ix2 k i) = (net m c).cb k i := by
  have e : (iblk m c 7 t : Vec Ideal S512x64 .f32) = (V m c main_arg9 : Vec Ideal S512x64 .f32) := by
    blk_ext! [iblk, idx7]
  rw [e, V_main_arg9]
  exact rd2_ix _ k i

/-- What a step reads from the ninth array: the weights of the first transposed convolution. -/
theorem in8 (t : Fin cfg0.N) (k : Fin 16) (i o : Fin 64) :
    (iblk m c 8 t : Vec Ideal S16x64x64 .f32) (ix3 k i o) = (net m c).w3 i o (k / 4) (k % 4) := by
  have e : (iblk m c 8 t : Vec Ideal S16x64x64 .f32) (ix3 k i o) = (V0 m c (Proc.devRef .tc main_v208) : Vec Ideal S16x64x64 .f32) (ix3 k i o) := by
    blk_simp [iblk]
    refine congrArg (V0 m c (Proc.devRef .tc main_v208) : Vec Ideal S16x64x64 .f32) ?_
    blk_ext [idx8]
  rw [e, V0_eq, pre_v208, W0_arg5]
  rfl

/-- What a step reads from the tenth array: the bias of the first transposed convolution. -/
theorem in9 (t : Fin cfg0.N) (o : Fin 64) : (iblk m c 9 t : Vec Ideal S1x64 .f32) (ix2 0 o) = (net m c).b3 o := by
  have e : (iblk m c 9 t : Vec Ideal S1x64 .f32) = (V0 m c (Proc.devRef .tc main_v216) : Vec Ideal S1x64 .f32) := by
    blk_ext! [iblk, idx9]
  rw [e, V0_eq, pre_v216, W0_arg6]
  exact rd1_ix _ o

/-- What a step reads from the eleventh array: the weights of the last transposed convolution. -/
theorem in10 (t : Fin cfg0.N) (i : Fin 64) (k : Fin 16) :
    (iblk m c 10 t : Vec Ideal S64x16 .f32) (ix2 i k) = (net m c).w4 i (k / 4) (k % 4) := by
  have e : (iblk m c 10 t : Vec Ideal S64x16 .f32) = (V0 m c (Proc.devRef .tc main_v209) : Vec Ideal S64x16 .f32) := by
    blk_ext! [iblk, idx10]
  rw [e, V0_eq, pre_v209, W0_arg7]
  rfl

/-- What a step reads from the twelfth array: the bias of the last transposed convolution. -/
theorem in11 (t : Fin cfg0.N) : (iblk m c 11 t : Vec Ideal S1x1 .f32) (ix2 0 0) = (net m c).b4 := by
  have e : (iblk m c 11 t : Vec Ideal S1x1 .f32) = (V0 m c (Proc.devRef .tc main_v217) : Vec Ideal S1x1 .f32) := by
    blk_ext! [iblk, idx11]
  rw [e, V0_eq, pre_v217, W0_arg8]
  exact rd1_ix _ (0 : Fin 1)

/-- The second convolution at a point, from the point's blocks. -/
theorem lat_at (t : Fin cfg0.N) (p o : ℕ) (ho : o < 64) :
    lat (hid (iblk m c 0 t) (iblk m c 1 t) (iblk m c 2 t)) (iblk m c 3 t) (iblk m c 4 t) p o = (net m c).lat t p o :=
  lat_net (net m c) t _ _ _ _ _ (in0 m c t) (in1 m c t) (in2 m c t) (in3 m c t) (in4 m c t) p o ho

/-- The codes the call leaves: image by image, one a place. -/
def codesArr : Vec Ideal S32x1x4096 .i32 := fun y => BitVec.ofNat 32 ((net m c).code (y 0) (y 2) : ℕ)

/-- The pictures the call leaves, their rows and columns split by residue modulo four. -/
def picArr : Vec Ideal S32x2x2x2x2x64x64 .f32 := fun y =>
  (net m c).pix (y 0) (2 * (2 * (y 5) + (y 2)) + (y 1)) (2 * (2 * (y 6) + (y 4)) + (y 3))

/-- The loss's parts the call leaves, one an image. -/
def lossArr : Vec Ideal S32x1x1 .f32 := fun y => (net m c).share (y 0) * Ideal.ofBits FTy.f32 874512384#32

end Cert.KernelIdeal.Value
-- ==== Proof.KFin.lean ====
/-
  The arrays the pipelined call leaves, and the three results the host makes of them.
-/
module
public import proofs.«01_k».proof.Proof.KHost
@[expose] public section
set_option maxRecDepth 16384
noncomputable section
open Idealize.ShloMosaic Idealize.ShloMosaic.TcCoe Idealize.SL.Sem
namespace Cert.KernelIdeal.Value
open Cert.KernelIdeal Cert.KernelIdeal.Gen Cert.Spec
open StableHlo
open Idealize.ShloMosaic.Pipeline (Dat)

variable (m : (ℓ : Loc nD τ sig) → Buf (Elt Ideal) ℓ) (c : Dev nD)

/-- The first array the call leaves holds the codes. -/
theorem final12 : (dats m 0 c).arrAt 12 cfg0.N = codesArr m c := by
  refine (dats m 0 c).arrAt_eq_of_covers 12 _ (by decide +kernel) fun t hf y => ?_
  blk_simp
  rw [after0_12]
  unfold outsAt0
  dsimp only
  unfold out0_A_12
  refine (View.read_writes_apply_eq_canon _ _ y _ (cover0_A_12 c _ _ _ _ _ _ _ _ _ _ _ _ _ _ _ _ _ _ _ _ _ _ _ _ _ _ _ _ _ _ _ _ _ _ _ _ _ _ _ _ _ _ _ _ _ _ _ _ _ _ )).trans ?_
  refine (codes_eq c _ _ _ _ _ _ _ _ _ _ _ _ _ _ _ _ _ _ _ _ _ _ _ _ _ _ _ _ _ _ _ _ _ _ _ _ _ _ _ _ _ _ _ _ _ _ _ _ _ y).trans ?_
  rw [code_net (net m c) t _ _ (in5 m c t) (in6 m c t) _ (lat_at m c t)]
  have e0 : (((cfg0.win 12).blk t).view.emb y 0 : ℕ) = t := by blk_simp [idx12]
  have e2 : (((cfg0.win 12).blk t).view.emb y 2 : ℕ) = y 2 := by blk_simp [idx12]
  exact (congrArg₂ (fun a b : ℕ => BitVec.ofNat 32 ((net m c).code a b : ℕ)) e0 e2).symm

/-- The second holds the pictures rebuilt. -/
theorem final13 : (dats m 0 c).arrAt 13 cfg0.N = picArr m c := by
  refine (dats m 0 c).arrAt_eq_of_covers 13 _ (by decide +kernel) fun t hf y => ?_
  blk_simp
  rw [after0_13]
  unfold outsAt0
  dsimp only
  unfold out0_A_13
  refine (View.read_writes_apply_eq_canon _ _ y _ (cover0_A_13 c _ _ _ _ _ _ _ _ _ _ _ _ _ _ _ _ _ _ _ _ _ _ _ _ _ _ _ _ _ _ _ _ _ _ _ _ _ _ _ _ _ _ _ _ _ _ _ _ _ _ )).trans ?_
  refine (picture_eq c _ _ _ _ _ _ _ _ _ _ _ _ _ _ _ _ _ _ _ _ _ _ _ _ _ _ _ _ _ _ _ _ _ _ _ _ _ _ _ _ _ _ _ _ _ _ _ _ _ y).trans ?_
  rw [pix7, pix_net (net m c) t _ _ _ _ _ _ _ (in5 m c t) (in6 m c t) (in7 m c t) (in8 m c t) (in9 m c t) (in10 m c t) (in11 m c t) _ (lat_at m c t)]
  have e0 : (((cfg0.win 13).blk t).view.emb y 0 : ℕ) = t := by blk_simp [idx13]
  have e1 : (((cfg0.win 13).blk t).view.emb y 1 : ℕ) = y 1 := by blk_simp [idx13]
  have e2 : (((cfg0.win 13).blk t).view.emb y 2 : ℕ) = y 2 := by blk_simp [idx13]
  have e3 : (((cfg0.win 13).blk t).view.emb y 3 : ℕ) = y 3 := by blk_simp [idx13]
  have e4 : (((cfg0.win 13).blk t).view.emb y 4 : ℕ) = y 4 := by blk_simp [idx13]
  have e5 : (((cfg0.win 13).blk t).view.emb y 5 : ℕ) = y 5 := by blk_simp [idx13]
  have e6 : (((cfg0.win 13).blk t).view.emb y 6 : ℕ) = y 6 := by blk_simp [idx13]
  rw [← e0, ← e1, ← e2, ← e3, ← e4, ← e5, ← e6]
  rfl

/-- The third holds the loss of every image. -/
theorem final14 : (dats m 0 c).arrAt 14 cfg0.N = lossArr m c := by
  refine (dats m 0 c).arrAt_eq_of_covers 14 _ (by decide +kernel) fun t hf y => ?_
  blk_simp
  rw [after0_14]
  unfold outsAt0
  dsimp only
  unfold out0_A_14
  refine (View.read_writes_apply_eq_canon _ _ y _ (cover0_A_14 c _ _ _ _ _ _ _ _ _ _ _ _ _ _ _ _ _ _ _ _ _ _ _ _ _ _ _ _ _ _ _ _ _ _ _ _ _ _ _ _ _ _ _ _ _ _ _ _ _ _ )).trans ?_
  refine (share_eq c _ _ _ _ _ _ _ _ _ _ _ _ _ _ _ _ _ _ _ _ _ _ _ _ _ _ _ _ _ _ _ _ _ _ _ _ _ _ _ _ _ _ _ _ _ _ _ _ _ y).trans ?_
  rw [share_net (net m c) t _ _ (in5 m c t) (in6 m c t) _ (lat_at m c t)]
  have e0 : (((cfg0.win 14).blk t).view.emb y 0 : ℕ) = t := by blk_simp [idx14]
  exact (congrArg (fun a : ℕ => (net m c).share a * Ideal.ofBits FTy.f32 874512384#32) e0).symm

/-- What the host's last operations start from: the call's arrays in place of what the call found. -/
abbrev W1 : Valuation τ sig (Elt Ideal) :=
  Pipeline.withArrays spec0 c (V0 m c) fun w => (dats m 0 c).arrAt w cfg0.N

/-- The arrays of the call are different ones. -/
theorem inj0 : Function.Injective (Pipeline.arrRef spec0) := by decide

/-- The last operations find the codes in the first array. -/
theorem W1_12 : W1 m c (Proc.devRef .tc main_v218_0) = codesArr m c :=
  (Pipeline.withArrays_arr spec0 inj0 c (V0 m c) (fun w => (dats m 0 c).arrAt w cfg0.N) 12).trans (final12 m c)
/-- They find the pictures in the second. -/
theorem W1_13 : W1 m c (Proc.devRef .tc main_v218_1) = picArr m c :=
  (Pipeline.withArrays_arr spec0 inj0 c (V0 m c) (fun w => (dats m 0 c).arrAt w cfg0.N) 13).trans (final13 m c)
/-- They find the losses in the third. -/
theorem W1_14 : W1 m c (Proc.devRef .tc main_v218_2) = lossArr m c :=
  (Pipeline.withArrays_arr spec0 inj0 c (V0 m c) (fun w => (dats m 0 c).arrAt w cfg0.N) 14).trans (final14 m c)

/-- The codes laid out as one column. -/
theorem codes_at (X : Vec Ideal S32x1x4096 .i32) (h h') (r : Fin 131072) :
    (broadcastInDim S131072x1 ![0] h (shapeCast S131072 X h') : Vec Ideal S131072x1 .i32) (ix2 r 0) = X (ix3 ⟨r / 4096, by omega⟩ 0 ⟨r % 4096, by omega⟩) := by
  pointwise

/-- The pictures with their rows and columns put together again. -/
theorem pics_at (X : Vec Ideal S32x2x2x2x2x64x64 .f32) (h h') (n : Fin 32) (y x : Fin 256) :
    (shapeCast S32x1x256x256 (transpose S32x64x2x2x64x2x2 [0, 5, 2, 1, 6, 4, 3] X h) h' : Vec Ideal S32x1x256x256 .f32) (ix4 n 0 y x)
      = X (ix7 n ⟨y % 2, by omega⟩ ⟨y / 2 % 2, by omega⟩ ⟨x % 2, by omega⟩ ⟨x / 2 % 2, by omega⟩ ⟨y / 4, by omega⟩ ⟨x / 4, by omega⟩) := by
  pointwise

/-- The losses of the images added. -/
theorem loss_at (X : FVec Ideal S32x1x1 .f32) (h : S32x1x1.ReducesTo [0, 1, 2] S_) (h') :
    (Host.reduceAdd (F := Ideal) (t := S_) X (constant S_ .f32 0x00000000#32) h h' : S_.Idx → EReal) ix0 = ∑ n : Fin 32, rd3 X n 0 0 := by
  pointwise
  simp only [Finset.univ_unique, Finset.sum_singleton]
  exact Finset.sum_congr rfl fun n _ => rd3_ix X n 0 0

section values
variable (W : Valuation τ sig (Elt Ideal))
/-- The column of codes, read off the array of codes. -/
theorem post_v220 (r : Fin 131072) : (after hostOps1 W (Proc.devRef .tc main_v220) : Vec Ideal S131072x1 .i32) (ix2 r 0)
    = (W (Proc.devRef .tc main_v218_0) : Vec Ideal S32x1x4096 .i32) (ix3 ⟨r / 4096, by omega⟩ 0 ⟨r % 4096, by omega⟩) := by
  unfold_abbrev_sides
  after_reads_simp
  exact codes_at _ _ _ r
/-- The pictures, read off the array of pixels apart by parity. -/
theorem post_v222 (n : Fin 32) (y x : Fin 256) : (after hostOps1 W (Proc.devRef .tc main_v222) : Vec Ideal S32x1x256x256 .f32) (ix4 n 0 y x)
    = (W (Proc.devRef .tc main_v218_1) : Vec Ideal S32x2x2x2x2x64x64 .f32)
      (ix7 n ⟨y % 2, by omega⟩ ⟨y / 2 % 2, by omega⟩ ⟨x % 2, by omega⟩ ⟨x / 2 % 2, by omega⟩ ⟨y / 4, by omega⟩ ⟨x / 4, by omega⟩) := by
  unfold_abbrev_sides
  after_reads_simp
  exact pics_at _ _ _ n y x
/-- The loss, as the sum of the losses of the images. -/
theorem post_v223 : (after hostOps1 W (Proc.devRef .tc main_v223) : Vec Ideal S_ .f32) ix0
    = ∑ n : Fin 32, rd3 (W (Proc.devRef .tc main_v218_2) : Vec Ideal S32x1x1 .f32) n 0 0 := by
  unfold_abbrev_sides
  after_reads_simp
  exact loss_at _ _ _
end values

/-- The kernel's second result: the code of every position. -/
theorem res_codes (r : Fin 131072) : (Pipeline.afterTail₀ cfgs (dats m) 0 (V0 m) [hostOps1] c main_v220 : Vec Ideal S131072x1 .i32) (ix2 r 0)
    = BitVec.ofNat 32 ((net m c).code (r / 4096) (r % 4096) : ℕ) := by
  have e : (Pipeline.afterTail₀ cfgs (dats m) 0 (V0 m) [hostOps1] c main_v220 : Vec Ideal S131072x1 .i32)
      = (after hostOps1 (W1 m c) (Proc.devRef .tc main_v220) : Vec Ideal S131072x1 .i32) := rfl
  rw [e]
  refine (post_v220 _ r).trans ?_
  rw [W1_12]
  rfl

/-- The kernel's third result: every pixel of the pictures rebuilt. -/
theorem res_pics (n : Fin 32) (y x : Fin 256) : (Pipeline.afterTail₀ cfgs (dats m) 0 (V0 m) [hostOps1] c main_v222 : Vec Ideal S32x1x256x256 .f32) (ix4 n 0 y x)
    = (net m c).pix n y x := by
  have e : (Pipeline.afterTail₀ cfgs (dats m) 0 (V0 m) [hostOps1] c main_v222 : Vec Ideal S32x1x256x256 .f32)
      = (after hostOps1 (W1 m c) (Proc.devRef .tc main_v222) : Vec Ideal S32x1x256x256 .f32) := rfl
  rw [e]
  refine (post_v222 _ n y x).trans ?_
  rw [W1_13]
  show (net m c).pix n (2 * (2 * ((y : ℕ) / 4) + (y : ℕ) / 2 % 2) + (y : ℕ) % 2) (2 * (2 * ((x : ℕ) / 4) + (x : ℕ) / 2 % 2) + (x : ℕ) % 2) = _
  congr 1 <;> omega

/-- The kernel's first result: the sum of the images' shares of the loss, each scaled. -/
theorem res_loss : (Pipeline.afterTail₀ cfgs (dats m) 0 (V0 m) [hostOps1] c main_v223 : Vec Ideal S_ .f32) ix0
    = (net m c).loss := by
  have e : (Pipeline.afterTail₀ cfgs (dats m) 0 (V0 m) [hostOps1] c main_v223 : Vec Ideal S_ .f32)
      = (after hostOps1 (W1 m c) (Proc.devRef .tc main_v223) : Vec Ideal S_ .f32) := rfl
  rw [e]
  refine (post_v223 (W1 m c)).trans ?_
  rw [W1_14, Args.loss]
  exact Finset.sum_congr (M := EReal) rfl fun n _ => (rd3_ix (lossArr m c) n 0 0).symm
end Cert.KernelIdeal.Value
-- ==== Proof.RefOps.lean ====
/- The reference program's host operations, listed in the order in which they run and cut into stages; what a stage
   does not write it leaves unchanged, and a run of the program ends with what the stages leave in turn. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The concatenation of four windows of a stack, by name: its operands are plain arguments. -/
def fn_main_v9 : (main_v5 : Ref sig .tc).ty.Contents (Elt F) → (main_v6 : Ref sig .tc).ty.Contents (Elt F) → (main_v7 : Ref sig .tc).ty.Contents (Elt F) → (main_v8 : Ref sig .tc).ty.Contents (Elt F) → (main_v9 : Ref sig .tc).ty.Contents (Elt F) :=
  (fun u0 u1 u2 u3 => (concatenate S32x1x4x128x258 2 [⟨S32x1x1x128x258, (u0 : (⟨S32x1x1x128x258, .f32⟩ : BufTy).Contents (Elt F))⟩, ⟨S32x1x1x128x258, (u1 : (⟨S32x1x1x128x258, .f32⟩ : BufTy).Contents (Elt F))⟩, ⟨S32x1x1x128x258, (u2 : (⟨S32x1x1x128x258, .f32⟩ : BufTy).Contents (Elt F))⟩, ⟨S32x1x1x128x258, (u3 : (⟨S32x1x1x128x258, .f32⟩ : BufTy).Contents (Elt F))⟩] concatenates_S32x1x1x128x258_S32x1x1x128x258_S32x1x1x128x258_S32x1x1x128x258_S32x1x4x128x258_d2 : (⟨S32x1x4x128x258, .f32⟩ : BufTy).Contents (Elt F)))

/-- The concatenation of four windows of a stack, by name: its operands are plain arguments. -/
def fn_main_v18 : (main_v14 : Ref sig .tc).ty.Contents (Elt F) → (main_v15 : Ref sig .tc).ty.Contents (Elt F) → (main_v16 : Ref sig .tc).ty.Contents (Elt F) → (main_v17 : Ref sig .tc).ty.Contents (Elt F) → (main_v18 : Ref sig .tc).ty.Contents (Elt F) :=
  (fun u0 u1 u2 u3 => (concatenate S32x1x4x4x128x128 3 [⟨S32x1x4x1x128x128, (u0 : (⟨S32x1x4x1x128x128, .f32⟩ : BufTy).Contents (Elt F))⟩, ⟨S32x1x4x1x128x128, (u1 : (⟨S32x1x4x1x128x128, .f32⟩ : BufTy).Contents (Elt F))⟩, ⟨S32x1x4x1x128x128, (u2 : (⟨S32x1x4x1x128x128, .f32⟩ : BufTy).Contents (Elt F))⟩, ⟨S32x1x4x1x128x128, (u3 : (⟨S32x1x4x1x128x128, .f32⟩ : BufTy).Contents (Elt F))⟩] concatenates_S32x1x4x1x128x128_S32x1x4x1x128x128_S32x1x4x1x128x128_S32x1x4x1x128x128_S32x1x4x4x128x128_d3 : (⟨S32x1x4x4x128x128, .f32⟩ : BufTy).Contents (Elt F)))

/-- The concatenation of four windows of a stack, by name: its operands are plain arguments. -/
def fn_main_v34 : (main_v30 : Ref sig .tc).ty.Contents (Elt F) → (main_v31 : Ref sig .tc).ty.Contents (Elt F) → (main_v32 : Ref sig .tc).ty.Contents (Elt F) → (main_v33 : Ref sig .tc).ty.Contents (Elt F) → (main_v34 : Ref sig .tc).ty.Contents (Elt F) :=
  (fun u0 u1 u2 u3 => (concatenate S32x64x4x64x130 2 [⟨S32x64x1x64x130, (u0 : (⟨S32x64x1x64x130, .f32⟩ : BufTy).Contents (Elt F))⟩, ⟨S32x64x1x64x130, (u1 : (⟨S32x64x1x64x130, .f32⟩ : BufTy).Contents (Elt F))⟩, ⟨S32x64x1x64x130, (u2 : (⟨S32x64x1x64x130, .f32⟩ : BufTy).Contents (Elt F))⟩, ⟨S32x64x1x64x130, (u3 : (⟨S32x64x1x64x130, .f32⟩ : BufTy).Contents (Elt F))⟩] concatenates_S32x64x1x64x130_S32x64x1x64x130_S32x64x1x64x130_S32x64x1x64x130_S32x64x4x64x130_d2 : (⟨S32x64x4x64x130, .f32⟩ : BufTy).Contents (Elt F)))

/-- The concatenation of four windows of a stack, by name: its operands are plain arguments. -/
def fn_main_v43 : (main_v39 : Ref sig .tc).ty.Contents (Elt F) → (main_v40 : Ref sig .tc).ty.Contents (Elt F) → (main_v41 : Ref sig .tc).ty.Contents (Elt F) → (main_v42 : Ref sig .tc).ty.Contents (Elt F) → (main_v43 : Ref sig .tc).ty.Contents (Elt F) :=
  (fun u0 u1 u2 u3 => (concatenate S32x64x4x4x64x64 3 [⟨S32x64x4x1x64x64, (u0 : (⟨S32x64x4x1x64x64, .f32⟩ : BufTy).Contents (Elt F))⟩, ⟨S32x64x4x1x64x64, (u1 : (⟨S32x64x4x1x64x64, .f32⟩ : BufTy).Contents (Elt F))⟩, ⟨S32x64x4x1x64x64, (u2 : (⟨S32x64x4x1x64x64, .f32⟩ : BufTy).Contents (Elt F))⟩, ⟨S32x64x4x1x64x64, (u3 : (⟨S32x64x4x1x64x64, .f32⟩ : BufTy).Contents (Elt F))⟩] concatenates_S32x64x4x1x64x64_S32x64x4x1x64x64_S32x64x4x1x64x64_S32x64x4x1x64x64_S32x64x4x4x64x64_d3 : (⟨S32x64x4x4x64x64, .f32⟩ : BufTy).Contents (Elt F)))

/-- The concatenation of four windows of a stack, by name: its operands are plain arguments. -/
def fn_main_v99 : (main_v95 : Ref sig .tc).ty.Contents (Elt F) → (main_v96 : Ref sig .tc).ty.Contents (Elt F) → (main_v97 : Ref sig .tc).ty.Contents (Elt F) → (main_v98 : Ref sig .tc).ty.Contents (Elt F) → (main_v99 : Ref sig .tc).ty.Contents (Elt F) :=
  (fun u0 u1 u2 u3 => (concatenate S32x64x4x128x131 2 [⟨S32x64x1x128x131, (u0 : (⟨S32x64x1x128x131, .f32⟩ : BufTy).Contents (Elt F))⟩, ⟨S32x64x1x128x131, (u1 : (⟨S32x64x1x128x131, .f32⟩ : BufTy).Contents (Elt F))⟩, ⟨S32x64x1x128x131, (u2 : (⟨S32x64x1x128x131, .f32⟩ : BufTy).Contents (Elt F))⟩, ⟨S32x64x1x128x131, (u3 : (⟨S32x64x1x128x131, .f32⟩ : BufTy).Contents (Elt F))⟩] concatenates_S32x64x1x128x131_S32x64x1x128x131_S32x64x1x128x131_S32x64x1x128x131_S32x64x4x128x131_d2 : (⟨S32x64x4x128x131, .f32⟩ : BufTy).Contents (Elt F)))

/-- The concatenation of four windows of a stack, by name: its operands are plain arguments. -/
def fn_main_v108 : (main_v104 : Ref sig .tc).ty.Contents (Elt F) → (main_v105 : Ref sig .tc).ty.Contents (Elt F) → (main_v106 : Ref sig .tc).ty.Contents (Elt F) → (main_v107 : Ref sig .tc).ty.Contents (Elt F) → (main_v108 : Ref sig .tc).ty.Contents (Elt F) :=
  (fun u0 u1 u2 u3 => (concatenate S32x64x4x4x128x128 3 [⟨S32x64x4x1x128x128, (u0 : (⟨S32x64x4x1x128x128, .f32⟩ : BufTy).Contents (Elt F))⟩, ⟨S32x64x4x1x128x128, (u1 : (⟨S32x64x4x1x128x128, .f32⟩ : BufTy).Contents (Elt F))⟩, ⟨S32x64x4x1x128x128, (u2 : (⟨S32x64x4x1x128x128, .f32⟩ : BufTy).Contents (Elt F))⟩, ⟨S32x64x4x1x128x128, (u3 : (⟨S32x64x4x1x128x128, .f32⟩ : BufTy).Contents (Elt F))⟩] concatenates_S32x64x4x1x128x128_S32x64x4x1x128x128_S32x64x4x1x128x128_S32x64x4x1x128x128_S32x64x4x4x128x128_d3 : (⟨S32x64x4x4x128x128, .f32⟩ : BufTy).Contents (Elt F)))

/-- The concatenation of four windows of a stack, by name: its operands are plain arguments. -/
def fn_main_v125 : (main_v121 : Ref sig .tc).ty.Contents (Elt F) → (main_v122 : Ref sig .tc).ty.Contents (Elt F) → (main_v123 : Ref sig .tc).ty.Contents (Elt F) → (main_v124 : Ref sig .tc).ty.Contents (Elt F) → (main_v125 : Ref sig .tc).ty.Contents (Elt F) :=
  (fun u0 u1 u2 u3 => (concatenate S32x64x4x256x259 2 [⟨S32x64x1x256x259, (u0 : (⟨S32x64x1x256x259, .f32⟩ : BufTy).Contents (Elt F))⟩, ⟨S32x64x1x256x259, (u1 : (⟨S32x64x1x256x259, .f32⟩ : BufTy).Contents (Elt F))⟩, ⟨S32x64x1x256x259, (u2 : (⟨S32x64x1x256x259, .f32⟩ : BufTy).Contents (Elt F))⟩, ⟨S32x64x1x256x259, (u3 : (⟨S32x64x1x256x259, .f32⟩ : BufTy).Contents (Elt F))⟩] concatenates_S32x64x1x256x259_S32x64x1x256x259_S32x64x1x256x259_S32x64x1x256x259_S32x64x4x256x259_d2 : (⟨S32x64x4x256x259, .f32⟩ : BufTy).Contents (Elt F)))

/-- The concatenation of four windows of a stack, by name: its operands are plain arguments. -/
def fn_main_v134 : (main_v130 : Ref sig .tc).ty.Contents (Elt F) → (main_v131 : Ref sig .tc).ty.Contents (Elt F) → (main_v132 : Ref sig .tc).ty.Contents (Elt F) → (main_v133 : Ref sig .tc).ty.Contents (Elt F) → (main_v134 : Ref sig .tc).ty.Contents (Elt F) :=
  (fun u0 u1 u2 u3 => (concatenate S32x64x4x4x256x256 3 [⟨S32x64x4x1x256x256, (u0 : (⟨S32x64x4x1x256x256, .f32⟩ : BufTy).Contents (Elt F))⟩, ⟨S32x64x4x1x256x256, (u1 : (⟨S32x64x4x1x256x256, .f32⟩ : BufTy).Contents (Elt F))⟩, ⟨S32x64x4x1x256x256, (u2 : (⟨S32x64x4x1x256x256, .f32⟩ : BufTy).Contents (Elt F))⟩, ⟨S32x64x4x1x256x256, (u3 : (⟨S32x64x4x1x256x256, .f32⟩ : BufTy).Contents (Elt F))⟩] concatenates_S32x64x4x1x256x256_S32x64x4x1x256x256_S32x64x4x1x256x256_S32x64x4x1x256x256_S32x64x4x4x256x256_d3 : (⟨S32x64x4x4x256x256, .f32⟩ : BufTy).Contents (Elt F)))

/-- The operations of the first convolution and its rectification. -/
abbrev conv1Ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S32x1x256x256, .f32⟩) main_arg0) (TRef.of (T := ⟨S_, .f32⟩) main_call0_v0) (TRef.of (T := ⟨S32x1x258x258, .f32⟩) main_v0) (fun x v => pad S32x1x258x258 ![0, 0, 1, 1] ![0, 0, 1, 1] ![0, 0, 0, 0] x v pads_S32x1x256x256_S32x1x258x258_000_000_110_110 h_S_),
    unary main_v0 main_v1 ((Host.slice S32x1x128x258 ![0, 0, 0, 0] ![1, 1, 2, 1] · slicesBy_S32x1x258x258_S32x1x128x258_0s1_0s1_0s2_0s1) : (⟨S32x1x258x258, .f32⟩ : BufTy).Contents (Elt F) → (⟨S32x1x128x258, .f32⟩ : BufTy).Contents (Elt F)),
    unary main_v0 main_v2 ((Host.slice S32x1x128x258 ![0, 0, 1, 0] ![1, 1, 2, 1] · slicesBy_S32x1x258x258_S32x1x128x258_0s1_0s1_1s2_0s1) : (⟨S32x1x258x258, .f32⟩ : BufTy).Contents (Elt F) → (⟨S32x1x128x258, .f32⟩ : BufTy).Contents (Elt F)),
    unary main_v0 main_v3 ((Host.slice S32x1x128x258 ![0, 0, 2, 0] ![1, 1, 2, 1] · slicesBy_S32x1x258x258_S32x1x128x258_0s1_0s1_2s2_0s1) : (⟨S32x1x258x258, .f32⟩ : BufTy).Contents (Elt F) → (⟨S32x1x128x258, .f32⟩ : BufTy).Contents (Elt F)),
    unary main_v0 main_v4 ((Host.slice S32x1x128x258 ![0, 0, 3, 0] ![1, 1, 2, 1] · slicesBy_S32x1x258x258_S32x1x128x258_0s1_0s1_3s2_0s1) : (⟨S32x1x258x258, .f32⟩ : BufTy).Contents (Elt F) → (⟨S32x1x128x258, .f32⟩ : BufTy).Contents (Elt F)),
    unary main_v1 main_v5 (broadcastInDim S32x1x1x128x258 ![0, 1, 3, 4] bcast_S32x1x128x258_S32x1x1x128x258_0_1_3_4 : (⟨S32x1x128x258, .f32⟩ : BufTy).Contents (Elt F) → (⟨S32x1x1x128x258, .f32⟩ : BufTy).Contents (Elt F)),
    unary main_v2 main_v6 (broadcastInDim S32x1x1x128x258 ![0, 1, 3, 4] bcast_S32x1x128x258_S32x1x1x128x258_0_1_3_4 : (⟨S32x1x128x258, .f32⟩ : BufTy).Contents (Elt F) → (⟨S32x1x1x128x258, .f32⟩ : BufTy).Contents (Elt F)),
    unary main_v3 main_v7 (broadcastInDim S32x1x1x128x258 ![0, 1, 3, 4] bcast_S32x1x128x258_S32x1x1x128x258_0_1_3_4 : (⟨S32x1x128x258, .f32⟩ : BufTy).Contents (Elt F) → (⟨S32x1x1x128x258, .f32⟩ : BufTy).Contents (Elt F)),
    unary main_v4 main_v8 (broadcastInDim S32x1x1x128x258 ![0, 1, 3, 4] bcast_S32x1x128x258_S32x1x1x128x258_0_1_3_4 : (⟨S32x1x128x258, .f32⟩ : BufTy).Contents (Elt F) → (⟨S32x1x1x128x258, .f32⟩ : BufTy).Contents (Elt F)),
    nary ![main_v5, main_v6, main_v7, main_v8] main_v9 (fun u => fn_main_v9 (F := F) (u 0) (u 1) (u 2) (u 3)),
    unary main_v9 main_v10 ((Host.slice S32x1x4x128x128 ![0, 0, 0, 0, 0] ![1, 1, 1, 1, 2] · slicesBy_S32x1x4x128x258_S32x1x4x128x128_0s1_0s1_0s1_0s1_0s2) : (⟨S32x1x4x128x258, .f32⟩ : BufTy).Contents (Elt F) → (⟨S32x1x4x128x128, .f32⟩ : BufTy).Contents (Elt F)),
    unary main_v9 main_v11 ((Host.slice S32x1x4x128x128 ![0, 0, 0, 0, 1] ![1, 1, 1, 1, 2] · slicesBy_S32x1x4x128x258_S32x1x4x128x128_0s1_0s1_0s1_0s1_1s2) : (⟨S32x1x4x128x258, .f32⟩ : BufTy).Contents (Elt F) → (⟨S32x1x4x128x128, .f32⟩ : BufTy).Contents (Elt F)),
    unary main_v9 main_v12 ((Host.slice S32x1x4x128x128 ![0, 0, 0, 0, 2] ![1, 1, 1, 1, 2] · slicesBy_S32x1x4x128x258_S32x1x4x128x128_0s1_0s1_0s1_0s1_2s2) : (⟨S32x1x4x128x258, .f32⟩ : BufTy).Contents (Elt F) → (⟨S32x1x4x128x128, .f32⟩ : BufTy).Contents (Elt F)),
    unary main_v9 main_v13 ((Host.slice S32x1x4x128x128 ![0, 0, 0, 0, 3] ![1, 1, 1, 1, 2] · slicesBy_S32x1x4x128x258_S32x1x4x128x128_0s1_0s1_0s1_0s1_3s2) : (⟨S32x1x4x128x258, .f32⟩ : BufTy).Contents (Elt F) → (⟨S32x1x4x128x128, .f32⟩ : BufTy).Contents (Elt F)),
    unary main_v10 main_v14 (broadcastInDim S32x1x4x1x128x128 ![0, 1, 2, 4, 5] bcast_S32x1x4x128x128_S32x1x4x1x128x128_0_1_2_4_5 : (⟨S32x1x4x128x128, .f32⟩ : BufTy).Contents (Elt F) → (⟨S32x1x4x1x128x128, .f32⟩ : BufTy).Contents (Elt F)),
    unary main_v11 main_v15 (broadcastInDim S32x1x4x1x128x128 ![0, 1, 2, 4, 5] bcast_S32x1x4x128x128_S32x1x4x1x128x128_0_1_2_4_5 : (⟨S32x1x4x128x128, .f32⟩ : BufTy).Contents (Elt F) → (⟨S32x1x4x1x128x128, .f32⟩ : BufTy).Contents (Elt F)),
    unary main_v12 main_v16 (broadcastInDim S32x1x4x1x128x128 ![0, 1, 2, 4, 5] bcast_S32x1x4x128x128_S32x1x4x1x128x128_0_1_2_4_5 : (⟨S32x1x4x128x128, .f32⟩ : BufTy).Contents (Elt F) → (⟨S32x1x4x1x128x128, .f32⟩ : BufTy).Contents (Elt F)),
    unary main_v13 main_v17 (broadcastInDim S32x1x4x1x128x128 ![0, 1, 2, 4, 5] bcast_S32x1x4x128x128_S32x1x4x1x128x128_0_1_2_4_5 : (⟨S32x1x4x128x128, .f32⟩ : BufTy).Contents (Elt F) → (⟨S32x1x4x1x128x128, .f32⟩ : BufTy).Contents (Elt F)),
    nary ![main_v14, main_v15, main_v16, main_v17] main_v18 (fun u => fn_main_v18 (F := F) (u 0) (u 1) (u 2) (u 3)),
    binary main_arg1 main_v18 main_v19 ((fun l r => Host.dotGeneral dot_S64x1x4x4_S32x1x4x4x128x128_S64x32x128x128_123_123_0_045_n_n none l r) : (⟨S64x1x4x4, .f32⟩ : BufTy).Contents (Elt F) → (⟨S32x1x4x4x128x128, .f32⟩ : BufTy).Contents (Elt F) → (⟨S64x32x128x128, .f32⟩ : BufTy).Contents (Elt F)),
    unary main_v19 main_v20 ((transpose S32x64x128x128 [1, 0, 2, 3] · transposes_S64x32x128x128_S32x64x128x128_1_0_2_3) : (⟨S64x32x128x128, .f32⟩ : BufTy).Contents (Elt F) → (⟨S32x64x128x128, .f32⟩ : BufTy).Contents (Elt F)),
    unary main_arg2 main_v21 (broadcastInDim S1x64x1x1 ![1] bcast_S64_S1x64x1x1_1 : (⟨S64, .f32⟩ : BufTy).Contents (Elt F) → (⟨S1x64x1x1, .f32⟩ : BufTy).Contents (Elt F)),
    unary main_v21 main_v22 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v20 main_v22 main_v23 (addf : (⟨S32x64x128x128, .f32⟩ : BufTy).Contents (Elt F) → (⟨S32x64x128x128, .f32⟩ : BufTy).Contents (Elt F) → (⟨S32x64x128x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32x64x128x128, .f32⟩) main_call1_v0) (broadcastInDim S32x64x128x128 ![] bcast_S_S32x64x128x128),
    TRef.binary (TRef.of (T := ⟨S32x64x128x128, .f32⟩) main_v23) (TRef.of (T := ⟨S32x64x128x128, .f32⟩) main_call1_v0) (TRef.of (T := ⟨S32x64x128x128, .f32⟩) main_v24) maximumf ]

/-- The buffers `conv1Ops` writes. -/
abbrev conv1OpsW : List (Ref sig .tc) := [main_c, main_call0_v0, main_v0, main_v1, main_v2, main_v3, main_v4, main_v5, main_v6, main_v7, main_v8, main_v9, main_v10, main_v11, main_v12, main_v13, main_v14, main_v15, main_v16, main_v17, main_v18, main_v19, main_v20, main_v21, main_v22, main_v23, main_call1_cst, main_call1_v0, main_v24]

/-- The operations of the second convolution, its rectification, and the rows of its pixels. -/
abbrev conv2Ops : List (HloOp τ sig (Elt F)) :=
  [ nullary main_c_0 (constantI S_ 32 0#32),
    TRef.unary (TRef.of (T := ⟨S_, .i32⟩) main_c_0) (TRef.of (T := ⟨S_, .f32⟩) main_call2_v0) (sitofp .f32),
    TRef.binary (TRef.of (T := ⟨S32x64x128x128, .f32⟩) main_v24) (TRef.of (T := ⟨S_, .f32⟩) main_call2_v0) (TRef.of (T := ⟨S32x64x130x130, .f32⟩) main_v25) (fun x v => pad S32x64x130x130 ![0, 0, 1, 1] ![0, 0, 1, 1] ![0, 0, 0, 0] x v pads_S32x64x128x128_S32x64x130x130_000_000_110_110 h_S_),
    unary main_v25 main_v26 ((Host.slice S32x64x64x130 ![0, 0, 0, 0] ![1, 1, 2, 1] · slicesBy_S32x64x130x130_S32x64x64x130_0s1_0s1_0s2_0s1) : (⟨S32x64x130x130, .f32⟩ : BufTy).Contents (Elt F) → (⟨S32x64x64x130, .f32⟩ : BufTy).Contents (Elt F)),
    unary main_v25 main_v27 ((Host.slice S32x64x64x130 ![0, 0, 1, 0] ![1, 1, 2, 1] · slicesBy_S32x64x130x130_S32x64x64x130_0s1_0s1_1s2_0s1) : (⟨S32x64x130x130, .f32⟩ : BufTy).Contents (Elt F) → (⟨S32x64x64x130, .f32⟩ : BufTy).Contents (Elt F)),
    unary main_v25 main_v28 ((Host.slice S32x64x64x130 ![0, 0, 2, 0] ![1, 1, 2, 1] · slicesBy_S32x64x130x130_S32x64x64x130_0s1_0s1_2s2_0s1) : (⟨S32x64x130x130, .f32⟩ : BufTy).Contents (Elt F) → (⟨S32x64x64x130, .f32⟩ : BufTy).Contents (Elt F)),
    unary main_v25 main_v29 ((Host.slice S32x64x64x130 ![0, 0, 3, 0] ![1, 1, 2, 1] · slicesBy_S32x64x130x130_S32x64x64x130_0s1_0s1_3s2_0s1) : (⟨S32x64x130x130, .f32⟩ : BufTy).Contents (Elt F) → (⟨S32x64x64x130, .f32⟩ : BufTy).Contents (Elt F)),
    unary main_v26 main_v30 (broadcastInDim S32x64x1x64x130 ![0, 1, 3, 4] bcast_S32x64x64x130_S32x64x1x64x130_0_1_3_4 : (⟨S32x64x64x130, .f32⟩ : BufTy).Contents (Elt F) → (⟨S32x64x1x64x130, .f32⟩ : BufTy).Contents (Elt F)),
    unary main_v27 main_v31 (broadcastInDim S32x64x1x64x130 ![0, 1, 3, 4] bcast_S32x64x64x130_S32x64x1x64x130_0_1_3_4 : (⟨S32x64x64x130, .f32⟩ : BufTy).Contents (Elt F) → (⟨S32x64x1x64x130, .f32⟩ : BufTy).Contents (Elt F)),
    unary main_v28 main_v32 (broadcastInDim S32x64x1x64x130 ![0, 1, 3, 4] bcast_S32x64x64x130_S32x64x1x64x130_0_1_3_4 : (⟨S32x64x64x130, .f32⟩ : BufTy).Contents (Elt F) → (⟨S32x64x1x64x130, .f32⟩ : BufTy).Contents (Elt F)),
    unary main_v29 main_v33 (broadcastInDim S32x64x1x64x130 ![0, 1, 3, 4] bcast_S32x64x64x130_S32x64x1x64x130_0_1_3_4 : (⟨S32x64x64x130, .f32⟩ : BufTy).Contents (Elt F) → (⟨S32x64x1x64x130, .f32⟩ : BufTy).Contents (Elt F)),
    nary ![main_v30, main_v31, main_v32, main_v33] main_v34 (fun u => fn_main_v34 (F := F) (u 0) (u 1) (u 2) (u 3)),
    unary main_v34 main_v35 ((Host.slice S32x64x4x64x64 ![0, 0, 0, 0, 0] ![1, 1, 1, 1, 2] · slicesBy_S32x64x4x64x130_S32x64x4x64x64_0s1_0s1_0s1_0s1_0s2) : (⟨S32x64x4x64x130, .f32⟩ : BufTy).Contents (Elt F) → (⟨S32x64x4x64x64, .f32⟩ : BufTy).Contents (Elt F)),
    unary main_v34 main_v36 ((Host.slice S32x64x4x64x64 ![0, 0, 0, 0, 1] ![1, 1, 1, 1, 2] · slicesBy_S32x64x4x64x130_S32x64x4x64x64_0s1_0s1_0s1_0s1_1s2) : (⟨S32x64x4x64x130, .f32⟩ : BufTy).Contents (Elt F) → (⟨S32x64x4x64x64, .f32⟩ : BufTy).Contents (Elt F)),
    unary main_v34 main_v37 ((Host.slice S32x64x4x64x64 ![0, 0, 0, 0, 2] ![1, 1, 1, 1, 2] · slicesBy_S32x64x4x64x130_S32x64x4x64x64_0s1_0s1_0s1_0s1_2s2) : (⟨S32x64x4x64x130, .f32⟩ : BufTy).Contents (Elt F) → (⟨S32x64x4x64x64, .f32⟩ : BufTy).Contents (Elt F)),
    unary main_v34 main_v38 ((Host.slice S32x64x4x64x64 ![0, 0, 0, 0, 3] ![1, 1, 1, 1, 2] · slicesBy_S32x64x4x64x130_S32x64x4x64x64_0s1_0s1_0s1_0s1_3s2) : (⟨S32x64x4x64x130, .f32⟩ : BufTy).Contents (Elt F) → (⟨S32x64x4x64x64, .f32⟩ : BufTy).Contents (Elt F)),
    unary main_v35 main_v39 (broadcastInDim S32x64x4x1x64x64 ![0, 1, 2, 4, 5] bcast_S32x64x4x64x64_S32x64x4x1x64x64_0_1_2_4_5 : (⟨S32x64x4x64x64, .f32⟩ : BufTy).Contents (Elt F) → (⟨S32x64x4x1x64x64, .f32⟩ : BufTy).Contents (Elt F)),
    unary main_v36 main_v40 (broadcastInDim S32x64x4x1x64x64 ![0, 1, 2, 4, 5] bcast_S32x64x4x64x64_S32x64x4x1x64x64_0_1_2_4_5 : (⟨S32x64x4x64x64, .f32⟩ : BufTy).Contents (Elt F) → (⟨S32x64x4x1x64x64, .f32⟩ : BufTy).Contents (Elt F)),
    unary main_v37 main_v41 (broadcastInDim S32x64x4x1x64x64 ![0, 1, 2, 4, 5] bcast_S32x64x4x64x64_S32x64x4x1x64x64_0_1_2_4_5 : (⟨S32x64x4x64x64, .f32⟩ : BufTy).Contents (Elt F) → (⟨S32x64x4x1x64x64, .f32⟩ : BufTy).Contents (Elt F)),
    unary main_v38 main_v42 (broadcastInDim S32x64x4x1x64x64 ![0, 1, 2, 4, 5] bcast_S32x64x4x64x64_S32x64x4x1x64x64_0_1_2_4_5 : (⟨S32x64x4x64x64, .f32⟩ : BufTy).Contents (Elt F) → (⟨S32x64x4x1x64x64, .f32⟩ : BufTy).Contents (Elt F)),
    nary ![main_v39, main_v40, main_v41, main_v42] main_v43 (fun u => fn_main_v43 (F := F) (u 0) (u 1) (u 2) (u 3)),
    binary main_arg3 main_v43 main_v44 ((fun l r => Host.dotGeneral dot_S64x64x4x4_S32x64x4x4x64x64_S64x32x64x64_123_123_0_045_n_n none l r) : (⟨S64x64x4x4, .f32⟩ : BufTy).Contents (Elt F) → (⟨S32x64x4x4x64x64, .f32⟩ : BufTy).Contents (Elt F) → (⟨S64x32x64x64, .f32⟩ : BufTy).Contents (Elt F)),
    unary main_v44 main_v45 ((transpose S32x64x64x64 [1, 0, 2, 3] · transposes_S64x32x64x64_S32x64x64x64_1_0_2_3) : (⟨S64x32x64x64, .f32⟩ : BufTy).Contents (Elt F) → (⟨S32x64x64x64, .f32⟩ : BufTy).Contents (Elt F)),
    unary main_arg4 main_v46 (broadcastInDim S1x64x1x1 ![1] bcast_S64_S1x64x1x1_1 : (⟨S64, .f32⟩ : BufTy).Contents (Elt F) → (⟨S1x64x1x1, .f32⟩ : BufTy).Contents (Elt F)),
    unary main_v46 main_v47 (broadcastInDim S32x64x64x64 ![0, 1, 2, 3] bcast_S1x64x1x1_S32x64x64x64_0_1_2_3 : (⟨S1x64x1x1, .f32⟩ : BufTy).Contents (Elt F) → (⟨S32x64x64x64, .f32⟩ : BufTy).Contents (Elt F)),
    binary main_v45 main_v47 main_v48 (addf : (⟨S32x64x64x64, .f32⟩ : BufTy).Contents (Elt F) → (⟨S32x64x64x64, .f32⟩ : BufTy).Contents (Elt F) → (⟨S32x64x64x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32x64x64x64, .f32⟩) main_call3_v0) (broadcastInDim S32x64x64x64 ![] bcast_S_S32x64x64x64),
    TRef.binary (TRef.of (T := ⟨S32x64x64x64, .f32⟩) main_v48) (TRef.of (T := ⟨S32x64x64x64, .f32⟩) main_call3_v0) (TRef.of (T := ⟨S32x64x64x64, .f32⟩) main_v49) maximumf,
    unary main_v49 main_v50 ((transpose S32x64x64x64 [0, 2, 3, 1] · transposes_S32x64x64x64_S32x64x64x64_0_2_3_1) : (⟨S32x64x64x64, .f32⟩ : BufTy).Contents (Elt F) → (⟨S32x64x64x64, .f32⟩ : BufTy).Contents (Elt F)),
    reshape main_v50 main_v51 (rfl : (.f32 : EltTy) = .f32) shapeCasts_S32x64x64x64_S131072x64 ]

/-- The buffers `conv2Ops` writes. -/
abbrev conv2OpsW : List (Ref sig .tc) := [main_c_0, main_call2_v0, main_v25, main_v26, main_v27, main_v28, main_v29, main_v30, main_v31, main_v32, main_v33, main_v34, main_v35, main_v36, main_v37, main_v38, main_v39, main_v40, main_v41, main_v42, main_v43, main_v44, main_v45, main_v46, main_v47, main_v48, main_call3_cst, main_call3_v0, main_v49, main_v50, main_v51]

/-- The operations of the pixels' squared norms and their products with the codebook. -/
abbrev dotOps : List (HloOp τ sig (Elt F)) :=
  [ binary main_v51 main_v51 main_v52 (mulf : (⟨S131072x64, .f32⟩ : BufTy).Contents (Elt F) → (⟨S131072x64, .f32⟩ : BufTy).Contents (Elt F) → (⟨S131072x64, .f32⟩ : BufTy).Contents (Elt F)),
    nullary main_cst (constant S_ .f32 0x00000000#32),
    binary main_v52 main_cst main_v53 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_v53 main_v54 (broadcastInDim S131072x1 ![0] bcast_S131072_S131072x1_0 : (⟨S131072, .f32⟩ : BufTy).Contents (Elt F) → (⟨S131072x1, .f32⟩ : BufTy).Contents (Elt F)),
    unary main_arg9 main_v55 ((transpose S64x512 [1, 0] · transposes_S512x64_S64x512_1_0) : (⟨S512x64, .f32⟩ : BufTy).Contents (Elt F) → (⟨S64x512, .f32⟩ : BufTy).Contents (Elt F)),
    binary main_v51 main_v55 main_v56 ((fun l r => Host.dotGeneral dot_S131072x64_S64x512_S131072x512_1_0_0_1_n_n none l r) : (⟨S131072x64, .f32⟩ : BufTy).Contents (Elt F) → (⟨S64x512, .f32⟩ : BufTy).Contents (Elt F) → (⟨S131072x512, .f32⟩ : BufTy).Contents (Elt F)) ]

/-- The buffers `dotOps` writes. -/
abbrev dotOpsW : List (Ref sig .tc) := [main_v52, main_cst, main_v53, main_v54, main_v55, main_v56]

/-- The operations of the distances and the least of each row. -/
abbrev argOps : List (HloOp τ sig (Elt F)) :=
  [ nullary main_cst_1 (constant S_ .f32 0x40000000#32),
    unary main_cst_1 main_v57 (broadcastInDim S131072x512 ![] bcast_S_S131072x512 : (⟨S_, .f32⟩ : BufTy).Contents (Elt F) → (⟨S131072x512, .f32⟩ : BufTy).Contents (Elt F)),
    binary main_v57 main_v56 main_v58 (mulf : (⟨S131072x512, .f32⟩ : BufTy).Contents (Elt F) → (⟨S131072x512, .f32⟩ : BufTy).Contents (Elt F) → (⟨S131072x512, .f32⟩ : BufTy).Contents (Elt F)),
    unary main_v54 main_v59 (broadcastInDim S131072x512 ![0, 1] bcast_S131072x1_S131072x512_0_1 : (⟨S131072x1, .f32⟩ : BufTy).Contents (Elt F) → (⟨S131072x512, .f32⟩ : BufTy).Contents (Elt F)),
    binary main_v59 main_v58 main_v60 (subf : (⟨S131072x512, .f32⟩ : BufTy).Contents (Elt F) → (⟨S131072x512, .f32⟩ : BufTy).Contents (Elt F) → (⟨S131072x512, .f32⟩ : BufTy).Contents (Elt F)),
    binary main_arg9 main_arg9 main_v61 (mulf : (⟨S512x64, .f32⟩ : BufTy).Contents (Elt F) → (⟨S512x64, .f32⟩ : BufTy).Contents (Elt F) → (⟨S512x64, .f32⟩ : BufTy).Contents (Elt F)),
    nullary main_cst_2 (constant S_ .f32 0x00000000#32),
    binary main_v61 main_cst_2 main_v62 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v62 main_v63 (broadcastInDim S1x512 ![1] bcast_S512_S1x512_1 : (⟨S512, .f32⟩ : BufTy).Contents (Elt F) → (⟨S1x512, .f32⟩ : BufTy).Contents (Elt F)),
    unary main_v63 main_v64 (broadcastInDim S131072x512 ![0, 1] bcast_S1x512_S131072x512_0_1 : (⟨S1x512, .f32⟩ : BufTy).Contents (Elt F) → (⟨S131072x512, .f32⟩ : BufTy).Contents (Elt F)),
    binary main_v60 main_v64 main_v65 (addf : (⟨S131072x512, .f32⟩ : BufTy).Contents (Elt F) → (⟨S131072x512, .f32⟩ : BufTy).Contents (Elt F) → (⟨S131072x512, .f32⟩ : BufTy).Contents (Elt F)),
    nullary main_cst_3 (constant S_ .f32 0x42800000#32),
    unary main_cst_3 main_v66 (broadcastInDim S131072x512 ![] bcast_S_S131072x512 : (⟨S_, .f32⟩ : BufTy).Contents (Elt F) → (⟨S131072x512, .f32⟩ : BufTy).Contents (Elt F)),
    binary main_v65 main_v66 main_v67 (Host.divf : (⟨S131072x512, .f32⟩ : BufTy).Contents (Elt F) → (⟨S131072x512, .f32⟩ : BufTy).Contents (Elt F) → (⟨S131072x512, .f32⟩ : BufTy).Contents (Elt F)),
    TRef.nullary (TRef.of (T := ⟨S131072x512, .i32⟩) main_call4_v0) (iotaInDim S131072x512 32 1),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S131072x512, .f32⟩) main_v67) (TRef.of (T := ⟨S131072x512, .i32⟩) main_call4_v0) (TRef.of (T := ⟨S_, .f32⟩) main_call4_cst) (TRef.of (T := ⟨S_, .i32⟩) main_call4_c) (TRef.of (T := ⟨S131072, .f32⟩) main_call4_v1_0) (fun x y u v j => (Host.argReduce reducer_argmin_f32_i32 x y u v reducesTo_S131072x512_S131072_d1 h_S_ j).1),
    TRef.quaternary (TRef.of (T := ⟨S131072x512, .f32⟩) main_v67) (TRef.of (T := ⟨S131072x512, .i32⟩) main_call4_v0) (TRef.of (T := ⟨S_, .f32⟩) main_call4_cst) (TRef.of (T := ⟨S_, .i32⟩) main_call4_c) (TRef.of (T := ⟨S131072, .i32⟩) main_v68) (fun x y u v j => (Host.argReduce reducer_argmin_f32_i32 x y u v reducesTo_S131072x512_S131072_d1 h_S_ j).2) ]

/-- The buffers `argOps` writes. -/
abbrev argOpsW : List (Ref sig .tc) := [main_cst_1, main_v57, main_v58, main_v59, main_v60, main_v61, main_cst_2, main_v62, main_v63, main_v64, main_v65, main_cst_3, main_v66, main_v67, main_call4_v0, main_call4_cst, main_call4_c, main_call4_v1_0, main_v68]

/-- The operations of the codebook rows looked up. -/
abbrev gatherOps : List (HloOp τ sig (Elt F)) :=
  [ nullary main_c_4 (constantI S_ 32 0#32),
    unary main_c_4 main_v69 (broadcastInDim S131072 ![] bcast_S_S131072 : (⟨S_, .i32⟩ : BufTy).Contents (Elt F) → (⟨S131072, .i32⟩ : BufTy).Contents (Elt F)),
    binary main_v68 main_v69 main_v70 (cmpi .slt : (⟨S131072, .i32⟩ : BufTy).Contents (Elt F) → (⟨S131072, .i32⟩ : BufTy).Contents (Elt F) → (⟨S131072, .i1⟩ : BufTy).Contents (Elt F)),
    nullary main_c_5 (constantI S_ 32 512#32),
    unary main_c_5 main_v71 (broadcastInDim S131072 ![] bcast_S_S131072 : (⟨S_, .i32⟩ : BufTy).Contents (Elt F) → (⟨S131072, .i32⟩ : BufTy).Contents (Elt F)),
    binary main_v68 main_v71 main_v72 (addi : (⟨S131072, .i32⟩ : BufTy).Contents (Elt F) → (⟨S131072, .i32⟩ : BufTy).Contents (Elt F) → (⟨S131072, .i32⟩ : BufTy).Contents (Elt F)),
    ternary main_v70 main_v72 main_v68 main_v73 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v73 main_v74 (broadcastInDim S131072x1 ![0] bcast_S131072_S131072x1_0 : (⟨S131072, .i32⟩ : BufTy).Contents (Elt F) → (⟨S131072x1, .i32⟩ : BufTy).Contents (Elt F)),
    binary main_arg9 main_v74 main_v75 ((fun x i => Host.gather gather_S512x64_S131072x1_S131072x64_1_0_n_n_0_1_164 x i) : (⟨S512x64, .f32⟩ : BufTy).Contents (Elt F) → (⟨S131072x1, .i32⟩ : BufTy).Contents (Elt F) → (⟨S131072x64, .f32⟩ : BufTy).Contents (Elt F)),
    reshape main_v75 main_v76 (rfl : (.f32 : EltTy) = .f32) shapeCasts_S131072x64_S32x64x64x64 ]

/-- The buffers `gatherOps` writes. -/
abbrev gatherOpsW : List (Ref sig .tc) := [main_c_4, main_v69, main_v70, main_c_5, main_v71, main_v72, main_v73, main_v74, main_v75, main_v76]

/-- The operations of the two losses and their weighted sum. -/
abbrev lossOps : List (HloOp τ sig (Elt F)) :=
  [ binary main_v76 main_v50 main_v77 (subf : (⟨S32x64x64x64, .f32⟩ : BufTy).Contents (Elt F) → (⟨S32x64x64x64, .f32⟩ : BufTy).Contents (Elt F) → (⟨S32x64x64x64, .f32⟩ : BufTy).Contents (Elt F)),
    binary main_v77 main_v77 main_v78 (mulf : (⟨S32x64x64x64, .f32⟩ : BufTy).Contents (Elt F) → (⟨S32x64x64x64, .f32⟩ : BufTy).Contents (Elt F) → (⟨S32x64x64x64, .f32⟩ : BufTy).Contents (Elt F)),
    nullary main_cst_6 (constant S_ .f32 0x00000000#32),
    binary main_v78 main_cst_6 main_v79 ((fun x v => Host.reduceAdd x v reducesTo_S32x64x64x64_S_d0_1_2_3 h_S_) : (⟨S32x64x64x64, .f32⟩ : BufTy).Contents (Elt F) → (⟨S_, .f32⟩ : BufTy).Contents (Elt F) → (⟨S_, .f32⟩ : BufTy).Contents (Elt F)),
    nullary main_cst_7 (constant S_ .f32 0x4B000000#32),
    binary main_v79 main_cst_7 main_v80 (Host.divf : (⟨S_, .f32⟩ : BufTy).Contents (Elt F) → (⟨S_, .f32⟩ : BufTy).Contents (Elt F) → (⟨S_, .f32⟩ : BufTy).Contents (Elt F)),
    binary main_v76 main_v50 main_v81 (subf : (⟨S32x64x64x64, .f32⟩ : BufTy).Contents (Elt F) → (⟨S32x64x64x64, .f32⟩ : BufTy).Contents (Elt F) → (⟨S32x64x64x64, .f32⟩ : BufTy).Contents (Elt F)),
    binary main_v81 main_v81 main_v82 (mulf : (⟨S32x64x64x64, .f32⟩ : BufTy).Contents (Elt F) → (⟨S32x64x64x64, .f32⟩ : BufTy).Contents (Elt F) → (⟨S32x64x64x64, .f32⟩ : BufTy).Contents (Elt F)),
    nullary main_cst_8 (constant S_ .f32 0x00000000#32),
    binary main_v82 main_cst_8 main_v83 ((fun x v => Host.reduceAdd x v reducesTo_S32x64x64x64_S_d0_1_2_3 h_S_) : (⟨S32x64x64x64, .f32⟩ : BufTy).Contents (Elt F) → (⟨S_, .f32⟩ : BufTy).Contents (Elt F) → (⟨S_, .f32⟩ : BufTy).Contents (Elt F)),
    nullary main_cst_9 (constant S_ .f32 0x4B000000#32),
    binary main_v83 main_cst_9 main_v84 (Host.divf : (⟨S_, .f32⟩ : BufTy).Contents (Elt F) → (⟨S_, .f32⟩ : BufTy).Contents (Elt F) → (⟨S_, .f32⟩ : BufTy).Contents (Elt F)),
    nullary main_cst_10 (constant S_ .f32 0x3E800000#32),
    binary main_cst_10 main_v84 main_v85 (mulf : (⟨S_, .f32⟩ : BufTy).Contents (Elt F) → (⟨S_, .f32⟩ : BufTy).Contents (Elt F) → (⟨S_, .f32⟩ : BufTy).Contents (Elt F)),
    binary main_v80 main_v85 main_v86 (addf : (⟨S_, .f32⟩ : BufTy).Contents (Elt F) → (⟨S_, .f32⟩ : BufTy).Contents (Elt F) → (⟨S_, .f32⟩ : BufTy).Contents (Elt F)) ]

/-- The buffers `lossOps` writes. -/
abbrev lossOpsW : List (Ref sig .tc) := [main_v77, main_v78, main_cst_6, main_v79, main_cst_7, main_v80, main_v81, main_v82, main_cst_8, main_v83, main_cst_9, main_v84, main_cst_10, main_v85, main_v86]

/-- The operations of the quantised image handed to the decoder. -/
abbrev stOps : List (HloOp τ sig (Elt F)) :=
  [ binary main_v76 main_v50 main_v87 (subf : (⟨S32x64x64x64, .f32⟩ : BufTy).Contents (Elt F) → (⟨S32x64x64x64, .f32⟩ : BufTy).Contents (Elt F) → (⟨S32x64x64x64, .f32⟩ : BufTy).Contents (Elt F)),
    binary main_v50 main_v87 main_v88 (addf : (⟨S32x64x64x64, .f32⟩ : BufTy).Contents (Elt F) → (⟨S32x64x64x64, .f32⟩ : BufTy).Contents (Elt F) → (⟨S32x64x64x64, .f32⟩ : BufTy).Contents (Elt F)),
    unary main_v88 main_v89 ((transpose S32x64x64x64 [0, 3, 1, 2] · transposes_S32x64x64x64_S32x64x64x64_0_3_1_2) : (⟨S32x64x64x64, .f32⟩ : BufTy).Contents (Elt F) → (⟨S32x64x64x64, .f32⟩ : BufTy).Contents (Elt F)) ]

/-- The buffers `stOps` writes. -/
abbrev stOpsW : List (Ref sig .tc) := [main_v87, main_v88, main_v89]

/-- The operations of the first half of the first transposed convolution. -/
abbrev deconv1OpsA : List (HloOp τ sig (Elt F)) :=
  [ nullary main_cst_11 (constant S_ .f32 0x00000000#32),
    binary main_v89 main_cst_11 main_v90 ((fun x v => pad S32x64x131x131 ![0, 0, 2, 2] ![0, 0, 2, 2] ![0, 0, 1, 1] x v pads_S32x64x64x64_S32x64x131x131_000_000_221_221 h_S_) : (⟨S32x64x64x64, .f32⟩ : BufTy).Contents (Elt F) → (⟨S_, .f32⟩ : BufTy).Contents (Elt F) → (⟨S32x64x131x131, .f32⟩ : BufTy).Contents (Elt F)),
    unary main_v90 main_v91 ((extractStridedSlice S32x64x128x131 ![0, 0, 0, 0] · slices_S32x64x131x131_S32x64x128x131_0_0_0_0) : (⟨S32x64x131x131, .f32⟩ : BufTy).Contents (Elt F) → (⟨S32x64x128x131, .f32⟩ : BufTy).Contents (Elt F)),
    unary main_v90 main_v92 ((extractStridedSlice S32x64x128x131 ![0, 0, 1, 0] · slices_S32x64x131x131_S32x64x128x131_0_0_1_0) : (⟨S32x64x131x131, .f32⟩ : BufTy).Contents (Elt F) → (⟨S32x64x128x131, .f32⟩ : BufTy).Contents (Elt F)),
    unary main_v90 main_v93 ((extractStridedSlice S32x64x128x131 ![0, 0, 2, 0] · slices_S32x64x131x131_S32x64x128x131_0_0_2_0) : (⟨S32x64x131x131, .f32⟩ : BufTy).Contents (Elt F) → (⟨S32x64x128x131, .f32⟩ : BufTy).Contents (Elt F)),
    unary main_v90 main_v94 ((extractStridedSlice S32x64x128x131 ![0, 0, 3, 0] · slices_S32x64x131x131_S32x64x128x131_0_0_3_0) : (⟨S32x64x131x131, .f32⟩ : BufTy).Contents (Elt F) → (⟨S32x64x128x131, .f32⟩ : BufTy).Contents (Elt F)),
    unary main_v91 main_v95 (broadcastInDim S32x64x1x128x131 ![0, 1, 3, 4] bcast_S32x64x128x131_S32x64x1x128x131_0_1_3_4 : (⟨S32x64x128x131, .f32⟩ : BufTy).Contents (Elt F) → (⟨S32x64x1x128x131, .f32⟩ : BufTy).Contents (Elt F)),
    unary main_v92 main_v96 (broadcastInDim S32x64x1x128x131 ![0, 1, 3, 4] bcast_S32x64x128x131_S32x64x1x128x131_0_1_3_4 : (⟨S32x64x128x131, .f32⟩ : BufTy).Contents (Elt F) → (⟨S32x64x1x128x131, .f32⟩ : BufTy).Contents (Elt F)),
    unary main_v93 main_v97 (broadcastInDim S32x64x1x128x131 ![0, 1, 3, 4] bcast_S32x64x128x131_S32x64x1x128x131_0_1_3_4 : (⟨S32x64x128x131, .f32⟩ : BufTy).Contents (Elt F) → (⟨S32x64x1x128x131, .f32⟩ : BufTy).Contents (Elt F)),
    unary main_v94 main_v98 (broadcastInDim S32x64x1x128x131 ![0, 1, 3, 4] bcast_S32x64x128x131_S32x64x1x128x131_0_1_3_4 : (⟨S32x64x128x131, .f32⟩ : BufTy).Contents (Elt F) → (⟨S32x64x1x128x131, .f32⟩ : BufTy).Contents (Elt F)),
    nary ![main_v95, main_v96, main_v97, main_v98] main_v99 (fun u => fn_main_v99 (F := F) (u 0) (u 1) (u 2) (u 3)),
    unary main_v99 main_v100 ((extractStridedSlice S32x64x4x128x128 ![0, 0, 0, 0, 0] · slices_S32x64x4x128x131_S32x64x4x128x128_0_0_0_0_0) : (⟨S32x64x4x128x131, .f32⟩ : BufTy).Contents (Elt F) → (⟨S32x64x4x128x128, .f32⟩ : BufTy).Contents (Elt F)),
    unary main_v99 main_v101 ((extractStridedSlice S32x64x4x128x128 ![0, 0, 0, 0, 1] · slices_S32x64x4x128x131_S32x64x4x128x128_0_0_0_0_1) : (⟨S32x64x4x128x131, .f32⟩ : BufTy).Contents (Elt F) → (⟨S32x64x4x128x128, .f32⟩ : BufTy).Contents (Elt F)),
    unary main_v99 main_v102 ((extractStridedSlice S32x64x4x128x128 ![0, 0, 0, 0, 2] · slices_S32x64x4x128x131_S32x64x4x128x128_0_0_0_0_2) : (⟨S32x64x4x128x131, .f32⟩ : BufTy).Contents (Elt F) → (⟨S32x64x4x128x128, .f32⟩ : BufTy).Contents (Elt F)),
    unary main_v99 main_v103 ((extractStridedSlice S32x64x4x128x128 ![0, 0, 0, 0, 3] · slices_S32x64x4x128x131_S32x64x4x128x128_0_0_0_0_3) : (⟨S32x64x4x128x131, .f32⟩ : BufTy).Contents (Elt F) → (⟨S32x64x4x128x128, .f32⟩ : BufTy).Contents (Elt F)),
    unary main_v100 main_v104 (broadcastInDim S32x64x4x1x128x128 ![0, 1, 2, 4, 5] bcast_S32x64x4x128x128_S32x64x4x1x128x128_0_1_2_4_5 : (⟨S32x64x4x128x128, .f32⟩ : BufTy).Contents (Elt F) → (⟨S32x64x4x1x128x128, .f32⟩ : BufTy).Contents (Elt F)),
    unary main_v101 main_v105 (broadcastInDim S32x64x4x1x128x128 ![0, 1, 2, 4, 5] bcast_S32x64x4x128x128_S32x64x4x1x128x128_0_1_2_4_5 : (⟨S32x64x4x128x128, .f32⟩ : BufTy).Contents (Elt F) → (⟨S32x64x4x1x128x128, .f32⟩ : BufTy).Contents (Elt F)) ]

/-- The buffers `deconv1OpsA` writes. -/
abbrev deconv1OpsAW : List (Ref sig .tc) := [main_cst_11, main_v90, main_v91, main_v92, main_v93, main_v94, main_v95, main_v96, main_v97, main_v98, main_v99, main_v100, main_v101, main_v102, main_v103, main_v104, main_v105]

/-- The operations of the second half of the first transposed convolution, and its rectification. -/
abbrev deconv1OpsB : List (HloOp τ sig (Elt F)) :=
  [ unary main_v102 main_v106 (broadcastInDim S32x64x4x1x128x128 ![0, 1, 2, 4, 5] bcast_S32x64x4x128x128_S32x64x4x1x128x128_0_1_2_4_5 : (⟨S32x64x4x128x128, .f32⟩ : BufTy).Contents (Elt F) → (⟨S32x64x4x1x128x128, .f32⟩ : BufTy).Contents (Elt F)),
    unary main_v103 main_v107 (broadcastInDim S32x64x4x1x128x128 ![0, 1, 2, 4, 5] bcast_S32x64x4x128x128_S32x64x4x1x128x128_0_1_2_4_5 : (⟨S32x64x4x128x128, .f32⟩ : BufTy).Contents (Elt F) → (⟨S32x64x4x1x128x128, .f32⟩ : BufTy).Contents (Elt F)),
    nary ![main_v104, main_v105, main_v106, main_v107] main_v108 (fun u => fn_main_v108 (F := F) (u 0) (u 1) (u 2) (u 3)),
    TRef.unary (TRef.of (T := ⟨S64x64x4x4, .f32⟩) main_arg5) (TRef.of (T := ⟨S64x64x4x4, .f32⟩) main_v109) (Host.reverse [2, 3]),
    binary main_v109 main_v108 main_v110 ((fun l r => Host.dotGeneral dot_S64x64x4x4_S32x64x4x4x128x128_S64x32x128x128_023_123_1_045_n_n none l r) : (⟨S64x64x4x4, .f32⟩ : BufTy).Contents (Elt F) → (⟨S32x64x4x4x128x128, .f32⟩ : BufTy).Contents (Elt F) → (⟨S64x32x128x128, .f32⟩ : BufTy).Contents (Elt F)),
    unary main_v110 main_v111 ((transpose S32x64x128x128 [1, 0, 2, 3] · transposes_S64x32x128x128_S32x64x128x128_1_0_2_3) : (⟨S64x32x128x128, .f32⟩ : BufTy).Contents (Elt F) → (⟨S32x64x128x128, .f32⟩ : BufTy).Contents (Elt F)),
    unary main_arg6 main_v112 (broadcastInDim S1x64x1x1 ![1] bcast_S64_S1x64x1x1_1 : (⟨S64, .f32⟩ : BufTy).Contents (Elt F) → (⟨S1x64x1x1, .f32⟩ : BufTy).Contents (Elt F)),
    unary main_v112 main_v113 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v111 main_v113 main_v114 (addf : (⟨S32x64x128x128, .f32⟩ : BufTy).Contents (Elt F) → (⟨S32x64x128x128, .f32⟩ : BufTy).Contents (Elt F) → (⟨S32x64x128x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32x64x128x128, .f32⟩) main_call6_v0) (broadcastInDim S32x64x128x128 ![] bcast_S_S32x64x128x128),
    TRef.binary (TRef.of (T := ⟨S32x64x128x128, .f32⟩) main_v114) (TRef.of (T := ⟨S32x64x128x128, .f32⟩) main_call6_v0) (TRef.of (T := ⟨S32x64x128x128, .f32⟩) main_v115) maximumf ]

/-- The buffers `deconv1OpsB` writes. -/
abbrev deconv1OpsBW : List (Ref sig .tc) := [main_v106, main_v107, main_v108, main_v109, main_v110, main_v111, main_v112, main_v113, main_v114, main_call6_cst, main_call6_v0, main_v115]

/-- The operations of the second transposed convolution. -/
abbrev deconv2Ops : List (HloOp τ sig (Elt F)) :=
  [ nullary main_cst_12 (constant S_ .f32 0x00000000#32),
    binary main_v115 main_cst_12 main_v116 ((fun x v => pad S32x64x259x259 ![0, 0, 2, 2] ![0, 0, 2, 2] ![0, 0, 1, 1] x v pads_S32x64x128x128_S32x64x259x259_000_000_221_221 h_S_) : (⟨S32x64x128x128, .f32⟩ : BufTy).Contents (Elt F) → (⟨S_, .f32⟩ : BufTy).Contents (Elt F) → (⟨S32x64x259x259, .f32⟩ : BufTy).Contents (Elt F)),
    unary main_v116 main_v117 ((extractStridedSlice S32x64x256x259 ![0, 0, 0, 0] · slices_S32x64x259x259_S32x64x256x259_0_0_0_0) : (⟨S32x64x259x259, .f32⟩ : BufTy).Contents (Elt F) → (⟨S32x64x256x259, .f32⟩ : BufTy).Contents (Elt F)),
    unary main_v116 main_v118 ((extractStridedSlice S32x64x256x259 ![0, 0, 1, 0] · slices_S32x64x259x259_S32x64x256x259_0_0_1_0) : (⟨S32x64x259x259, .f32⟩ : BufTy).Contents (Elt F) → (⟨S32x64x256x259, .f32⟩ : BufTy).Contents (Elt F)),
    unary main_v116 main_v119 ((extractStridedSlice S32x64x256x259 ![0, 0, 2, 0] · slices_S32x64x259x259_S32x64x256x259_0_0_2_0) : (⟨S32x64x259x259, .f32⟩ : BufTy).Contents (Elt F) → (⟨S32x64x256x259, .f32⟩ : BufTy).Contents (Elt F)),
    unary main_v116 main_v120 ((extractStridedSlice S32x64x256x259 ![0, 0, 3, 0] · slices_S32x64x259x259_S32x64x256x259_0_0_3_0) : (⟨S32x64x259x259, .f32⟩ : BufTy).Contents (Elt F) → (⟨S32x64x256x259, .f32⟩ : BufTy).Contents (Elt F)),
    unary main_v117 main_v121 (broadcastInDim S32x64x1x256x259 ![0, 1, 3, 4] bcast_S32x64x256x259_S32x64x1x256x259_0_1_3_4 : (⟨S32x64x256x259, .f32⟩ : BufTy).Contents (Elt F) → (⟨S32x64x1x256x259, .f32⟩ : BufTy).Contents (Elt F)),
    unary main_v118 main_v122 (broadcastInDim S32x64x1x256x259 ![0, 1, 3, 4] bcast_S32x64x256x259_S32x64x1x256x259_0_1_3_4 : (⟨S32x64x256x259, .f32⟩ : BufTy).Contents (Elt F) → (⟨S32x64x1x256x259, .f32⟩ : BufTy).Contents (Elt F)),
    unary main_v119 main_v123 (broadcastInDim S32x64x1x256x259 ![0, 1, 3, 4] bcast_S32x64x256x259_S32x64x1x256x259_0_1_3_4 : (⟨S32x64x256x259, .f32⟩ : BufTy).Contents (Elt F) → (⟨S32x64x1x256x259, .f32⟩ : BufTy).Contents (Elt F)),
    unary main_v120 main_v124 (broadcastInDim S32x64x1x256x259 ![0, 1, 3, 4] bcast_S32x64x256x259_S32x64x1x256x259_0_1_3_4 : (⟨S32x64x256x259, .f32⟩ : BufTy).Contents (Elt F) → (⟨S32x64x1x256x259, .f32⟩ : BufTy).Contents (Elt F)),
    nary ![main_v121, main_v122, main_v123, main_v124] main_v125 (fun u => fn_main_v125 (F := F) (u 0) (u 1) (u 2) (u 3)),
    unary main_v125 main_v126 ((extractStridedSlice S32x64x4x256x256 ![0, 0, 0, 0, 0] · slices_S32x64x4x256x259_S32x64x4x256x256_0_0_0_0_0) : (⟨S32x64x4x256x259, .f32⟩ : BufTy).Contents (Elt F) → (⟨S32x64x4x256x256, .f32⟩ : BufTy).Contents (Elt F)),
    unary main_v125 main_v127 ((extractStridedSlice S32x64x4x256x256 ![0, 0, 0, 0, 1] · slices_S32x64x4x256x259_S32x64x4x256x256_0_0_0_0_1) : (⟨S32x64x4x256x259, .f32⟩ : BufTy).Contents (Elt F) → (⟨S32x64x4x256x256, .f32⟩ : BufTy).Contents (Elt F)),
    unary main_v125 main_v128 ((extractStridedSlice S32x64x4x256x256 ![0, 0, 0, 0, 2] · slices_S32x64x4x256x259_S32x64x4x256x256_0_0_0_0_2) : (⟨S32x64x4x256x259, .f32⟩ : BufTy).Contents (Elt F) → (⟨S32x64x4x256x256, .f32⟩ : BufTy).Contents (Elt F)),
    unary main_v125 main_v129 ((extractStridedSlice S32x64x4x256x256 ![0, 0, 0, 0, 3] · slices_S32x64x4x256x259_S32x64x4x256x256_0_0_0_0_3) : (⟨S32x64x4x256x259, .f32⟩ : BufTy).Contents (Elt F) → (⟨S32x64x4x256x256, .f32⟩ : BufTy).Contents (Elt F)),
    unary main_v126 main_v130 (broadcastInDim S32x64x4x1x256x256 ![0, 1, 2, 4, 5] bcast_S32x64x4x256x256_S32x64x4x1x256x256_0_1_2_4_5 : (⟨S32x64x4x256x256, .f32⟩ : BufTy).Contents (Elt F) → (⟨S32x64x4x1x256x256, .f32⟩ : BufTy).Contents (Elt F)),
    unary main_v127 main_v131 (broadcastInDim S32x64x4x1x256x256 ![0, 1, 2, 4, 5] bcast_S32x64x4x256x256_S32x64x4x1x256x256_0_1_2_4_5 : (⟨S32x64x4x256x256, .f32⟩ : BufTy).Contents (Elt F) → (⟨S32x64x4x1x256x256, .f32⟩ : BufTy).Contents (Elt F)),
    unary main_v128 main_v132 (broadcastInDim S32x64x4x1x256x256 ![0, 1, 2, 4, 5] bcast_S32x64x4x256x256_S32x64x4x1x256x256_0_1_2_4_5 : (⟨S32x64x4x256x256, .f32⟩ : BufTy).Contents (Elt F) → (⟨S32x64x4x1x256x256, .f32⟩ : BufTy).Contents (Elt F)),
    unary main_v129 main_v133 (broadcastInDim S32x64x4x1x256x256 ![0, 1, 2, 4, 5] bcast_S32x64x4x256x256_S32x64x4x1x256x256_0_1_2_4_5 : (⟨S32x64x4x256x256, .f32⟩ : BufTy).Contents (Elt F) → (⟨S32x64x4x1x256x256, .f32⟩ : BufTy).Contents (Elt F)),
    nary ![main_v130, main_v131, main_v132, main_v133] main_v134 (fun u => fn_main_v134 (F := F) (u 0) (u 1) (u 2) (u 3)),
    TRef.unary (TRef.of (T := ⟨S64x1x4x4, .f32⟩) main_arg7) (TRef.of (T := ⟨S64x1x4x4, .f32⟩) main_v135) (Host.reverse [2, 3]),
    binary main_v135 main_v134 main_v136 ((fun l r => Host.dotGeneral dot_S64x1x4x4_S32x64x4x4x256x256_S1x32x256x256_023_123_1_045_n_n none l r) : (⟨S64x1x4x4, .f32⟩ : BufTy).Contents (Elt F) → (⟨S32x64x4x4x256x256, .f32⟩ : BufTy).Contents (Elt F) → (⟨S1x32x256x256, .f32⟩ : BufTy).Contents (Elt F)),
    unary main_v136 main_v137 ((transpose S32x1x256x256 [1, 0, 2, 3] · transposes_S1x32x256x256_S32x1x256x256_1_0_2_3) : (⟨S1x32x256x256, .f32⟩ : BufTy).Contents (Elt F) → (⟨S32x1x256x256, .f32⟩ : BufTy).Contents (Elt F)),
    unary main_arg8 main_v138 (broadcastInDim S1x1x1x1 ![1] bcast_S1_S1x1x1x1_1 : (⟨S1, .f32⟩ : BufTy).Contents (Elt F) → (⟨S1x1x1x1, .f32⟩ : BufTy).Contents (Elt F)),
    unary main_v138 main_v139 (broadcastInDim S32x1x256x256 ![0, 1, 2, 3] bcast_S1x1x1x1_S32x1x256x256_0_1_2_3 : (⟨S1x1x1x1, .f32⟩ : BufTy).Contents (Elt F) → (⟨S32x1x256x256, .f32⟩ : BufTy).Contents (Elt F)),
    binary main_v137 main_v139 main_v140 (addf : (⟨S32x1x256x256, .f32⟩ : BufTy).Contents (Elt F) → (⟨S32x1x256x256, .f32⟩ : BufTy).Contents (Elt F) → (⟨S32x1x256x256, .f32⟩ : BufTy).Contents (Elt F)) ]

/-- The buffers `deconv2Ops` writes. -/
abbrev deconv2OpsW : List (Ref sig .tc) := [main_cst_12, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140]

/-- The operations of the sigmoid, and the column of indices. -/
abbrev tailOps : List (HloOp τ sig (Elt F)) :=
  [ unary main_v140 main_v141 (Host.negf : (⟨S32x1x256x256, .f32⟩ : BufTy).Contents (Elt F) → (⟨S32x1x256x256, .f32⟩ : BufTy).Contents (Elt F)),
    unary main_v141 main_v142 (Host.exp : (⟨S32x1x256x256, .f32⟩ : BufTy).Contents (Elt F) → (⟨S32x1x256x256, .f32⟩ : BufTy).Contents (Elt F)),
    nullary main_cst_13 (constant S_ .f32 0x3F800000#32),
    unary main_cst_13 main_v143 (broadcastInDim S32x1x256x256 ![] bcast_S_S32x1x256x256 : (⟨S_, .f32⟩ : BufTy).Contents (Elt F) → (⟨S32x1x256x256, .f32⟩ : BufTy).Contents (Elt F)),
    binary main_v143 main_v142 main_v144 (addf : (⟨S32x1x256x256, .f32⟩ : BufTy).Contents (Elt F) → (⟨S32x1x256x256, .f32⟩ : BufTy).Contents (Elt F) → (⟨S32x1x256x256, .f32⟩ : BufTy).Contents (Elt F)),
    nullary main_cst_14 (constant S_ .f32 0x3F800000#32),
    unary main_cst_14 main_v145 (broadcastInDim S32x1x256x256 ![] bcast_S_S32x1x256x256 : (⟨S_, .f32⟩ : BufTy).Contents (Elt F) → (⟨S32x1x256x256, .f32⟩ : BufTy).Contents (Elt F)),
    binary main_v145 main_v144 main_v146 (Host.divf : (⟨S32x1x256x256, .f32⟩ : BufTy).Contents (Elt F) → (⟨S32x1x256x256, .f32⟩ : BufTy).Contents (Elt F) → (⟨S32x1x256x256, .f32⟩ : BufTy).Contents (Elt F)),
    unary main_v68 main_v147 (broadcastInDim S131072x1 ![0] bcast_S131072_S131072x1_0 : (⟨S131072, .i32⟩ : BufTy).Contents (Elt F) → (⟨S131072x1, .i32⟩ : BufTy).Contents (Elt F)) ]

/-- The buffers `tailOps` writes. -/
abbrev tailOpsW : List (Ref sig .tc) := [main_v141, main_v142, main_cst_13, main_v143, main_v144, main_cst_14, main_v145, main_v146, main_v147]

/-- The operations of part 0 of the program, its stages joined. -/
def opsPart0 : List (HloOp τ sig (Elt F)) :=
  conv1Ops ++ (conv2Ops ++ (dotOps))

/-- The operations of part 1 of the program, its stages joined. -/
def opsPart1 : List (HloOp τ sig (Elt F)) :=
  argOps ++ (gatherOps ++ (lossOps ++ (stOps ++ (deconv1OpsA))))

/-- The operations of part 2 of the program, its stages joined. -/
def opsPart2 : List (HloOp τ sig (Elt F)) :=
  deconv1OpsB ++ (deconv2Ops ++ (tailOps))

/-- The whole program's operations. -/
abbrev ops : List (HloOp τ sig (Elt F)) := opsPart0 ++ (opsPart1 ++ opsPart2)

set_option maxRecDepth 8192 in
set_option maxHeartbeats 4000000 in
/-- Part 0 of the program runs its operations. -/
theorem main_part0_eq (c : Dev nD) : main_part0 (F := F) c = seq opsPart0 := rfl

set_option maxRecDepth 8192 in
set_option maxHeartbeats 4000000 in
/-- Part 1 of the program runs its operations. -/
theorem main_part1_eq (c : Dev nD) : main_part1 (F := F) c = seq opsPart1 := rfl

set_option maxRecDepth 8192 in
set_option maxHeartbeats 4000000 in
/-- Part 2 of the program runs its operations. -/
theorem main_part2_eq (c : Dev nD) : main_part2 (F := F) c = seq opsPart2 := rfl

set_option maxRecDepth 8192 in
/-- The program runs its operations. -/
theorem main_eq (c : Dev nD) : main (F := F) c = seq ops := by
  simp only [ops, seq_append, ← main_part0_eq c, ← main_part1_eq c, ← main_part2_eq c]
  rfl

/-- The program has no scoped buffers. -/
theorem scopedRefs_eq : (Finset.univ.filter fun b : Ref sig .tc => b.isScoped) = ∅ := by decide
/-- The program has no scoped semaphores. -/
theorem scopedSems_eq : (Finset.univ.filter fun sm : SemLoc sig => sm.isScoped .tc) = ∅ := by decide

set_option maxRecDepth 8192 in
/-- The operations of the first convolution and its rectification touch the program's own buffers only. -/
theorem conv1Ops_sub : (conv1Ops : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub ..⟩
set_option maxRecDepth 8192 in
/-- The operations of the first convolution and its rectification allocate nothing. -/
theorem conv1Ops_fresh : (conv1Ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of the first convolution and its rectification write the listed buffers only. -/
theorem conv1Ops_writes : (conv1Ops : List (HloOp τ sig (Elt F))).Forall fun op => op.writes ⊆ (conv1OpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the first convolution and its rectification do not write keeps its contents. -/
theorem conv1Ops_keep (V : Valuation τ sig (Elt F)) (r : Ref sig .tc) (h : r ∉ conv1OpsW) :
    after conv1Ops V (Proc.devRef .tc r) = V (Proc.devRef .tc r) :=
  after_of_writes_sub conv1Ops _ conv1Ops_writes h

set_option maxRecDepth 8192 in
/-- The operations of the second convolution, its rectification, and the rows of its pixels touch the program's own buffers only. -/
theorem conv2Ops_sub : (conv2Ops : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub .., nullary_bufs_sub .., unary_bufs_sub .., binary_bufs_sub .., unary_bufs_sub .., reshape_bufs_sub ..⟩
set_option maxRecDepth 8192 in
/-- The operations of the second convolution, its rectification, and the rows of its pixels allocate nothing. -/
theorem conv2Ops_fresh : (conv2Ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of the second convolution, its rectification, and the rows of its pixels write the listed buffers only. -/
theorem conv2Ops_writes : (conv2Ops : List (HloOp τ sig (Elt F))).Forall fun op => op.writes ⊆ (conv2OpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the second convolution, its rectification, and the rows of its pixels do not write keeps its contents. -/
theorem conv2Ops_keep (V : Valuation τ sig (Elt F)) (r : Ref sig .tc) (h : r ∉ conv2OpsW) :
    after conv2Ops V (Proc.devRef .tc r) = V (Proc.devRef .tc r) :=
  after_of_writes_sub conv2Ops _ conv2Ops_writes h

set_option maxRecDepth 8192 in
/-- The operations of the pixels' squared norms and their products with the codebook touch the program's own buffers only. -/
theorem dotOps_sub : (dotOps : List (HloOp τ sig (Elt F))).Forall fun op => op.bufs ⊆ tcRefs τ sig :=
  ⟨binary_bufs_sub .., nullary_bufs_sub .., binary_bufs_sub .., unary_bufs_sub .., unary_bufs_sub .., binary_bufs_sub ..⟩
set_option maxRecDepth 8192 in
/-- The operations of the pixels' squared norms and their products with the codebook allocate nothing. -/
theorem dotOps_fresh : (dotOps : List (HloOp τ sig (Elt F))).Forall fun op => op.fresh = ∅ :=
  ⟨rfl, rfl, rfl, rfl, rfl, rfl⟩
set_option maxRecDepth 8192 in
/-- The operations of the pixels' squared norms and their products with the codebook write the listed buffers only. -/
theorem dotOps_writes : (dotOps : List (HloOp τ sig (Elt F))).Forall fun op => op.writes ⊆ (dotOpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the pixels' squared norms and their products with the codebook do not write keeps its contents. -/
theorem dotOps_keep (V : Valuation τ sig (Elt F)) (r : Ref sig .tc) (h : r ∉ dotOpsW) :
    after dotOps V (Proc.devRef .tc r) = V (Proc.devRef .tc r) :=
  after_of_writes_sub dotOps _ dotOps_writes h

set_option maxRecDepth 8192 in
/-- The operations of the distances and the least of each row touch the program's own buffers only. -/
theorem argOps_sub : (argOps : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., nullary_bufs_sub .., nullary_bufs_sub .., nullary_bufs_sub .., quaternary_bufs_sub .., quaternary_bufs_sub ..⟩
set_option maxRecDepth 8192 in
/-- The operations of the distances and the least of each row allocate nothing. -/
theorem argOps_fresh : (argOps : List (HloOp τ sig (Elt F))).Forall fun op => op.fresh = ∅ :=
  ⟨rfl, rfl, rfl, rfl, rfl, rfl, rfl, rfl, rfl, rfl, rfl, rfl, rfl, rfl, rfl, rfl, rfl, rfl, rfl⟩
set_option maxRecDepth 8192 in
/-- The operations of the distances and the least of each row write the listed buffers only. -/
theorem argOps_writes : (argOps : List (HloOp τ sig (Elt F))).Forall fun op => op.writes ⊆ (argOpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the distances and the least of each row do not write keeps its contents. -/
theorem argOps_keep (V : Valuation τ sig (Elt F)) (r : Ref sig .tc) (h : r ∉ argOpsW) :
    after argOps V (Proc.devRef .tc r) = V (Proc.devRef .tc r) :=
  after_of_writes_sub argOps _ argOps_writes h

set_option maxRecDepth 8192 in
/-- The operations of the codebook rows looked up touch the program's own buffers only. -/
theorem gatherOps_sub : (gatherOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub ..⟩
set_option maxRecDepth 8192 in
/-- The operations of the codebook rows looked up allocate nothing. -/
theorem gatherOps_fresh : (gatherOps : List (HloOp τ sig (Elt F))).Forall fun op => op.fresh = ∅ :=
  ⟨rfl, rfl, rfl, rfl, rfl, rfl, rfl, rfl, rfl, rfl⟩
set_option maxRecDepth 8192 in
/-- The operations of the codebook rows looked up write the listed buffers only. -/
theorem gatherOps_writes : (gatherOps : List (HloOp τ sig (Elt F))).Forall fun op => op.writes ⊆ (gatherOpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the codebook rows looked up do not write keeps its contents. -/
theorem gatherOps_keep (V : Valuation τ sig (Elt F)) (r : Ref sig .tc) (h : r ∉ gatherOpsW) :
    after gatherOps V (Proc.devRef .tc r) = V (Proc.devRef .tc r) :=
  after_of_writes_sub gatherOps _ gatherOps_writes h

set_option maxRecDepth 8192 in
/-- The operations of the two losses and their weighted sum touch the program's own buffers only. -/
theorem lossOps_sub : (lossOps : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub ..⟩
set_option maxRecDepth 8192 in
/-- The operations of the two losses and their weighted sum allocate nothing. -/
theorem lossOps_fresh : (lossOps : List (HloOp τ sig (Elt F))).Forall fun op => op.fresh = ∅ :=
  ⟨rfl, rfl, rfl, rfl, rfl, rfl, rfl, rfl, rfl, rfl, rfl, rfl, rfl, rfl, rfl⟩
set_option maxRecDepth 8192 in
/-- The operations of the two losses and their weighted sum write the listed buffers only. -/
theorem lossOps_writes : (lossOps : List (HloOp τ sig (Elt F))).Forall fun op => op.writes ⊆ (lossOpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the two losses and their weighted sum do not write keeps its contents. -/
theorem lossOps_keep (V : Valuation τ sig (Elt F)) (r : Ref sig .tc) (h : r ∉ lossOpsW) :
    after lossOps V (Proc.devRef .tc r) = V (Proc.devRef .tc r) :=
  after_of_writes_sub lossOps _ lossOps_writes h

set_option maxRecDepth 8192 in
/-- The operations of the quantised image handed to the decoder touch the program's own buffers only. -/
theorem stOps_sub : (stOps : List (HloOp τ sig (Elt F))).Forall fun op => op.bufs ⊆ tcRefs τ sig :=
  ⟨binary_bufs_sub .., binary_bufs_sub .., unary_bufs_sub ..⟩
set_option maxRecDepth 8192 in
/-- The operations of the quantised image handed to the decoder allocate nothing. -/
theorem stOps_fresh : (stOps : List (HloOp τ sig (Elt F))).Forall fun op => op.fresh = ∅ :=
  ⟨rfl, rfl, rfl⟩
set_option maxRecDepth 8192 in
/-- The operations of the quantised image handed to the decoder write the listed buffers only. -/
theorem stOps_writes : (stOps : List (HloOp τ sig (Elt F))).Forall fun op => op.writes ⊆ (stOpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the quantised image handed to the decoder do not write keeps its contents. -/
theorem stOps_keep (V : Valuation τ sig (Elt F)) (r : Ref sig .tc) (h : r ∉ stOpsW) :
    after stOps V (Proc.devRef .tc r) = V (Proc.devRef .tc r) :=
  after_of_writes_sub stOps _ stOps_writes h

set_option maxRecDepth 8192 in
/-- The operations of the first half of the first transposed convolution touch the program's own buffers only. -/
theorem deconv1OpsA_sub : (deconv1OpsA : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub ..⟩
set_option maxRecDepth 8192 in
/-- The operations of the first half of the first transposed convolution allocate nothing. -/
theorem deconv1OpsA_fresh : (deconv1OpsA : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 8192 in
/-- The operations of the first half of the first transposed convolution write the listed buffers only. -/
theorem deconv1OpsA_writes : (deconv1OpsA : List (HloOp τ sig (Elt F))).Forall fun op => op.writes ⊆ (deconv1OpsAW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the first half of the first transposed convolution do not write keeps its contents. -/
theorem deconv1OpsA_keep (V : Valuation τ sig (Elt F)) (r : Ref sig .tc) (h : r ∉ deconv1OpsAW) :
    after deconv1OpsA V (Proc.devRef .tc r) = V (Proc.devRef .tc r) :=
  after_of_writes_sub deconv1OpsA _ deconv1OpsA_writes h

set_option maxRecDepth 8192 in
/-- The operations of the second half of the first transposed convolution, and its rectification touch the program's own buffers only. -/
theorem deconv1OpsB_sub : (deconv1OpsB : List (HloOp τ sig (Elt F))).Forall fun op => op.bufs ⊆ tcRefs τ sig :=
  ⟨unary_bufs_sub .., unary_bufs_sub .., nary_bufs_sub .., unary_bufs_sub .., binary_bufs_sub .., unary_bufs_sub .., unary_bufs_sub .., unary_bufs_sub .., binary_bufs_sub .., nullary_bufs_sub .., unary_bufs_sub .., binary_bufs_sub ..⟩
set_option maxRecDepth 8192 in
/-- The operations of the second half of the first transposed convolution, and its rectification allocate nothing. -/
theorem deconv1OpsB_fresh : (deconv1OpsB : List (HloOp τ sig (Elt F))).Forall fun op => op.fresh = ∅ :=
  ⟨rfl, rfl, rfl, rfl, rfl, rfl, rfl, rfl, rfl, rfl, rfl, rfl⟩
set_option maxRecDepth 8192 in
/-- The operations of the second half of the first transposed convolution, and its rectification write the listed buffers only. -/
theorem deconv1OpsB_writes : (deconv1OpsB : List (HloOp τ sig (Elt F))).Forall fun op => op.writes ⊆ (deconv1OpsBW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the second half of the first transposed convolution, and its rectification do not write keeps its contents. -/
theorem deconv1OpsB_keep (V : Valuation τ sig (Elt F)) (r : Ref sig .tc) (h : r ∉ deconv1OpsBW) :
    after deconv1OpsB V (Proc.devRef .tc r) = V (Proc.devRef .tc r) :=
  after_of_writes_sub deconv1OpsB _ deconv1OpsB_writes h

set_option maxRecDepth 8192 in
/-- The operations of the second transposed convolution touch the program's own buffers only. -/
theorem deconv2Ops_sub : (deconv2Ops : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., nary_bufs_sub .., unary_bufs_sub .., binary_bufs_sub .., unary_bufs_sub .., unary_bufs_sub .., unary_bufs_sub .., binary_bufs_sub ..⟩
set_option maxRecDepth 8192 in
/-- The operations of the second transposed convolution allocate nothing. -/
theorem deconv2Ops_fresh : (deconv2Ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- The operations of the second transposed convolution write the listed buffers only. -/
theorem deconv2Ops_writes : (deconv2Ops : List (HloOp τ sig (Elt F))).Forall fun op => op.writes ⊆ (deconv2OpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the second transposed convolution do not write keeps its contents. -/
theorem deconv2Ops_keep (V : Valuation τ sig (Elt F)) (r : Ref sig .tc) (h : r ∉ deconv2OpsW) :
    after deconv2Ops V (Proc.devRef .tc r) = V (Proc.devRef .tc r) :=
  after_of_writes_sub deconv2Ops _ deconv2Ops_writes h

set_option maxRecDepth 8192 in
/-- The operations of the sigmoid, and the column of indices touch the program's own buffers only. -/
theorem tailOps_sub : (tailOps : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub ..⟩
set_option maxRecDepth 8192 in
/-- The operations of the sigmoid, and the column of indices allocate nothing. -/
theorem tailOps_fresh : (tailOps : List (HloOp τ sig (Elt F))).Forall fun op => op.fresh = ∅ :=
  ⟨rfl, rfl, rfl, rfl, rfl, rfl, rfl, rfl, rfl⟩
set_option maxRecDepth 8192 in
/-- The operations of the sigmoid, and the column of indices write the listed buffers only. -/
theorem tailOps_writes : (tailOps : List (HloOp τ sig (Elt F))).Forall fun op => op.writes ⊆ (tailOpsW.map (Proc.devRef (τ := τ) .tc)).toFinset := by
  simp only [List.Forall, nullary_writes, unary_writes, binary_writes, ternary_writes, quaternary_writes, reshape_writes, nary_writes, Finset.singleton_subset_iff, List.mem_toFinset]
  repeat' apply And.intro
  all_goals exact List.mem_map_of_mem (by decide)
/-- A buffer the operations of the sigmoid, and the column of indices do not write keeps its contents. -/
theorem tailOps_keep (V : Valuation τ sig (Elt F)) (r : Ref sig .tc) (h : r ∉ tailOpsW) :
    after tailOps V (Proc.devRef .tc r) = V (Proc.devRef .tc r) :=
  after_of_writes_sub tailOps _ tailOps_writes h

/-- Every operation of the program touches its own buffers only. -/
theorem ops_sub : (ops : List (HloOp τ sig (Elt F))).Forall fun op => op.bufs ⊆ tcRefs τ sig :=
  List.forall_iff_forall_mem.mpr fun op h => by
    simp only [ops, opsPart0, opsPart1, opsPart2, List.mem_append, or_assoc] at h
    rcases h with h | h | h | h | h | h | h | h | h | h | h
    exacts [List.forall_iff_forall_mem.mp conv1Ops_sub op h, List.forall_iff_forall_mem.mp conv2Ops_sub op h, List.forall_iff_forall_mem.mp dotOps_sub op h, List.forall_iff_forall_mem.mp argOps_sub op h, List.forall_iff_forall_mem.mp gatherOps_sub op h, List.forall_iff_forall_mem.mp lossOps_sub op h, List.forall_iff_forall_mem.mp stOps_sub op h, List.forall_iff_forall_mem.mp deconv1OpsA_sub op h, List.forall_iff_forall_mem.mp deconv1OpsB_sub op h, List.forall_iff_forall_mem.mp deconv2Ops_sub op h, List.forall_iff_forall_mem.mp tailOps_sub op h]

/-- Every operation of the program allocates nothing. -/
theorem ops_fresh : ∀ op ∈ (ops : List (HloOp τ sig (Elt F))), op.fresh = ∅ := fun op h => by
    simp only [ops, opsPart0, opsPart1, opsPart2, List.mem_append, or_assoc] at h
    rcases h with h | h | h | h | h | h | h | h | h | h | h
    exacts [List.forall_iff_forall_mem.mp conv1Ops_fresh op h, List.forall_iff_forall_mem.mp conv2Ops_fresh op h, List.forall_iff_forall_mem.mp dotOps_fresh op h, List.forall_iff_forall_mem.mp argOps_fresh op h, List.forall_iff_forall_mem.mp gatherOps_fresh op h, List.forall_iff_forall_mem.mp lossOps_fresh op h, List.forall_iff_forall_mem.mp stOps_fresh op h, List.forall_iff_forall_mem.mp deconv1OpsA_fresh op h, List.forall_iff_forall_mem.mp deconv1OpsB_fresh op h, List.forall_iff_forall_mem.mp deconv2Ops_fresh op h, List.forall_iff_forall_mem.mp tailOps_fresh op h]

/-- From any memory with zero counters every weakly fair run of the reference ends, with each buffer as the listed
    operations leave it. -/
theorem run_ops (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

end Cert.ReferenceIdeal.Value

end
-- ==== Proof.RConv.lean ====
/-
  The reference's two convolutions at an index: the windows it stacks are the bordered picture read at stride two, and
  what it sums over them, clipped below at zero, is the network's layer.
-/
module
public import proofs.«01_k».proof.Proof.Net
public import proofs.«01_k».proof.Proof.RefOps
public import Idealize.ShloMosaic.Lib.StableHlo.RunRead
public import Idealize.ShloMosaic.Lib.Pipeline.ValueKit
public import Idealize.ShloMosaic.Lib.ReduceScatter.Sum
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Spec
open StableHlo View

/-- A one-plane array as one piece of a pile on the middle axis of five. -/
theorem piece5 {N C I S : ℕ} (f : (⟨5, ![N, C, 1, I, S]⟩ : Shape).Idx → EReal) (g : ℕ → Fin N → Fin C → Fin I → Fin S → EReal) (k : ℕ)
    (h : ∀ n c i s, f (ix5 n c 0 i s) = g k n c i s) (n : Fin N) (c : Fin C) (b : Fin 4) (i : Fin I) (s : Fin S) :
    PieceAt (t := ⟨5, ![N, C, 4, I, S]⟩) 2 (ix5 n c b i s) (g b n c i s) ⟨5, ![N, C, 1, I, S]⟩ f k := by
  intro hk _ y h0 hb
  have hy : y = ix5 n c 0 i s := by
    funext e
    fin_cases e
    · exact Fin.ext (hb 0 (by intro h; cases h))
    · exact Fin.ext (hb 1 (by intro h; cases h))
    · exact Fin.ext h0
    · exact Fin.ext (hb 3 (by intro h; cases h))
    · exact Fin.ext (hb 4 (by intro h; cases h))
  rw [hy, h]
  exact congrArg (fun m => g m n c i s) (Eq.symm hk)

/-- Four one-plane arrays piled on the middle axis of five. -/
theorem rows_at {N C I S : ℕ} (f0 f1 f2 f3 : (⟨5, ![N, C, 1, I, S]⟩ : Shape).Idx → EReal) (g : ℕ → Fin N → Fin C → Fin I → Fin S → EReal)
    (h0 : ∀ n c i s, f0 (ix5 n c 0 i s) = g 0 n c i s) (h1 : ∀ n c i s, f1 (ix5 n c 0 i s) = g 1 n c i s)
    (h2 : ∀ n c i s, f2 (ix5 n c 0 i s) = g 2 n c i s) (h3 : ∀ n c i s, f3 (ix5 n c 0 i s) = g 3 n c i s)
    (hc) (n : Fin N) (c : Fin C) (b : Fin 4) (i : Fin I) (s : Fin S) :
    concatenate ⟨5, ![N, C, 4, I, S]⟩ 2 [⟨⟨5, ![N, C, 1, I, S]⟩, f0⟩, ⟨⟨5, ![N, C, 1, I, S]⟩, f1⟩, ⟨⟨5, ![N, C, 1, I, S]⟩, f2⟩, ⟨⟨5, ![N, C, 1, I, S]⟩, f3⟩] hc (ix5 n c b i s)
      = g b n c i s :=
  concatenate_unit_eq _ _ hc _ _ rfl ⟨piece5 f0 g 0 h0 n c b i s, piece5 f1 g 1 h1 n c b i s, piece5 f2 g 2 h2 n c b i s, piece5 f3 g 3 h3 n c b i s, trivial⟩

/-- A one-plane array as one piece of a pile on the fourth axis of six. -/
theorem piece6 {N C I S : ℕ} (f : (⟨6, ![N, C, 4, 1, I, S]⟩ : Shape).Idx → EReal) (g : ℕ → Fin N → Fin C → Fin 4 → Fin I → Fin S → EReal) (k : ℕ)
    (h : ∀ n c a i s, f (ix6 n c a 0 i s) = g k n c a i s) (n : Fin N) (c : Fin C) (a b : Fin 4) (i : Fin I) (s : Fin S) :
    PieceAt (t := ⟨6, ![N, C, 4, 4, I, S]⟩) 3 (ix6 n c a b i s) (g b n c a i s) ⟨6, ![N, C, 4, 1, I, S]⟩ f k := by
  intro hk _ y h0 hb
  have hy : y = ix6 n c a 0 i s := by
    funext e
    fin_cases e
    · exact Fin.ext (hb 0 (by intro h; cases h))
    · exact Fin.ext (hb 1 (by intro h; cases h))
    · exact Fin.ext (hb 2 (by intro h; cases h))
    · exact Fin.ext h0
    · exact Fin.ext (hb 4 (by intro h; cases h))
    · exact Fin.ext (hb 5 (by intro h; cases h))
  rw [hy, h]
  exact congrArg (fun m => g m n c a i s) (Eq.symm hk)

/-- Four one-plane arrays piled on the fourth axis of six. -/
theorem cols_at {N C I S : ℕ} (f0 f1 f2 f3 : (⟨6, ![N, C, 4, 1, I, S]⟩ : Shape).Idx → EReal) (g : ℕ → Fin N → Fin C → Fin 4 → Fin I → Fin S → EReal)
    (h0 : ∀ n c a i s, f0 (ix6 n c a 0 i s) = g 0 n c a i s) (h1 : ∀ n c a i s, f1 (ix6 n c a 0 i s) = g 1 n c a i s)
    (h2 : ∀ n c a i s, f2 (ix6 n c a 0 i s) = g 2 n c a i s) (h3 : ∀ n c a i s, f3 (ix6 n c a 0 i s) = g 3 n c a i s)
    (hc) (n : Fin N) (c : Fin C) (a b : Fin 4) (i : Fin I) (s : Fin S) :
    concatenate ⟨6, ![N, C, 4, 4, I, S]⟩ 3 [⟨⟨6, ![N, C, 4, 1, I, S]⟩, f0⟩, ⟨⟨6, ![N, C, 4, 1, I, S]⟩, f1⟩, ⟨⟨6, ![N, C, 4, 1, I, S]⟩, f2⟩, ⟨⟨6, ![N, C, 4, 1, I, S]⟩, f3⟩] hc (ix6 n c a b i s)
      = g b n c a i s :=
  concatenate_unit_eq _ _ hc _ _ rfl ⟨piece6 f0 g 0 h0 n c a b i s, piece6 f1 g 1 h1 n c a b i s, piece6 f2 g 2 h2 n c a b i s, piece6 f3 g 3 h3 n c a b i s, trivial⟩

/-! ### The first convolution -/

/-- The picture with its border of zeros. -/
theorem pad1_at (X : Vec Ideal S32x1x256x256 .f32) (h h') (n : Fin 32) (c : Fin 1) (r s : ℕ) (hr : r < 258) (hs : s < 258) :
    (pad S32x1x258x258 ![0, 0, 1, 1] ![0, 0, 1, 1] ![0, 0, 0, 0] X (sitofp (F := Ideal) .f32 (constantI S_ 32 0#32)) h h' : S32x1x258x258.Idx → EReal) (ix4 n c ⟨r, hr⟩ ⟨s, hs⟩)
      = pdn 256 (fun i j => rd4 X n c i j) r s := by
  pointwise
  have h0 : (FloatOps.sitofp FTy.f32 (0#32) : Ideal .f32) = (0 : EReal) := by simp [FloatOps.sitofp]
  rw [pdn]
  by_cases hq : (1 ≤ r ∧ r - 1 < 256) ∧ 1 ≤ s ∧ s - 1 < 256
  · rw [dif_pos hq, if_pos (by omega)]
    obtain rfl : c = 0 := Subsingleton.elim _ _
    exact rd4_ix X n 0 ⟨r - 1, hq.1.2⟩ ⟨s - 1, hq.2.2⟩
  · rw [dif_neg hq, if_neg (by omega)]
    exact h0

/-- Every second row from row `k` on. -/
theorem row1_at (X : Vec Ideal S32x1x258x258 .f32) (k : ℕ) (hk : k < 4) (h h') (n : Fin 32) (c : Fin 1) (i : Fin 128) (s : Fin 258) :
    (broadcastInDim S32x1x1x128x258 ![0, 1, 3, 4] h (Host.slice S32x1x128x258 ![0, 0, k, 0] ![1, 1, 2, 1] X h') : Vec Ideal S32x1x1x128x258 .f32) (ix5 n c 0 i s)
      = X (ix4 n c ⟨2 * i + k, by omega⟩ s) := by
  pointwise
  obtain rfl : c = 0 := Subsingleton.elim _ _
  simp only [Nat.add_comm]

/-- Every second column from column `k` on. -/
theorem col1_at (X : Vec Ideal S32x1x4x128x258 .f32) (k : ℕ) (hk : k < 4) (h h') (n : Fin 32) (c : Fin 1) (a : Fin 4) (i j : Fin 128) :
    (broadcastInDim S32x1x4x1x128x128 ![0, 1, 2, 4, 5] h (Host.slice S32x1x4x128x128 ![0, 0, 0, 0, k] ![1, 1, 1, 1, 2] X h') : Vec Ideal S32x1x4x1x128x128 .f32) (ix6 n c a 0 i j)
      = X (ix5 n c a i ⟨2 * j + k, by omega⟩) := by
  pointwise
  obtain rfl : c = 0 := Subsingleton.elim _ _
  simp only [Nat.add_comm]

/-- The index of a contraction over three axes, from its coordinates. -/
def con3 {sl sr so : Shape} (d : DotDims sl sr so) {A B C : ℕ} (h : (⟨3, ![A, B, C]⟩ : Shape) = d.contr) (x : Fin A) (y : Fin B) (z : Fin C) : d.contr.Idx :=
  fun p => Fin.mk (ix3 x y z (p.cast (congrArg Shape.rank h.symm))).val
    ((Shape.idxEquiv_apply_val h (ix3 x y z) p) ▸ (Shape.idxEquiv h (ix3 x y z) p).isLt)

/-- A sum over a contraction's three axes is the triple sum. -/
theorem sum_contr3 {sl sr so : Shape} (d : DotDims sl sr so) {A B C : ℕ} (h : (⟨3, ![A, B, C]⟩ : Shape) = d.contr) (f : d.contr.Idx → EReal) :
    ∑ k, f k = ∑ x : Fin A, ∑ y : Fin B, ∑ z : Fin C, f (con3 d h x y z) := by
  have e : ∀ x y z, con3 d h x y z = Shape.idxEquiv h (ix3 x y z) := fun x y z =>
    funext fun p => Fin.ext (Shape.idxEquiv_apply_val h (ix3 x y z) p).symm
  simp only [e]
  rw [← Fintype.sum_equiv (Shape.idxEquiv h) (fun k => f (Shape.idxEquiv h k)) f fun _ => rfl, sum_idx3]

/-- The windows summed. -/
theorem dot1_at (w : S64x1x4x4.Idx → EReal) (V : S32x1x4x4x128x128.Idx → EReal) (n : Fin 32) (o : Fin 64) (i j : Fin 128) :
    Ideal.matmul dot_S64x1x4x4_S32x1x4x4x128x128_S64x32x128x128_123_123_0_045_n_n w V (fun _ => 0) (ix4 o n i j)
      = ∑ kh : Fin 4, ∑ kw : Fin 4, V (ix6 n 0 kh kw i j) * w (ix4 o 0 kh kw) := by
  show (0 : EReal) + ∑ k, _ = _
  rw [zero_add, sum_contr3 _ (A := 1) (B := 4) (C := 4) (by decide), Fin.sum_univ_one]
  refine Finset.sum_congr rfl fun kh _ => Finset.sum_congr rfl fun kw _ => ?_
  rw [mul_comm]
  refine congrArg₂ (· * ·) (congrArg V ?_) (congrArg w ?_)
  · funext a
    fin_cases a <;> rfl
  · funext a
    fin_cases a <;> rfl

/-- The windows summed against the table, the bias added, and the result clipped below at zero. -/
theorem conv1_at (w : FVec Ideal S64x1x4x4 .f32) (V : FVec Ideal S32x1x4x4x128x128 .f32) (b : FVec Ideal S64 .f32) (ht) (hb : S64.BroadcastsInDim S1x64x1x1 ![1]) (hb') (hz)
    (n : Fin 32) (o : Fin 64) (i j : Fin 128) :
    (maximumf (addf (transpose S32x64x128x128 [1, 0, 2, 3] (Host.dotGeneral dot_S64x1x4x4_S32x1x4x4x128x128_S64x32x128x128_123_123_0_045_n_n none w V) ht)
      (broadcastInDim S32x64x128x128 ![0, 1, 2, 3] hb' (broadcastInDim S1x64x1x1 ![1] hb b))) (broadcastInDim S32x64x128x128 ![] hz (constant (F := Ideal) S_ .f32 0x00000000#32)) : FVec Ideal S32x64x128x128 .f32) (ix4 n o i j)
      = max (∑ kh : Fin 4, ∑ kw : Fin 4, V (ix6 n 0 kh kw i j) * w (ix4 o 0 kh kw) + b (ix1 o)) 0 := by
  pointwise
  rw [dot1_at]
/-- The first convolution's result. -/
theorem conv1 (W : Valuation τ sig (Elt Ideal)) (n : Fin 32) (o : Fin 64) (i j : Fin 128) :
    (after conv1Ops W (Proc.devRef .tc main_v24) : Vec Ideal S32x64x128x128 .f32) (ix4 n o i j)
      = max (∑ kh : Fin 4, ∑ kw : Fin 4, pdn 256 (fun r s => rd4 (W (Proc.devRef .tc main_arg0) : Vec Ideal S32x1x256x256 .f32) n 0 r s) (2 * i + kh) (2 * j + kw)
          * (W (Proc.devRef .tc main_arg1) : Vec Ideal S64x1x4x4 .f32) (ix4 o 0 kh kw) + (W (Proc.devRef .tc main_arg2) : Vec Ideal S64 .f32) (ix1 o)) 0 := by
  unfold_abbrev_sides
  after_reads_simp
  simp only [TRef.toBuf, TRef.ofBuf, cast_eq]
  refine (conv1_at _ _ _ _ _ _ _ n o i j).trans ?_
  refine congrArg (fun s => max (s + _) 0) (Finset.sum_congr rfl fun kh _ => Finset.sum_congr rfl fun kw _ => congrArg (· * _) ?_)
  unfold fn_main_v18
  refine (cols_at _ _ _ _ (fun k n _ a i j => pdn 256 (fun r s => rd4 (W (Proc.devRef .tc main_arg0) : Vec Ideal S32x1x256x256 .f32) n 0 r s) (2 * i + a) (2 * j + k))
    ?_ ?_ ?_ ?_ _ n 0 kh kw i j).trans rfl
  all_goals
    intro n c a i j
    dsimp only [Matrix.cons_val]
    after_reads_simp
    refine (col1_at _ _ (by omega) _ _ n c a i j).trans ?_
    unfold fn_main_v9
    refine (rows_at _ _ _ _ (fun k n _ i s => pdn 256 (fun r s => rd4 (W (Proc.devRef .tc main_arg0) : Vec Ideal S32x1x256x256 .f32) n 0 r s) (2 * i + k) s)
      ?_ ?_ ?_ ?_ _ n c a i _).trans rfl
    all_goals
      intro n c i s
      dsimp only [Matrix.cons_val]
      after_reads_simp
      simp only [TRef.toBuf, TRef.ofBuf, cast_eq]
      refine (row1_at _ _ (by omega) _ _ n c i s).trans ?_
      obtain rfl : c = 0 := Subsingleton.elim _ _
      exact pad1_at _ _ _ n 0 _ _ _ _
end Cert.ReferenceIdeal.Value
-- ==== Proof.RConv2.lean ====
/-
  The reference's second convolution at an index, and its result laid out by place and by row.
-/
module
public import proofs.«01_k».proof.Proof.RConv
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Spec
open StableHlo View

/-- The planes with their border of zeros. -/
theorem pad2_at (X : Vec Ideal S32x64x128x128 .f32) (h h') (n : Fin 32) (c : Fin 64) (r s : ℕ) (hr : r < 130) (hs : s < 130) :
    (pad S32x64x130x130 ![0, 0, 1, 1] ![0, 0, 1, 1] ![0, 0, 0, 0] X (sitofp (F := Ideal) .f32 (constantI S_ 32 0#32)) h h' : S32x64x130x130.Idx → EReal) (ix4 n c ⟨r, hr⟩ ⟨s, hs⟩)
      = pdn 128 (fun i j => rd4 X n c i j) r s := by
  pointwise
  have h0 : (FloatOps.sitofp FTy.f32 (0#32) : Ideal .f32) = (0 : EReal) := by simp [FloatOps.sitofp]
  rw [pdn]
  by_cases hq : (1 ≤ r ∧ r - 1 < 128) ∧ 1 ≤ s ∧ s - 1 < 128
  · rw [dif_pos hq, if_pos (by omega)]
    exact rd4_ix X n c ⟨r - 1, hq.1.2⟩ ⟨s - 1, hq.2.2⟩
  · rw [dif_neg hq, if_neg (by omega)]
    exact h0

/-- Every second row from row `k` on. -/
theorem row2_at (X : Vec Ideal S32x64x130x130 .f32) (k : ℕ) (hk : k < 4) (h h') (n : Fin 32) (c : Fin 64) (i : Fin 64) (s : Fin 130) :
    (broadcastInDim S32x64x1x64x130 ![0, 1, 3, 4] h (Host.slice S32x64x64x130 ![0, 0, k, 0] ![1, 1, 2, 1] X h') : Vec Ideal S32x64x1x64x130 .f32) (ix5 n c 0 i s)
      = X (ix4 n c ⟨2 * i + k, by omega⟩ s) := by
  pointwise
  simp only [Nat.add_comm]

/-- Every second column from column `k` on. -/
theorem col2_at (X : Vec Ideal S32x64x4x64x130 .f32) (k : ℕ) (hk : k < 4) (h h') (n : Fin 32) (c : Fin 64) (a : Fin 4) (i j : Fin 64) :
    (broadcastInDim S32x64x4x1x64x64 ![0, 1, 2, 4, 5] h (Host.slice S32x64x4x64x64 ![0, 0, 0, 0, k] ![1, 1, 1, 1, 2] X h') : Vec Ideal S32x64x4x1x64x64 .f32) (ix6 n c a 0 i j)
      = X (ix5 n c a i ⟨2 * j + k, by omega⟩) := by
  pointwise
  simp only [Nat.add_comm]

/-- The windows summed over the taps and the input channels. -/
theorem dot2_at (w : S64x64x4x4.Idx → EReal) (V : S32x64x4x4x64x64.Idx → EReal) (n : Fin 32) (o : Fin 64) (i j : Fin 64) :
    Ideal.matmul dot_S64x64x4x4_S32x64x4x4x64x64_S64x32x64x64_123_123_0_045_n_n w V (fun _ => 0) (ix4 o n i j)
      = ∑ kh : Fin 4, ∑ kw : Fin 4, ∑ c : Fin 64, V (ix6 n c kh kw i j) * w (ix4 o c kh kw) := by
  show (0 : EReal) + ∑ k, _ = _
  rw [zero_add, sum_contr3 _ (A := 64) (B := 4) (C := 4) (by decide), Finset.sum_comm]
  refine Finset.sum_congr rfl fun kh _ => ?_
  rw [Finset.sum_comm]
  refine Finset.sum_congr rfl fun kw _ => Finset.sum_congr rfl fun c _ => ?_
  rw [mul_comm]
  refine congrArg₂ (· * ·) (congrArg V ?_) (congrArg w ?_)
  · funext a
    fin_cases a <;> rfl
  · funext a
    fin_cases a <;> rfl

/-- The windows summed against the table, the bias added, and the result clipped below at zero. -/
theorem conv2_at (w : FVec Ideal S64x64x4x4 .f32) (V : FVec Ideal S32x64x4x4x64x64 .f32) (b : FVec Ideal S64 .f32) (ht) (hb : S64.BroadcastsInDim S1x64x1x1 ![1]) (hb') (hz)
    (n : Fin 32) (o : Fin 64) (i j : Fin 64) :
    (maximumf (addf (transpose S32x64x64x64 [1, 0, 2, 3] (Host.dotGeneral dot_S64x64x4x4_S32x64x4x4x64x64_S64x32x64x64_123_123_0_045_n_n none w V) ht)
      (broadcastInDim S32x64x64x64 ![0, 1, 2, 3] hb' (broadcastInDim S1x64x1x1 ![1] hb b))) (broadcastInDim S32x64x64x64 ![] hz (constant (F := Ideal) S_ .f32 0x00000000#32)) : FVec Ideal S32x64x64x64 .f32) (ix4 n o i j)
      = max (∑ kh : Fin 4, ∑ kw : Fin 4, ∑ c : Fin 64, V (ix6 n c kh kw i j) * w (ix4 o c kh kw) + b (ix1 o)) 0 := by
  pointwise
  rw [dot2_at]

/-- The second convolution's result. -/
theorem conv2 (W : Valuation τ sig (Elt Ideal)) (n : Fin 32) (o : Fin 64) (i j : Fin 64) :
    (after conv2Ops W (Proc.devRef .tc main_v49) : Vec Ideal S32x64x64x64 .f32) (ix4 n o i j)
      = max (∑ kh : Fin 4, ∑ kw : Fin 4, ∑ c : Fin 64, pdn 128 (fun r s => rd4 (W (Proc.devRef .tc main_v24) : Vec Ideal S32x64x128x128 .f32) n c r s) (2 * i + kh) (2 * j + kw)
          * (W (Proc.devRef .tc main_arg3) : Vec Ideal S64x64x4x4 .f32) (ix4 o c kh kw) + (W (Proc.devRef .tc main_arg4) : Vec Ideal S64 .f32) (ix1 o)) 0 := by
  unfold_abbrev_sides
  after_reads_simp
  simp only [TRef.toBuf, TRef.ofBuf, cast_eq]
  refine (conv2_at _ _ _ _ _ _ _ n o i j).trans ?_
  refine congrArg (fun s => max (s + _) 0) (Finset.sum_congr rfl fun kh _ => Finset.sum_congr rfl fun kw _ => Finset.sum_congr rfl fun c _ => congrArg (· * _) ?_)
  unfold fn_main_v43
  refine (cols_at _ _ _ _ (fun k n c a i j => pdn 128 (fun r s => rd4 (W (Proc.devRef .tc main_v24) : Vec Ideal S32x64x128x128 .f32) n c r s) (2 * i + a) (2 * j + k))
    ?_ ?_ ?_ ?_ _ n c kh kw i j).trans rfl
  all_goals
    intro n c a i j
    dsimp only [Matrix.cons_val]
    after_reads_simp
    refine (col2_at _ _ (by omega) _ _ n c a i j).trans ?_
    unfold fn_main_v34
    refine (rows_at _ _ _ _ (fun k n c i s => pdn 128 (fun r s => rd4 (W (Proc.devRef .tc main_v24) : Vec Ideal S32x64x128x128 .f32) n c r s) (2 * i + k) s)
      ?_ ?_ ?_ ?_ _ n c a i _).trans rfl
    all_goals
      intro n c i s
      dsimp only [Matrix.cons_val]
      after_reads_simp
      simp only [TRef.toBuf, TRef.ofBuf, cast_eq]
      refine (row2_at _ _ (by omega) _ _ n c i s).trans ?_
      exact pad2_at _ _ _ n c _ _ _ _

/-- The second convolution's result, channels last. -/
theorem conv2_last (W : Valuation τ sig (Elt Ideal)) (n : Fin 32) (i j o : Fin 64) :
    (after conv2Ops W (Proc.devRef .tc main_v50) : Vec Ideal S32x64x64x64 .f32) (ix4 n i j o)
      = (after conv2Ops W (Proc.devRef .tc main_v49) : Vec Ideal S32x64x64x64 .f32) (ix4 n o i j) := by
  have e : (after conv2Ops W (Proc.devRef .tc main_v50) : Vec Ideal S32x64x64x64 .f32)
      = transpose S32x64x64x64 [0, 2, 3, 1] (after conv2Ops W (Proc.devRef .tc main_v49) : Vec Ideal S32x64x64x64 .f32) transposes_S32x64x64x64_S32x64x64x64_0_2_3_1 := by
    unfold_abbrev_sides
    after_reads_simp
  rw [e]
  pointwise

/-- The second convolution's result, one row per place. -/
theorem conv2_row (W : Valuation τ sig (Elt Ideal)) (r : Fin 131072) (o : Fin 64) :
    (after conv2Ops W (Proc.devRef .tc main_v51) : Vec Ideal S131072x64 .f32) (ix2 r o)
      = (after conv2Ops W (Proc.devRef .tc main_v50) : Vec Ideal S32x64x64x64 .f32) (ix4 ⟨r / 4096, by omega⟩ ⟨r / 64 % 64, by omega⟩ ⟨r % 64, by omega⟩ o) := by
  have e : (after conv2Ops W (Proc.devRef .tc main_v51) : Vec Ideal S131072x64 .f32)
      = shapeCast S131072x64 (after conv2Ops W (Proc.devRef .tc main_v50) : Vec Ideal S32x64x64x64 .f32) shapeCasts_S32x64x64x64_S131072x64 := by
    unfold_abbrev_sides
    after_reads_simp
    rfl
  rw [e]
  pointwise
end Cert.ReferenceIdeal.Value
-- ==== Proof.RDec.lean ====
/-
  The operations of the reference's two transposed convolutions, at an index.
-/
module
public import proofs.«01_k».proof.Proof.RConv
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Spec
open StableHlo View

/-- The sum over the taps in reverse of a spread plane is the transposed convolution. -/
theorem dect_spread (f : Fin 64 → ℕ → ℕ → EReal) (w : Fin 64 → ℕ → ℕ → EReal) (i j : ℕ) :
    ∑ kh : Fin 4, ∑ kw : Fin 4, ∑ c : Fin 64,
        (if (i + (kh.rev : ℕ)) % 2 = 0 ∧ (j + (kw.rev : ℕ)) % 2 = 0 then f c ((i + (kh.rev : ℕ)) / 2) ((j + (kw.rev : ℕ)) / 2) else 0) * w c kh kw
      = dect (fun kh kw r s => ∑ c : Fin 64, f c r s * w c kh kw) i j := by
  have hr : ∀ k : Fin 4, (k.rev : ℕ) = 3 - k := fun k => by rw [Fin.val_rev]; omega
  unfold dect
  refine Finset.sum_congr rfl fun kh _ => Finset.sum_congr rfl fun kw _ => ?_
  rw [hr, hr]
  split
  · rfl
  · simp only [zero_mul, Finset.sum_const_zero]

/-- The planes spread to every second place, with a border: a place of odd row or column holds zero, another the
    bordered plane at half its coordinates. -/
theorem spread1_at (X : Vec Ideal S32x64x64x64 .f32) (h h') (n : Fin 32) (c : Fin 64) (r s : ℕ) (hr : r < 131) (hs : s < 131) :
    (pad S32x64x131x131 ![0, 0, 2, 2] ![0, 0, 2, 2] ![0, 0, 1, 1] X (constant (F := Ideal) S_ .f32 0x00000000#32) h h' : S32x64x131x131.Idx → EReal) (ix4 n c ⟨r, hr⟩ ⟨s, hs⟩)
      = if r % 2 = 0 ∧ s % 2 = 0 then pdn 64 (fun i j => rd4 X n c i j) (r / 2) (s / 2) else 0 := by
  pointwise
  rw [pdn]
  by_cases hq : (2 ≤ r ∧ (r - 2) % 2 = 0 ∧ (r - 2) / 2 < 64) ∧ 2 ≤ s ∧ (s - 2) % 2 = 0 ∧ (s - 2) / 2 < 64
  · rw [dif_pos hq, if_pos (by omega), if_pos (by omega)]
    refine (rd4_ix X n c ⟨(r - 2) / 2, hq.1.2.2⟩ ⟨(s - 2) / 2, hq.2.2.2⟩).trans ?_
    show rd4 X n c ((r - 2) / 2) ((s - 2) / 2) = _
    congr 1 <;> omega
  · rw [dif_neg hq]
    split
    · rw [if_neg (by omega)]
    · rfl

/-- The rows from row `k` on. -/
theorem drow1_at (X : Vec Ideal S32x64x131x131 .f32) (k : ℕ) (hk : k < 4) (h h') (n : Fin 32) (c : Fin 64) (i : Fin 128) (s : Fin 131) :
    (broadcastInDim S32x64x1x128x131 ![0, 1, 3, 4] h (extractStridedSlice S32x64x128x131 ![0, 0, k, 0] X h') : Vec Ideal S32x64x1x128x131 .f32) (ix5 n c 0 i s)
      = X (ix4 n c ⟨i + k, by omega⟩ s) := by
  pointwise
  simp only [Nat.add_comm]

/-- The columns from column `k` on. -/
theorem dcol1_at (X : Vec Ideal S32x64x4x128x131 .f32) (k : ℕ) (hk : k < 4) (h h') (n : Fin 32) (c : Fin 64) (a : Fin 4) (i j : Fin 128) :
    (broadcastInDim S32x64x4x1x128x128 ![0, 1, 2, 4, 5] h (extractStridedSlice S32x64x4x128x128 ![0, 0, 0, 0, k] X h') : Vec Ideal S32x64x4x1x128x128 .f32) (ix6 n c a 0 i j)
      = X (ix5 n c a i ⟨j + k, by omega⟩) := by
  pointwise
  simp only [Nat.add_comm]

/-- The windows summed over the taps, in reverse, and the input channels. -/
theorem ddot1_at (w : S64x64x4x4.Idx → EReal) (V : S32x64x4x4x128x128.Idx → EReal) (n : Fin 32) (o : Fin 64) (i j : Fin 128) :
    Ideal.matmul dot_S64x64x4x4_S32x64x4x4x128x128_S64x32x128x128_023_123_1_045_n_n (Host.reverse [2, 3] w) V (fun _ => 0) (ix4 o n i j)
      = ∑ kh : Fin 4, ∑ kw : Fin 4, ∑ c : Fin 64, V (ix6 n c kh.rev kw.rev i j) * w (ix4 c o kh kw) := by
  show (0 : EReal) + ∑ k, _ = _
  rw [zero_add, sum_contr3 _ (A := 64) (B := 4) (C := 4) (by decide), Finset.sum_comm, ← Equiv.sum_comp Fin.revPerm]
  refine Finset.sum_congr rfl fun kh _ => ?_
  rw [Finset.sum_comm, ← Equiv.sum_comp Fin.revPerm]
  refine Finset.sum_congr rfl fun kw _ => Finset.sum_congr rfl fun c _ => ?_
  rw [mul_comm]
  refine congrArg₂ (· * ·) (congrArg V ?_) ?_
  · funext a
    fin_cases a <;> rfl
  · have e : (dot_S64x64x4x4_S32x64x4x4x128x128_S64x32x128x128_023_123_1_045_n_n).lhsIdx (ix4 o n i j) (con3 _ (by decide) c (Fin.revPerm kh) (Fin.revPerm kw)) = ix4 c o kh.rev kw.rev := by
      funext a
      fin_cases a <;> rfl
    rw [e]
    pointwise
    simp

/-- The windows summed against the table and the bias added. -/
theorem deconv1_at (w : FVec Ideal S64x64x4x4 .f32) (V : FVec Ideal S32x64x4x4x128x128 .f32) (b : FVec Ideal S64 .f32) (ht) (hb : S64.BroadcastsInDim S1x64x1x1 ![1]) (hb')
    (n : Fin 32) (o : Fin 64) (i j : Fin 128) :
    (addf (transpose S32x64x128x128 [1, 0, 2, 3] (Host.dotGeneral dot_S64x64x4x4_S32x64x4x4x128x128_S64x32x128x128_023_123_1_045_n_n none (Host.reverse [2, 3] w) V) ht)
      (broadcastInDim S32x64x128x128 ![0, 1, 2, 3] hb' (broadcastInDim S1x64x1x1 ![1] hb b)) : FVec Ideal S32x64x128x128 .f32) (ix4 n o i j)
      = ∑ kh : Fin 4, ∑ kw : Fin 4, ∑ c : Fin 64, V (ix6 n c kh.rev kw.rev i j) * w (ix4 c o kh kw) + b (ix1 o) := by
  show _ + _ = _
  refine congrArg₂ (· + ·) ?_ ?_
  · pointwise
    exact ddot1_at w V n o i j
  · pointwise

/-- The planes spread to every second place, with a border: a place of odd row or column holds zero, another the
    bordered plane at half its coordinates. -/
theorem spread2_at (X : Vec Ideal S32x64x128x128 .f32) (h h') (n : Fin 32) (c : Fin 64) (r s : ℕ) (hr : r < 259) (hs : s < 259) :
    (pad S32x64x259x259 ![0, 0, 2, 2] ![0, 0, 2, 2] ![0, 0, 1, 1] X (constant (F := Ideal) S_ .f32 0x00000000#32) h h' : S32x64x259x259.Idx → EReal) (ix4 n c ⟨r, hr⟩ ⟨s, hs⟩)
      = if r % 2 = 0 ∧ s % 2 = 0 then pdn 128 (fun i j => rd4 X n c i j) (r / 2) (s / 2) else 0 := by
  pointwise
  rw [pdn]
  by_cases hq : (2 ≤ r ∧ (r - 2) % 2 = 0 ∧ (r - 2) / 2 < 128) ∧ 2 ≤ s ∧ (s - 2) % 2 = 0 ∧ (s - 2) / 2 < 128
  · rw [dif_pos hq, if_pos (by omega), if_pos (by omega)]
    refine (rd4_ix X n c ⟨(r - 2) / 2, hq.1.2.2⟩ ⟨(s - 2) / 2, hq.2.2.2⟩).trans ?_
    show rd4 X n c ((r - 2) / 2) ((s - 2) / 2) = _
    congr 1 <;> omega
  · rw [dif_neg hq]
    split
    · rw [if_neg (by omega)]
    · rfl

/-- The rows from row `k` on. -/
theorem drow2_at (X : Vec Ideal S32x64x259x259 .f32) (k : ℕ) (hk : k < 4) (h h') (n : Fin 32) (c : Fin 64) (i : Fin 256) (s : Fin 259) :
    (broadcastInDim S32x64x1x256x259 ![0, 1, 3, 4] h (extractStridedSlice S32x64x256x259 ![0, 0, k, 0] X h') : Vec Ideal S32x64x1x256x259 .f32) (ix5 n c 0 i s)
      = X (ix4 n c ⟨i + k, by omega⟩ s) := by
  pointwise
  simp only [Nat.add_comm]

/-- The columns from column `k` on. -/
theorem dcol2_at (X : Vec Ideal S32x64x4x256x259 .f32) (k : ℕ) (hk : k < 4) (h h') (n : Fin 32) (c : Fin 64) (a : Fin 4) (i j : Fin 256) :
    (broadcastInDim S32x64x4x1x256x256 ![0, 1, 2, 4, 5] h (extractStridedSlice S32x64x4x256x256 ![0, 0, 0, 0, k] X h') : Vec Ideal S32x64x4x1x256x256 .f32) (ix6 n c a 0 i j)
      = X (ix5 n c a i ⟨j + k, by omega⟩) := by
  pointwise
  simp only [Nat.add_comm]

/-- The windows summed over the taps, in reverse, and the input channels. -/
theorem ddot2_at (w : S64x1x4x4.Idx → EReal) (V : S32x64x4x4x256x256.Idx → EReal) (n : Fin 32) (o : Fin 1) (i j : Fin 256) :
    Ideal.matmul dot_S64x1x4x4_S32x64x4x4x256x256_S1x32x256x256_023_123_1_045_n_n (Host.reverse [2, 3] w) V (fun _ => 0) (ix4 o n i j)
      = ∑ kh : Fin 4, ∑ kw : Fin 4, ∑ c : Fin 64, V (ix6 n c kh.rev kw.rev i j) * w (ix4 c o kh kw) := by
  show (0 : EReal) + ∑ k, _ = _
  rw [zero_add, sum_contr3 _ (A := 64) (B := 4) (C := 4) (by decide), Finset.sum_comm, ← Equiv.sum_comp Fin.revPerm]
  refine Finset.sum_congr rfl fun kh _ => ?_
  rw [Finset.sum_comm, ← Equiv.sum_comp Fin.revPerm]
  refine Finset.sum_congr rfl fun kw _ => Finset.sum_congr rfl fun c _ => ?_
  rw [mul_comm]
  refine congrArg₂ (· * ·) (congrArg V ?_) ?_
  · funext a
    fin_cases a <;> rfl
  · have e : (dot_S64x1x4x4_S32x64x4x4x256x256_S1x32x256x256_023_123_1_045_n_n).lhsIdx (ix4 o n i j) (con3 _ (by decide) c (Fin.revPerm kh) (Fin.revPerm kw)) = ix4 c o kh.rev kw.rev := by
      funext a
      fin_cases a <;> rfl
    rw [e]
    pointwise
    simp

/-- The windows summed against the table and the bias added. -/
theorem deconv2_at (w : FVec Ideal S64x1x4x4 .f32) (V : FVec Ideal S32x64x4x4x256x256 .f32) (b : FVec Ideal S1 .f32) (ht) (hb : S1.BroadcastsInDim S1x1x1x1 ![1]) (hb')
    (n : Fin 32) (o : Fin 1) (i j : Fin 256) :
    (addf (transpose S32x1x256x256 [1, 0, 2, 3] (Host.dotGeneral dot_S64x1x4x4_S32x64x4x4x256x256_S1x32x256x256_023_123_1_045_n_n none (Host.reverse [2, 3] w) V) ht)
      (broadcastInDim S32x1x256x256 ![0, 1, 2, 3] hb' (broadcastInDim S1x1x1x1 ![1] hb b)) : FVec Ideal S32x1x256x256 .f32) (ix4 n o i j)
      = ∑ kh : Fin 4, ∑ kw : Fin 4, ∑ c : Fin 64, V (ix6 n c kh.rev kw.rev i j) * w (ix4 c o kh kw) + b (ix1 o) := by
  show _ + _ = _
  refine congrArg₂ (· + ·) ?_ ?_
  · pointwise
    rw [← Subsingleton.elim o 0]
    exact ddot2_at w V n o i j
  · pointwise
    rw [Subsingleton.elim o 0]

end Cert.ReferenceIdeal.Value
-- ==== Proof.RDeconv.lean ====
/-
  The reference's two transposed convolutions: their results at an index.
-/
module
public import proofs.«01_k».proof.Proof.RDec
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Spec
open StableHlo View

/-- The value of the spread plane that the tap `(a, k)` meets at a place. -/
def tap (X : Vec Ideal S32x64x64x64 .f32) (k : ℕ) (n : Fin 32) (c : Fin 64) (a : Fin 4) (i j : Fin 128) : EReal :=
  if (i + (a : ℕ)) % 2 = 0 ∧ (j + k) % 2 = 0 then pdn 64 (fun r s => rd4 X n c r s) ((i + (a : ℕ)) / 2) ((j + k) / 2) else 0

/-- The columns from column `k` on, without the new axis. -/
theorem dslice1_at (X : Vec Ideal S32x64x4x128x131 .f32) (k : ℕ) (hk : k < 4) (h') (n : Fin 32) (c : Fin 64) (a : Fin 4) (i j : Fin 128) :
    (extractStridedSlice S32x64x4x128x128 ![0, 0, 0, 0, k] X h' : Vec Ideal S32x64x4x128x128 .f32) (ix5 n c a i j) = X (ix5 n c a i ⟨j + k, by omega⟩) := by
  pointwise
  simp only [Nat.add_comm]

/-- A new axis put in. -/
theorem daxis1_at (X : Vec Ideal S32x64x4x128x128 .f32) (h) (n : Fin 32) (c : Fin 64) (a : Fin 4) (i j : Fin 128) :
    (broadcastInDim S32x64x4x1x128x128 ![0, 1, 2, 4, 5] h X : Vec Ideal S32x64x4x1x128x128 .f32) (ix6 n c a 0 i j) = X (ix5 n c a i j) := by
  pointwise

/-- The first transposed convolution's four groups of windows, the last two still without the new axis. -/
theorem deconv1_taps (W : Valuation τ sig (Elt Ideal)) :
    (∀ n c a i j, (after deconv1OpsA W (Proc.devRef .tc main_v104) : Vec Ideal S32x64x4x1x128x128 .f32) (ix6 n c a 0 i j) = tap (W (Proc.devRef .tc main_v89)) 0 n c a i j)
    ∧ (∀ n c a i j, (after deconv1OpsA W (Proc.devRef .tc main_v105) : Vec Ideal S32x64x4x1x128x128 .f32) (ix6 n c a 0 i j) = tap (W (Proc.devRef .tc main_v89)) 1 n c a i j)
    ∧ (∀ n c a i j, (after deconv1OpsA W (Proc.devRef .tc main_v102) : Vec Ideal S32x64x4x128x128 .f32) (ix5 n c a i j) = tap (W (Proc.devRef .tc main_v89)) 2 n c a i j)
    ∧ ∀ n c a i j, (after deconv1OpsA W (Proc.devRef .tc main_v103) : Vec Ideal S32x64x4x128x128 .f32) (ix5 n c a i j) = tap (W (Proc.devRef .tc main_v89)) 3 n c a i j := by
  refine ⟨?_, ?_, ?_, ?_⟩
  all_goals
    intro n c a i j
    unfold_abbrev_sides
    after_reads_simp
    first
      | refine (dcol1_at _ _ (by omega) _ _ n c a i j).trans ?_
      | refine (dslice1_at _ _ (by omega) _ n c a i j).trans ?_
    unfold fn_main_v99
    refine (rows_at _ _ _ _ (fun k n c i s => if (i + k) % 2 = 0 ∧ (s : ℕ) % 2 = 0 then
        pdn 64 (fun r s => rd4 (W (Proc.devRef .tc main_v89) : Vec Ideal S32x64x64x64 .f32) n c r s) ((i + k) / 2) (s / 2) else 0) ?_ ?_ ?_ ?_ _ n c a i _).trans rfl
    all_goals
      intro n c i s
      dsimp only [Matrix.cons_val]
      after_reads_simp
      refine (drow1_at _ _ (by omega) _ _ n c i s).trans ?_
      exact spread1_at _ _ _ n c _ _ _ _

/-- The first transposed convolution's last operations at an index. -/
theorem relu1_at (w : FVec Ideal S64x64x4x4 .f32) (V : FVec Ideal S32x64x4x4x128x128 .f32) (b : FVec Ideal S64 .f32) (ht) (hb : S64.BroadcastsInDim S1x64x1x1 ![1]) (hb') (hz)
    (n : Fin 32) (o : Fin 64) (i j : Fin 128) :
    (maximumf (addf (transpose S32x64x128x128 [1, 0, 2, 3] (Host.dotGeneral dot_S64x64x4x4_S32x64x4x4x128x128_S64x32x128x128_023_123_1_045_n_n none (Host.reverse [2, 3] w) V) ht)
      (broadcastInDim S32x64x128x128 ![0, 1, 2, 3] hb' (broadcastInDim S1x64x1x1 ![1] hb b))) (broadcastInDim S32x64x128x128 ![] hz (constant (F := Ideal) S_ .f32 0x00000000#32)) : FVec Ideal S32x64x128x128 .f32) (ix4 n o i j)
      = max (∑ kh : Fin 4, ∑ kw : Fin 4, ∑ c : Fin 64, V (ix6 n c kh.rev kw.rev i j) * w (ix4 c o kh kw) + b (ix1 o)) 0 := by
  refine Eq.trans ?_ (congrArg (fun s => max s 0) (deconv1_at w V b ht hb hb' n o i j))
  pointwise

/-- The first transposed convolution's second half, from the windows. -/
theorem deconv1_sum (W : Valuation τ sig (Elt Ideal)) (X : Vec Ideal S32x64x64x64 .f32)
    (h0 : ∀ n c a i j, (W (Proc.devRef .tc main_v104) : Vec Ideal S32x64x4x1x128x128 .f32) (ix6 n c a 0 i j) = tap X 0 n c a i j)
    (h1 : ∀ n c a i j, (W (Proc.devRef .tc main_v105) : Vec Ideal S32x64x4x1x128x128 .f32) (ix6 n c a 0 i j) = tap X 1 n c a i j)
    (h2 : ∀ n c a i j, (W (Proc.devRef .tc main_v102) : Vec Ideal S32x64x4x128x128 .f32) (ix5 n c a i j) = tap X 2 n c a i j)
    (h3 : ∀ n c a i j, (W (Proc.devRef .tc main_v103) : Vec Ideal S32x64x4x128x128 .f32) (ix5 n c a i j) = tap X 3 n c a i j)
    (n : Fin 32) (o : Fin 64) (i j : Fin 128) :
    (after deconv1OpsB W (Proc.devRef .tc main_v115) : Vec Ideal S32x64x128x128 .f32) (ix4 n o i j)
      = max (dect (fun kh kw r s => ∑ c : Fin 64, pdn 64 (fun r s => rd4 X n c r s) r s
          * rd4 (W (Proc.devRef .tc main_arg5) : Vec Ideal S64x64x4x4 .f32) c o kh kw) i j + (W (Proc.devRef .tc main_arg6) : Vec Ideal S64 .f32) (ix1 o)) 0 := by
  unfold_abbrev_sides
  after_reads_simp
  simp only [TRef.toBuf, TRef.ofBuf, cast_eq]
  refine (relu1_at _ _ _ _ _ _ _ n o i j).trans ?_
  refine congrArg (fun s => max (s + _) 0) ?_
  refine Eq.trans ?_ (dect_spread (fun c => pdn 64 (fun r s => rd4 X n c r s))
    (fun c kh kw => rd4 (W (Proc.devRef .tc main_arg5) : Vec Ideal S64x64x4x4 .f32) c o kh kw) i j)
  refine Finset.sum_congr rfl fun kh _ => Finset.sum_congr rfl fun kw _ => Finset.sum_congr rfl fun c _ => congrArg₂ (· * ·) ?_ (rd4_ix _ c o kh kw)
  unfold fn_main_v108
  refine (cols_at _ _ _ _ (fun k n c a i j => tap X k n c a i j) ?_ ?_ ?_ ?_ _ n c kh.rev kw.rev i j).trans rfl
  all_goals
    intro n c a i j
    dsimp only [Matrix.cons_val]
    try after_reads_simp
    first
      | exact h0 n c a i j
      | exact h1 n c a i j
      | exact (daxis1_at _ _ n c a i j).trans (h2 n c a i j)
      | exact (daxis1_at _ _ n c a i j).trans (h3 n c a i j)

/-- The first transposed convolution's result. -/
theorem deconv1 (W : Valuation τ sig (Elt Ideal)) (n : Fin 32) (o : Fin 64) (i j : Fin 128) :
    (after deconv1OpsB (after deconv1OpsA W) (Proc.devRef .tc main_v115) : Vec Ideal S32x64x128x128 .f32) (ix4 n o i j)
      = max (dect (fun kh kw r s => ∑ c : Fin 64, pdn 64 (fun r s => rd4 (W (Proc.devRef .tc main_v89) : Vec Ideal S32x64x64x64 .f32) n c r s) r s
          * rd4 (W (Proc.devRef .tc main_arg5) : Vec Ideal S64x64x4x4 .f32) c o kh kw) i j + (W (Proc.devRef .tc main_arg6) : Vec Ideal S64 .f32) (ix1 o)) 0 := by
  obtain ⟨h0, h1, h2, h3⟩ := deconv1_taps W
  refine (deconv1_sum (after deconv1OpsA W) _ h0 h1 h2 h3 n o i j).trans ?_
  rw [deconv1OpsA_keep W main_arg5 (by decide), deconv1OpsA_keep W main_arg6 (by decide)]

/-- The second transposed convolution's result. -/
theorem deconv2 (W : Valuation τ sig (Elt Ideal)) (n : Fin 32) (o : Fin 1) (i j : Fin 256) :
    (after deconv2Ops W (Proc.devRef .tc main_v140) : Vec Ideal S32x1x256x256 .f32) (ix4 n o i j)
      = dect (fun kh kw r s => ∑ c : Fin 64, pdn 128 (fun r s => rd4 (W (Proc.devRef .tc main_v115) : Vec Ideal S32x64x128x128 .f32) n c r s) r s
          * rd4 (W (Proc.devRef .tc main_arg7) : Vec Ideal S64x1x4x4 .f32) c o kh kw) i j + (W (Proc.devRef .tc main_arg8) : Vec Ideal S1 .f32) (ix1 o) := by
  unfold_abbrev_sides
  after_reads_simp
  simp only [TRef.toBuf, TRef.ofBuf, cast_eq]
  refine (deconv2_at _ _ _ _ _ _ n o i j).trans ?_
  refine congrArg (fun s => s + _) ?_
  refine Eq.trans ?_ (dect_spread (fun c => pdn 128 (fun r s => rd4 (W (Proc.devRef .tc main_v115) : Vec Ideal S32x64x128x128 .f32) n c r s))
    (fun c kh kw => rd4 (W (Proc.devRef .tc main_arg7) : Vec Ideal S64x1x4x4 .f32) c o kh kw) i j)
  refine Finset.sum_congr rfl fun kh _ => Finset.sum_congr rfl fun kw _ => Finset.sum_congr rfl fun c _ => congrArg₂ (· * ·) ?_ (rd4_ix _ c o kh kw)
  unfold fn_main_v134
  refine (cols_at _ _ _ _ (fun k n c a i j => if (i + (a : ℕ)) % 2 = 0 ∧ (j + k) % 2 = 0 then
      pdn 128 (fun r s => rd4 (W (Proc.devRef .tc main_v115) : Vec Ideal S32x64x128x128 .f32) n c r s) ((i + (a : ℕ)) / 2) ((j + k) / 2) else 0) ?_ ?_ ?_ ?_ _ n c kh.rev kw.rev i j).trans rfl
  all_goals
    intro n c a i j
    dsimp only [Matrix.cons_val]
    after_reads_simp
    refine (dcol2_at _ _ (by omega) _ _ n c a i j).trans ?_
    unfold fn_main_v125
    refine (rows_at _ _ _ _ (fun k n c i s => if (i + k) % 2 = 0 ∧ (s : ℕ) % 2 = 0 then
        pdn 128 (fun r s => rd4 (W (Proc.devRef .tc main_v115) : Vec Ideal S32x64x128x128 .f32) n c r s) ((i + k) / 2) (s / 2) else 0) ?_ ?_ ?_ ?_ _ n c a i _).trans rfl
    all_goals
      intro n c i s
      dsimp only [Matrix.cons_val]
      after_reads_simp
      refine (drow2_at _ _ (by omega) _ _ n c i s).trans ?_
      exact spread2_at _ _ _ n c _ _ _ _

end Cert.ReferenceIdeal.Value
-- ==== Proof.RQuant.lean ====
/-
  The reference's quantiser in pieces: the search for the first least value, the distances, the codebook row looked up,
  the loss, and the three results at an index.
-/
module
public import proofs.«01_k».proof.Proof.RConv
public import Idealize.ShloMosaic.Lib.Routing.Ops
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Spec
open StableHlo View

/-- A pair of a value and a word stands before another: a smaller value, or the same value and a word not greater. -/
def Before (p q : EReal × BitVec 32) : Prop := p.1 < q.1 ∨ p.1 = q.1 ∧ p.2.toInt ≤ q.2.toInt

/-- The order is transitive. -/
theorem Before.trans {p q r : EReal × BitVec 32} (h : Before p q) (h' : Before q r) : Before p r := by
  rcases h with h | ⟨h, k⟩ <;> rcases h' with h' | ⟨h', k'⟩
  · exact .inl (h.trans h')
  · exact .inl (h' ▸ h)
  · exact .inl (h ▸ h')
  · exact .inr ⟨h.trans h', k.trans k'⟩

/-- The order is reflexive. -/
theorem Before.refl (p : EReal × BitVec 32) : Before p p := .inr ⟨rfl, le_rfl⟩

/-- The step of the search keeps one of its two pairs, and that one stands before both. -/
theorem step_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨v, k⟩ := a
  obtain ⟨w, l⟩ := b
  rcases lt_trichotomy v w with h | h | h
  · have e : reducer_argmin_f32_i32 (F := Ideal) (v, k) (w, l) = (v, k) := by
      have o : ∀ x : BitVec 1, 1#1 ||| x = 1#1 := by decide
      simp [reducer_argmin_f32_i32, Scalar.select, Ideal.cmpf_def, Ideal.cmp, h, IntOp.ori, o]
    rw [e]
    exact ⟨.inl rfl, .refl _, .inl h⟩
  · subst h
    by_cases hk : k.toInt < l.toInt
    · have e : reducer_argmin_f32_i32 (F := Ideal) (v, k) (v, l) = (v, k) := by
        simp [reducer_argmin_f32_i32, Scalar.select, Ideal.cmpf_def, Ideal.cmp, IntOp.ori, IntOp.andi, IntOp.cmpi, BitVec.slt, hk]
      rw [e]
      exact ⟨.inl rfl, .refl _, .inr ⟨rfl, hk.le⟩⟩
    · have e : reducer_argmin_f32_i32 (F := Ideal) (v, k) (v, l) = (v, l) := by
        simp [reducer_argmin_f32_i32, Scalar.select, Ideal.cmpf_def, Ideal.cmp, IntOp.ori, IntOp.andi, IntOp.cmpi, BitVec.slt, hk]
      rw [e]
      exact ⟨.inr rfl, .inr ⟨rfl, not_lt.mp hk⟩, .refl _⟩
  · have e : reducer_argmin_f32_i32 (F := Ideal) (v, k) (w, l) = (w, l) := by
      simp [reducer_argmin_f32_i32, Scalar.select, Ideal.cmpf_def, Ideal.cmp, h.not_gt, h.ne', IntOp.ori, IntOp.andi]
    rw [e]
    exact ⟨.inr rfl, .inl h, .refl _⟩

/-- The search over a list keeps the first pair it started with or one of the list's, and that one stands before all. -/
theorem search_spec (L : List (EReal × BitVec 32)) (i : EReal × BitVec 32) :
    (L.foldl (reducer_argmin_f32_i32 (F := Ideal)) i = i ∨ L.foldl (reducer_argmin_f32_i32 (F := Ideal)) i ∈ L)
      ∧ Before (L.foldl (reducer_argmin_f32_i32 (F := Ideal)) i) i ∧ ∀ p ∈ L, Before (L.foldl (reducer_argmin_f32_i32 (F := Ideal)) i) p := by
  induction L generalizing i with
  | nil => exact ⟨.inl rfl, .refl _, fun p h => absurd h List.not_mem_nil⟩
  | cons x L ih =>
    obtain ⟨h1, h2, h3⟩ := ih (reducer_argmin_f32_i32 (F := Ideal) i x)
    obtain ⟨s1, s2, s3⟩ := step_spec i x
    refine ⟨?_, h2.trans s2, fun p hp => ?_⟩
    · rcases h1 with h1 | h1
      · rcases s1 with s1 | s1
        · exact .inl (h1.trans s1)
        · exact .inr (List.mem_cons.mpr (.inl (h1.trans s1)))
      · exact .inr (List.mem_cons_of_mem _ h1)
    · rcases List.mem_cons.mp hp with rfl | hp
      · exact h2.trans s3
      · exact h3 p hp

/-- Searching the pairs of a row's values and places from plus infinity and zero finds the first place of the least value. -/
theorem first_of_search (f : Fin 512 → EReal) (L : List (EReal × BitVec 32)) (hm : ∀ p, p ∈ L ↔ ∃ k : Fin 512, p = (f k, BitVec.ofNat 32 (k : ℕ))) :
    (L.foldl (reducer_argmin_f32_i32 (F := Ideal)) (⊤, 0#32)).2 = BitVec.ofNat 32 (amin f : ℕ) := by
  have hv : ∀ k : Fin 512, (BitVec.ofNat 32 (k : ℕ)).toInt = (k : ℕ) := fun k => by
    rw [BitVec.toInt_eq_toNat_cond]; simp; omega
  obtain ⟨h1, h2, h3⟩ := search_spec L (⊤, 0#32)
  generalize L.foldl (reducer_argmin_f32_i32 (F := Ideal)) (⊤, 0#32) = p at h1 h2 h3 ⊢
  have hk : ∃ k : Fin 512, p = (f k, BitVec.ofNat 32 (k : ℕ)) := by
    rcases h1 with rfl | h1
    · refine ⟨0, Prod.ext ?_ rfl⟩
      rcases h3 _ ((hm _).mpr ⟨0, rfl⟩) with h | ⟨h, -⟩
      · exact absurd h (not_lt.mpr le_top)
      · exact h
    · exact (hm p).mp h1
  obtain ⟨k, rfl⟩ := hk
  refine congrArg (fun k : Fin 512 => BitVec.ofNat 32 (k : ℕ)) (eq_amin ⟨fun j => ?_, fun j hj => ?_⟩)
  · rcases h3 _ ((hm _).mpr ⟨j, rfl⟩) with h | ⟨h, -⟩
    · exact h.le
    · exact h.le
  · rcases h3 _ ((hm _).mpr ⟨j, rfl⟩) with h | ⟨-, h⟩
    · exact h
    · have h' : (BitVec.ofNat 32 (k : ℕ)).toInt ≤ (BitVec.ofNat 32 (j : ℕ)).toInt := h
      rw [hv, hv] at h'
      have : (j : ℕ) < k := hj
      omega

/-- The index the search finds in a row is the first place of the row's least value. -/
theorem argmin_at (X : FVec Ideal S131072x512 .f32) (h : S131072x512.ReducesTo [1] S131072) (hu : 0 < S_.numel) (r : Fin 131072) :
    (Host.argReduce (F := Ideal) reducer_argmin_f32_i32 X (iotaInDim S131072x512 32 1) (constant (F := Ideal) S_ .f32 0x7F800000#32) (constantI S_ 32 0#32) h hu (ix1 r)).2
      = BitVec.ofNat 32 (amin (fun k => X (ix2 r k)) : ℕ) := by
  rw [Ideal.argReduce_eq_reduce2, Host.reduce2_eq_foldl_fiber]
  have hm : ∀ p, p ∈ Host.argReduceFiber X (iotaInDim S131072x512 32 1) h (ix1 r) ↔ ∃ k : Fin 512, p = (X (ix2 r k), BitVec.ofNat 32 (k : ℕ)) := by
    intro p
    simp only [Host.argReduceFiber, List.mem_map, List.mem_filter, List.mem_finRange, true_and, decide_eq_true_eq]
    constructor
    · rintro ⟨i, hi, rfl⟩
      obtain ⟨k, hk⟩ := (Shape.ReducesTo.fiber_r2_a1 h (ix1 r) _).mp hi
      refine ⟨k, ?_⟩
      rw [← hk]
      rfl
    · rintro ⟨k, rfl⟩
      refine ⟨S131072x512.rowMajor (ix2 r k), ?_, ?_⟩
      · rw [Equiv.symm_apply_apply]
        exact (Shape.ReducesTo.fiber_r2_a1 h (ix1 r) _).mpr ⟨k, rfl⟩
      · rw [Equiv.symm_apply_apply]
        rfl
  generalize Host.argReduceFiber X (iotaInDim S131072x512 32 1) h (ix1 r) = L at hm ⊢
  have hi : ((constant (F := Ideal) S_ .f32 0x7F800000#32 : FVec Ideal S_ .f32) (Shape.Idx.first hu), (constantI S_ 32 0#32 : IVec S_ 32) (Shape.Idx.first hu)) = ((⊤ : EReal), 0#32) := by
    refine Prod.ext ?_ rfl
    show Ideal.ofBits FTy.f32 0x7F800000#32 = ⊤
    simp [Ideal.ofBits, Ideal.ieee]
  rw [hi]
  exact first_of_search (fun k => X (ix2 r k)) L hm

/-- The squared norms of the rows. -/
theorem norm_at (Z : FVec Ideal S131072x64 .f32) (h : S131072x64.ReducesTo [1] S131072) (h') (h'') (r : Fin 131072) :
    (broadcastInDim S131072x1 ![0] h'' (Host.reduceAdd (mulf Z Z) (constant (F := Ideal) S_ .f32 0x00000000#32) h h') : FVec Ideal S131072x1 .f32) (ix2 r 0)
      = ∑ c : Fin 64, rd2 Z r c * rd2 Z r c := by
  pointwise
  simp only [rd2_ix]

/-- The rows' products with the codes. -/
theorem prod_at (Z : FVec Ideal S131072x64 .f32) (cb : FVec Ideal S512x64 .f32) (h) (r : Fin 131072) (k : Fin 512) :
    (Host.dotGeneral dot_S131072x64_S64x512_S131072x512_1_0_0_1_n_n none Z (transpose S64x512 [1, 0] cb h) : FVec Ideal S131072x512 .f32) (ix2 r k)
      = ∑ c : Fin 64, rd2 Z r c * rd2 cb k c := by
  pointwise
  simp only [rd2_ix]

/-- The squared norms of the rows, as the reference holds them. -/
theorem dot_norm (W : Valuation τ sig (Elt Ideal)) (r : Fin 131072) :
    (after dotOps W (Proc.devRef .tc main_v54) : Vec Ideal S131072x1 .f32) (ix2 r 0)
      = ∑ c : Fin 64, (rd2 (W (Proc.devRef .tc main_v51) : Vec Ideal S131072x64 .f32) r c * rd2 (W (Proc.devRef .tc main_v51) : Vec Ideal S131072x64 .f32) r c : EReal) := by
  unfold_abbrev_sides
  after_reads_simp
  exact norm_at _ _ _ _ r

/-- The rows' products with the codes, as the reference holds them. -/
theorem dot_code (W : Valuation τ sig (Elt Ideal)) (r : Fin 131072) (k : Fin 512) :
    (after dotOps W (Proc.devRef .tc main_v56) : Vec Ideal S131072x512 .f32) (ix2 r k)
      = ∑ c : Fin 64, (rd2 (W (Proc.devRef .tc main_v51) : Vec Ideal S131072x64 .f32) r c * rd2 (W (Proc.devRef .tc main_arg9) : Vec Ideal S512x64 .f32) k c : EReal) := by
  unfold_abbrev_sides
  after_reads_simp
  exact prod_at _ _ _ r k

/-- The scaled distances at an index. -/
theorem dist_at (zz : FVec Ideal S131072x1 .f32) (dt : FVec Ideal S131072x512 .f32) (cb : FVec Ideal S512x64 .f32) (h1) (h2) (h3) (h4 : S512.BroadcastsInDim S1x512 ![1]) (h5 : S512x64.ReducesTo [1] S512) (h6) (h7) (r : Fin 131072) (k : Fin 512) :
    (Host.divf (addf (subf (broadcastInDim S131072x512 ![0, 1] h1 zz) (mulf (broadcastInDim S131072x512 ![] h2 (constant (F := Ideal) S_ .f32 0x40000000#32)) dt))
      (broadcastInDim S131072x512 ![0, 1] h3 (broadcastInDim S1x512 ![1] h4 (Host.reduceAdd (mulf cb cb) (constant (F := Ideal) S_ .f32 0x00000000#32) h5 h6))))
      (broadcastInDim S131072x512 ![] h7 (constant (F := Ideal) S_ .f32 0x42800000#32)) : FVec Ideal S131072x512 .f32) (ix2 r k)
      = Ideal.div (rd2 zz r 0 - Ideal.ofBits FTy.f32 0x40000000#32 * rd2 dt r k + ∑ c : Fin 64, rd2 cb k c * rd2 cb k c) (Ideal.ofBits FTy.f32 0x42800000#32) := by
  pointwise
  simp only [rd2_ix]
  rfl

/-- The codebook row looked up for a place. -/
theorem gather_at (cb : FVec Ideal S512x64 .f32) (I : IVec S131072 32) (h1) (h2) (h3) (h4) (k : Fin 512) (n : Fin 32) (r s l : Fin 64)
    (hI : I (ix1 ⟨n * 4096 + r * 64 + s, by omega⟩) = BitVec.ofNat 32 (k : ℕ)) :
    (shapeCast S32x64x64x64 (Host.gather gather_S512x64_S131072x1_S131072x64_1_0_n_n_0_1_164 cb (broadcastInDim S131072x1 ![0] h1
      (select (cmpi .slt I (broadcastInDim S131072 ![] h2 (constantI S_ 32 0#32))) (addi I (broadcastInDim S131072 ![] h3 (constantI S_ 32 512#32))) I))) h4 : FVec Ideal S32x64x64x64 .f32) (ix4 n r s l)
      = cb (ix2 k l) := by
  pointwise
  refine Routing.gather_row _ rfl rfl rfl rfl rfl cb _ _ l k ?_ (by norm_num)
  pointwise
  rw [hI]
  have hk : (BitVec.ofNat 32 (k : ℕ)).toInt = (k : ℕ) := by
    rw [BitVec.toInt_eq_toNat_cond]; simp; omega
  have h0 : ¬((k : ℕ) : ℤ) < 0 := by omega
  simp [Scalar.select, IntOp.cmpi, BitVec.slt, hk, h0]

/-- The codebook row looked up, where the code is known. -/
theorem gather_row (W : Valuation τ sig (Elt Ideal)) (k : Fin 512) (n : Fin 32) (r s l : Fin 64)
    (hI : (W (Proc.devRef .tc main_v68) : Vec Ideal S131072 .i32) (ix1 ⟨n * 4096 + r * 64 + s, by omega⟩) = BitVec.ofNat 32 (k : ℕ)) :
    (after gatherOps W (Proc.devRef .tc main_v76) : Vec Ideal S32x64x64x64 .f32) (ix4 n r s l)
      = (W (Proc.devRef .tc main_arg9) : Vec Ideal S512x64 .f32) (ix2 k l) := by
  unfold_abbrev_sides
  after_reads_simp
  exact gather_at _ _ _ _ _ _ k n r s l hI

/-- The two losses, each a mean of squares, and their weighted sum. -/
theorem loss_at (q z : FVec Ideal S32x64x64x64 .f32) (h : S32x64x64x64.ReducesTo [0, 1, 2, 3] S_) (h') :
    (addf (Host.divf (Host.reduceAdd (mulf (subf q z) (subf q z)) (constant (F := Ideal) S_ .f32 0x00000000#32) h h') (constant (F := Ideal) S_ .f32 0x4B000000#32))
      (mulf (constant (F := Ideal) S_ .f32 0x3E800000#32) (Host.divf (Host.reduceAdd (mulf (subf q z) (subf q z)) (constant (F := Ideal) S_ .f32 0x00000000#32) h h') (constant (F := Ideal) S_ .f32 0x4B000000#32))) : FVec Ideal S_ .f32) ix0
      = Ideal.div (∑ n : Fin 32, ∑ r : Fin 64, ∑ s : Fin 64, ∑ c : Fin 64, (rd4 q n r s c - rd4 z n r s c) * (rd4 q n r s c - rd4 z n r s c)) (Ideal.ofBits FTy.f32 0x4B000000#32)
        + Ideal.ofBits FTy.f32 0x3E800000#32 * Ideal.div (∑ n : Fin 32, ∑ r : Fin 64, ∑ s : Fin 64, ∑ c : Fin 64, (rd4 q n r s c - rd4 z n r s c) * (rd4 q n r s c - rd4 z n r s c)) (Ideal.ofBits FTy.f32 0x4B000000#32) := by
  have e : Ideal.hostReduceAdd h (mulf (subf q z) (subf q z) : FVec Ideal S32x64x64x64 .f32) 0 ix0 = (∑ n : Fin 32, ∑ r : Fin 64, ∑ s : Fin 64, ∑ c : Fin 64, (rd4 q n r s c - rd4 z n r s c) * (rd4 q n r s c - rd4 z n r s c)) := by
    simp only [← rd4_ix]
    rw [← sum_idx4 (fun i : S32x64x64x64.Idx => (q i - z i) * (q i - z i))]
    unfold Ideal.hostReduceAdd
    rw [zero_add]
    exact Finset.sum_congr (Finset.filter_true_of_mem fun i _ => funext fun a => a.elim0) fun i _ => rfl
  pointwise
  rw [e]

/-- The loss. -/
theorem loss_val (W : Valuation τ sig (Elt Ideal)) :
    (after lossOps W (Proc.devRef .tc main_v86) : Vec Ideal S_ .f32) ix0
      = Ideal.div (∑ n : Fin 32, ∑ r : Fin 64, ∑ s : Fin 64, ∑ c : Fin 64, (rd4 (W (Proc.devRef .tc main_v76) : Vec Ideal S32x64x64x64 .f32) n r s c - rd4 (W (Proc.devRef .tc main_v50) : Vec Ideal S32x64x64x64 .f32) n r s c)
            * (rd4 (W (Proc.devRef .tc main_v76) : Vec Ideal S32x64x64x64 .f32) n r s c - rd4 (W (Proc.devRef .tc main_v50) : Vec Ideal S32x64x64x64 .f32) n r s c)) (Ideal.ofBits FTy.f32 0x4B000000#32)
        + Ideal.ofBits FTy.f32 0x3E800000#32 * Ideal.div (∑ n : Fin 32, ∑ r : Fin 64, ∑ s : Fin 64, ∑ c : Fin 64, (rd4 (W (Proc.devRef .tc main_v76) : Vec Ideal S32x64x64x64 .f32) n r s c - rd4 (W (Proc.devRef .tc main_v50) : Vec Ideal S32x64x64x64 .f32) n r s c)
            * (rd4 (W (Proc.devRef .tc main_v76) : Vec Ideal S32x64x64x64 .f32) n r s c - rd4 (W (Proc.devRef .tc main_v50) : Vec Ideal S32x64x64x64 .f32) n r s c)) (Ideal.ofBits FTy.f32 0x4B000000#32) := by
  unfold_abbrev_sides
  after_reads_simp
  exact loss_at _ _ _ _

/-- The quantised image with its difference added back, channels first, at an index. -/
theorem back_at (q z : FVec Ideal S32x64x64x64 .f32) (h) (n : Fin 32) (c r s : Fin 64) :
    (transpose S32x64x64x64 [0, 3, 1, 2] (addf z (subf q z)) h : FVec Ideal S32x64x64x64 .f32) (ix4 n c r s)
      = rd4 z n r s c + (rd4 q n r s c - rd4 z n r s c) := by
  pointwise
  simp only [rd4_ix]

/-- The quantised image with its difference added back, channels first. -/
theorem st_at (W : Valuation τ sig (Elt Ideal)) (n : Fin 32) (c r s : Fin 64) :
    (after stOps W (Proc.devRef .tc main_v89) : Vec Ideal S32x64x64x64 .f32) (ix4 n c r s)
      = rd4 (W (Proc.devRef .tc main_v50) : Vec Ideal S32x64x64x64 .f32) n r s c + (rd4 (W (Proc.devRef .tc main_v76) : Vec Ideal S32x64x64x64 .f32) n r s c - rd4 (W (Proc.devRef .tc main_v50) : Vec Ideal S32x64x64x64 .f32) n r s c) := by
  unfold_abbrev_sides
  after_reads_simp
  exact back_at _ _ _ n c r s

/-- The codes as the second result lists them. -/
theorem tail_code (W : Valuation τ sig (Elt Ideal)) (r : Fin 131072) :
    (after tailOps W (Proc.devRef .tc main_v147) : Vec Ideal S131072x1 .i32) (ix2 r 0) = (W (Proc.devRef .tc main_v68) : Vec Ideal S131072 .i32) (ix1 r) := by
  unfold_abbrev_sides
  after_reads_simp
  pointwise

/-- The picture as the third result holds it. -/
theorem tail_pix (W : Valuation τ sig (Elt Ideal)) (n : Fin 32) (y x : Fin 256) :
    (after tailOps W (Proc.devRef .tc main_v146) : Vec Ideal S32x1x256x256 .f32) (ix4 n 0 y x) = Ideal.logistic ((W (Proc.devRef .tc main_v140) : Vec Ideal S32x1x256x256 .f32) (ix4 n 0 y x)) := by
  unfold_abbrev_sides
  after_reads_simp
  pointwise
  rfl
end Cert.ReferenceIdeal.Value
-- ==== Proof.RArg.lean ====
/-
  The reference's distances and the search over them, read from its operations.
-/
module
public import proofs.«01_k».proof.Proof.RQuant
public import Idealize.ShloMosaic.Lib.Routing.Ops
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Spec
open StableHlo View

/-- The distances the search runs over. -/
def dists (zz : FVec Ideal S131072x1 .f32) (dt : FVec Ideal S131072x512 .f32) (cb : FVec Ideal S512x64 .f32) : FVec Ideal S131072x512 .f32 :=
  Host.divf (addf (subf (broadcastInDim S131072x512 ![0, 1] bcast_S131072x1_S131072x512_0_1 zz) (mulf (broadcastInDim S131072x512 ![] bcast_S_S131072x512 (constant (F := Ideal) S_ .f32 0x40000000#32)) dt))
      (broadcastInDim S131072x512 ![0, 1] bcast_S1x512_S131072x512_0_1 (broadcastInDim S1x512 ![1] bcast_S512_S1x512_1 (Host.reduceAdd (mulf cb cb) (constant (F := Ideal) S_ .f32 0x00000000#32) reducesTo_S512x64_S512_d1 h_S_))))
      (broadcastInDim S131072x512 ![] bcast_S_S131072x512 (constant (F := Ideal) S_ .f32 0x42800000#32))

/-- The operations of the distances. -/
abbrev distOps {F : FTy → Type} [FloatOps F] : List (HloOp τ sig (Elt F)) :=
  [ nullary main_cst_1 (constant S_ .f32 0x40000000#32),
    unary main_cst_1 main_v57 (broadcastInDim S131072x512 ![] bcast_S_S131072x512 : (⟨S_, .f32⟩ : BufTy).Contents (Elt F) → (⟨S131072x512, .f32⟩ : BufTy).Contents (Elt F)),
    binary main_v57 main_v56 main_v58 (mulf : (⟨S131072x512, .f32⟩ : BufTy).Contents (Elt F) → (⟨S131072x512, .f32⟩ : BufTy).Contents (Elt F) → (⟨S131072x512, .f32⟩ : BufTy).Contents (Elt F)),
    unary main_v54 main_v59 (broadcastInDim S131072x512 ![0, 1] bcast_S131072x1_S131072x512_0_1 : (⟨S131072x1, .f32⟩ : BufTy).Contents (Elt F) → (⟨S131072x512, .f32⟩ : BufTy).Contents (Elt F)),
    binary main_v59 main_v58 main_v60 (subf : (⟨S131072x512, .f32⟩ : BufTy).Contents (Elt F) → (⟨S131072x512, .f32⟩ : BufTy).Contents (Elt F) → (⟨S131072x512, .f32⟩ : BufTy).Contents (Elt F)),
    binary main_arg9 main_arg9 main_v61 (mulf : (⟨S512x64, .f32⟩ : BufTy).Contents (Elt F) → (⟨S512x64, .f32⟩ : BufTy).Contents (Elt F) → (⟨S512x64, .f32⟩ : BufTy).Contents (Elt F)),
    nullary main_cst_2 (constant S_ .f32 0x00000000#32),
    binary main_v61 main_cst_2 main_v62 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v62 main_v63 (broadcastInDim S1x512 ![1] bcast_S512_S1x512_1 : (⟨S512, .f32⟩ : BufTy).Contents (Elt F) → (⟨S1x512, .f32⟩ : BufTy).Contents (Elt F)),
    unary main_v63 main_v64 (broadcastInDim S131072x512 ![0, 1] bcast_S1x512_S131072x512_0_1 : (⟨S1x512, .f32⟩ : BufTy).Contents (Elt F) → (⟨S131072x512, .f32⟩ : BufTy).Contents (Elt F)),
    binary main_v60 main_v64 main_v65 (addf : (⟨S131072x512, .f32⟩ : BufTy).Contents (Elt F) → (⟨S131072x512, .f32⟩ : BufTy).Contents (Elt F) → (⟨S131072x512, .f32⟩ : BufTy).Contents (Elt F)),
    nullary main_cst_3 (constant S_ .f32 0x42800000#32),
    unary main_cst_3 main_v66 (broadcastInDim S131072x512 ![] bcast_S_S131072x512 : (⟨S_, .f32⟩ : BufTy).Contents (Elt F) → (⟨S131072x512, .f32⟩ : BufTy).Contents (Elt F)),
    binary main_v65 main_v66 main_v67 (Host.divf : (⟨S131072x512, .f32⟩ : BufTy).Contents (Elt F) → (⟨S131072x512, .f32⟩ : BufTy).Contents (Elt F) → (⟨S131072x512, .f32⟩ : BufTy).Contents (Elt F)) ]

/-- A function of a table of values, a table of places and their two starting points. -/
abbrev Found (T : EltTy) : Type := FVec Ideal S131072x512 .f32 → IVec S131072x512 32 → FVec Ideal S_ .f32 → IVec S_ 32 → (⟨S131072, T⟩ : BufTy).Contents (Elt Ideal)

/-- The operations of the search over the distances, with the search itself left open. -/
abbrev searchOps (g1 : Found .f32) (g2 : Found .i32) : List (HloOp τ sig (Elt Ideal)) :=
  [ TRef.nullary (TRef.of (T := ⟨S131072x512, .i32⟩) main_call4_v0) (iotaInDim S131072x512 32 1),
    TRef.nullary (TRef.of (T := ⟨S_, .f32⟩) main_call4_cst) (constant (F := Ideal) S_ .f32 0x7F800000#32),
    TRef.nullary (TRef.of (T := ⟨S_, .i32⟩) main_call4_c) (constantI S_ 32 0#32),
    TRef.quaternary (TRef.of (T := ⟨S131072x512, .f32⟩) main_v67) (TRef.of (T := ⟨S131072x512, .i32⟩) main_call4_v0) (TRef.of (T := ⟨S_, .f32⟩) main_call4_cst) (TRef.of (T := ⟨S_, .i32⟩) main_call4_c) (TRef.of (T := ⟨S131072, .f32⟩) main_call4_v1_0) g1,
    TRef.quaternary (TRef.of (T := ⟨S131072x512, .f32⟩) main_v67) (TRef.of (T := ⟨S131072x512, .i32⟩) main_call4_v0) (TRef.of (T := ⟨S_, .f32⟩) main_call4_cst) (TRef.of (T := ⟨S_, .i32⟩) main_call4_c) (TRef.of (T := ⟨S131072, .i32⟩) main_v68) g2 ]

/-- The codes are the search's value at the distances, whatever the search is. -/
theorem search_read (g1 : Found .f32) (g2 : Found .i32) (W : Valuation τ sig (Elt Ideal)) :
    (after (searchOps g1 g2) W (Proc.devRef .tc main_v68) : Vec Ideal S131072 .i32)
      = g2 (W (Proc.devRef .tc main_v67)) (iotaInDim S131072x512 32 1) (constant (F := Ideal) S_ .f32 0x7F800000#32) (constantI S_ 32 0#32) := by
  unfold_abbrev_sides
  after_reads_simp
  simp only [TRef.toBuf, TRef.ofBuf, cast_eq]

/-- The distances, as the reference holds them. -/
theorem dist_read (W : Valuation τ sig (Elt Ideal)) :
    (after (distOps (F := Ideal)) W (Proc.devRef .tc main_v67) : Vec Ideal S131072x512 .f32)
      = dists (W (Proc.devRef .tc main_v54)) (W (Proc.devRef .tc main_v56)) (W (Proc.devRef .tc main_arg9)) := by
  unfold_abbrev_sides
  after_reads_simp
  rfl

/-- The search of the reference: the least value found in a row. -/
def least : Found .f32 := fun x y u v j => (Host.argReduce (F := Ideal) reducer_argmin_f32_i32 x y u v reducesTo_S131072x512_S131072_d1 h_S_ j).1

/-- The search of the reference: the place found in a row. -/
def place : Found .i32 := fun x y u v j => (Host.argReduce (F := Ideal) reducer_argmin_f32_i32 x y u v reducesTo_S131072x512_S131072_d1 h_S_ j).2

/-- The distances and the search over them make up the stage. -/
theorem argOps_split : (argOps : List (HloOp τ sig (Elt Ideal))) = distOps ++ searchOps least place := by
  unfold least place
  rfl

/-- A function that is the search of the reference finds the first of a row's least value. -/
theorem place_of (g : FVec Ideal S131072x512 .f32 → IVec S131072x512 32 → FVec Ideal S_ .f32 → IVec S_ 32 → S131072.Idx → BitVec 32)
    (hg : g = fun x y u v j => (Host.argReduce (F := Ideal) reducer_argmin_f32_i32 x y u v reducesTo_S131072x512_S131072_d1 h_S_ j).2)
    (X : FVec Ideal S131072x512 .f32) (r : Fin 131072) :
    g X (iotaInDim S131072x512 32 1) (constant (F := Ideal) S_ .f32 0x7F800000#32) (constantI S_ 32 0#32) (ix1 r) = BitVec.ofNat 32 (amin (fun k => X (ix2 r k)) : ℕ) := by
  rw [hg]
  exact argmin_at X reducesTo_S131072x512_S131072_d1 h_S_ r

/-- The place found in a row is the first of the row's least value. -/
theorem place_at (X : FVec Ideal S131072x512 .f32) (r : Fin 131072) :
    place X (iotaInDim S131072x512 32 1) (constant (F := Ideal) S_ .f32 0x7F800000#32) (constantI S_ 32 0#32) (ix1 r) = BitVec.ofNat 32 (amin (fun k => X (ix2 r k)) : ℕ) :=
  place_of place rfl X r

/-- The codes are the places found in the rows of distances. -/
theorem arg_read (W : Valuation τ sig (Elt Ideal)) :
    (after argOps W (Proc.devRef .tc main_v68) : Vec Ideal S131072 .i32)
      = place (dists (W (Proc.devRef .tc main_v54)) (W (Proc.devRef .tc main_v56)) (W (Proc.devRef .tc main_arg9)))
          (iotaInDim S131072x512 32 1) (constant (F := Ideal) S_ .f32 0x7F800000#32) (constantI S_ 32 0#32) := by
  rw [argOps_split, after_append, search_read, dist_read]

/-- The code found for a row. -/
theorem arg_code (W : Valuation τ sig (Elt Ideal)) (r : Fin 131072) (f : Fin 512 → EReal)
    (hf : ∀ k, dists (W (Proc.devRef .tc main_v54)) (W (Proc.devRef .tc main_v56)) (W (Proc.devRef .tc main_arg9)) (ix2 r k) = f k) :
    (after argOps W (Proc.devRef .tc main_v68) : Vec Ideal S131072 .i32) (ix1 r) = BitVec.ofNat 32 (amin f : ℕ) := by
  rw [arg_read, place_at, funext hf]

/-- The distances at an index, as the reference holds them. -/
theorem dists_at (zz : FVec Ideal S131072x1 .f32) (dt : FVec Ideal S131072x512 .f32) (cb : FVec Ideal S512x64 .f32) (r : Fin 131072) (k : Fin 512) :
    dists zz dt cb (ix2 r k)
      = Ideal.div (rd2 zz r 0 - Ideal.ofBits FTy.f32 0x40000000#32 * rd2 dt r k + ∑ c : Fin 64, rd2 cb k c * rd2 cb k c) (Ideal.ofBits FTy.f32 0x42800000#32) :=
  dist_at zz dt cb _ _ _ _ _ _ _ r k

end Cert.ReferenceIdeal.Value
-- ==== Proof.Pure.lean ====
/-
  The equations of real arithmetic between the network's two writings: where the arguments are finite, the scaled
  distances rank the codes as the scores do, and the two means of squares add up to the images' shares of the loss.
-/
module
public import proofs.«01_k».proof.Proof.Net
@[expose] public section
noncomputable section
open Idealize.ShloMosaic
namespace Cert.Spec

/-- An extended real is a real number. -/
def IsR (x : EReal) : Prop := ∃ r : ℝ, x = (r : EReal)

/-- Zero is a real number. -/
theorem IsR.zero : IsR 0 := ⟨0, rfl⟩

/-- A sum of two reals is a real. -/
theorem IsR.add {x y : EReal} (hx : IsR x) (hy : IsR y) : IsR (x + y) := by
  obtain ⟨a, rfl⟩ := hx
  obtain ⟨b, rfl⟩ := hy
  exact ⟨a + b, (EReal.coe_add a b).symm⟩

/-- A difference of two reals is a real. -/
theorem IsR.sub {x y : EReal} (hx : IsR x) (hy : IsR y) : IsR (x - y) := by
  obtain ⟨a, rfl⟩ := hx
  obtain ⟨b, rfl⟩ := hy
  exact ⟨a - b, (EReal.coe_sub a b).symm⟩

/-- A product of two reals is a real. -/
theorem IsR.mul {x y : EReal} (hx : IsR x) (hy : IsR y) : IsR (x * y) := by
  obtain ⟨a, rfl⟩ := hx
  obtain ⟨b, rfl⟩ := hy
  exact ⟨a * b, (EReal.coe_mul a b).symm⟩

/-- The greater of a real and zero is a real. -/
theorem IsR.relu {x : EReal} (hx : IsR x) : IsR (max x 0) := by
  rcases max_choice x 0 with h | h <;> rw [h]
  · exact hx
  · exact .zero

/-- Reals add up as extended reals to their real sum. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A finite sum of reals is a real. -/
theorem IsR.sum {ι : Type} {s : Finset ι} {f : ι → EReal} (h : ∀ i, IsR (f i)) : IsR (∑ i ∈ s, f i) := by
  choose g hg using h
  exact ⟨∑ i ∈ s, g i, by simp only [hg, sum_coe]⟩

/-- A bordered image of reals holds reals. -/
theorem IsR.pdn {n : ℕ} {f : ℕ → ℕ → EReal} (h : ∀ i j, IsR (f i j)) (r c : ℕ) : IsR (Spec.pdn n f r c) := by
  unfold Spec.pdn
  split
  · exact h _ _
  · exact .zero

/-- The word of two. -/
theorem two_eq : Ideal.ofBits FTy.f32 0x40000000#32 = ((2 : ℝ) : EReal) := by
  simp [Ideal.ofBits, Ideal.ieee, -EReal.coe_mul]; try norm_num

/-- The word of sixty-four. -/
theorem c64_eq : Ideal.ofBits FTy.f32 0x42800000#32 = ((64 : ℝ) : EReal) := by
  simp [Ideal.ofBits, Ideal.ieee, -EReal.coe_mul]; try norm_num

/-- The word of the number of entries of the vectors. -/
theorem count_eq : Ideal.ofBits FTy.f32 0x4B000000#32 = ((8388608 : ℝ) : EReal) := by
  simp [Ideal.ofBits, Ideal.ieee, -EReal.coe_mul]; try norm_num

/-- The word of a quarter. -/
theorem quarter_eq : Ideal.ofBits FTy.f32 0x3E800000#32 = ((1 / 4 : ℝ) : EReal) := by
  simp [Ideal.ofBits, Ideal.ieee, -EReal.coe_mul]; try norm_num

/-- The word of five quarters of the reciprocal of the number of entries. -/
theorem scale_eq : Ideal.ofBits FTy.f32 0x34200000#32 = ((5 / 33554432 : ℝ) : EReal) := by
  simp [Ideal.ofBits, Ideal.ieee, -EReal.coe_mul]; try norm_num

/-- Rows of values in the same order have the same first least place. -/
theorem amin_congr {f g : Fin 512 → EReal} (h : ∀ i j, f i < f j ↔ g i < g j) : amin f = amin g :=
  eq_amin ⟨fun j => not_lt.mp fun hj => not_lt.mpr ((amin_isFirst f).1 j) ((h j _).mpr hj), fun j hj => (h _ j).mp ((amin_isFirst f).2 j hj)⟩

/-- The scaled distances rank the codes as the scores do. -/
theorem amin_dist {zz : EReal} {dt cc : Fin 512 → EReal} (hz : IsR zz) (hd : ∀ k, IsR (dt k)) (hc : ∀ k, IsR (cc k)) :
    amin (fun k => Ideal.div (zz - Ideal.ofBits FTy.f32 0x40000000#32 * dt k + cc k) (Ideal.ofBits FTy.f32 0x42800000#32))
      = amin fun k => cc k - Ideal.ofBits FTy.f32 0x40000000#32 * dt k := by
  obtain ⟨z, rfl⟩ := hz
  choose d hd using hd
  choose e he using hc
  refine amin_congr fun i j => ?_
  simp only [hd, he, two_eq, c64_eq, Ideal.div_coe (show (64 : ℝ) ≠ 0 by norm_num)]
  norm_cast
  constructor <;> intro h <;> linarith

/-- A vector's squared distances from a code add up to the vector's square and the code's score. -/
theorem sq_dist {z q : Fin 64 → EReal} (hz : ∀ c, IsR (z c)) (hq : ∀ c, IsR (q c)) :
    ∑ c, (q c - z c) * (q c - z c)
      = ∑ c, z c * z c + (∑ c, q c * q c - Ideal.ofBits FTy.f32 0x40000000#32 * ∑ c, z c * q c) := by
  choose y hy using hz
  choose p hp using hq
  simp only [hy, hp, two_eq, ← EReal.coe_mul, ← EReal.coe_sub, sum_coe, ← EReal.coe_add]
  rw [EReal.coe_eq_coe_iff, Finset.mul_sum, ← Finset.sum_sub_distrib, ← Finset.sum_add_distrib]
  exact Finset.sum_congr rfl fun c _ => by ring

/-- A mean of squares and a quarter of it are the shares scaled and added. -/
theorem mean_share {s : Fin 32 → EReal} (hs : ∀ n, IsR (s n)) :
    Ideal.div (∑ n, s n) (Ideal.ofBits FTy.f32 0x4B000000#32)
        + Ideal.ofBits FTy.f32 0x3E800000#32 * Ideal.div (∑ n, s n) (Ideal.ofBits FTy.f32 0x4B000000#32)
      = ∑ n, s n * Ideal.ofBits FTy.f32 0x34200000#32 := by
  choose t ht using hs
  simp only [ht, count_eq, quarter_eq, scale_eq, Ideal.div_coe (show (8388608 : ℝ) ≠ 0 by norm_num), sum_coe, ← EReal.coe_mul, ← EReal.coe_add]
  rw [EReal.coe_eq_coe_iff, ← Finset.sum_mul]
  ring

/-- A vector with its difference from a code added back is the code. -/
theorem back_eq {z q : EReal} (hz : IsR z) (hq : IsR q) : z + (q - z) = q := by
  obtain ⟨y, rfl⟩ := hz
  obtain ⟨p, rfl⟩ := hq
  norm_cast
  ring

/-- A sum over rows and columns of a square of side 64 as a sum over its places. -/
theorem sum_places (f : ℕ → EReal) : ∑ r : Fin 64, ∑ s : Fin 64, f (r * 64 + s) = ∑ p : Fin 4096, f p := by
  rw [← Fintype.sum_prod_type']
  exact Fintype.sum_equiv (finProdFinEquiv : Fin 64 × Fin 64 ≃ Fin (64 * 64)) _ (fun p : Fin 4096 => f p) fun x => by
    simp only [finProdFinEquiv_apply_val]
    congr 1
    ring

namespace Args

/-- The arguments the codes are computed from are real numbers. -/
structure Finite (a : Args) : Prop where
  /-- The pictures are. -/
  x : ∀ n i j, IsR (a.x n i j)
  /-- The first convolution's windows are. -/
  w1 : ∀ o i j, IsR (a.w1 o i j)
  /-- The first convolution's bias is. -/
  b1 : ∀ o, IsR (a.b1 o)
  /-- The second convolution's windows are. -/
  w2 : ∀ o c i j, IsR (a.w2 o c i j)
  /-- The second convolution's bias is. -/
  b2 : ∀ o, IsR (a.b2 o)
  /-- The codebook is. -/
  cb : ∀ k c, IsR (a.cb k c)

variable {a : Args} (h : a.Finite)
include h

/-- The hidden image holds reals. -/
theorem Finite.hid (n o i j : ℕ) : IsR (a.hid n o i j) := by
  unfold Args.hid
  refine IsR.relu (IsR.add (IsR.sum fun kh => IsR.sum fun kw => IsR.mul ?_ (h.w1 o kh kw)) (h.b1 o))
  exact IsR.pdn (h.x n) _ _

/-- The vectors hold reals. -/
theorem Finite.lat (n p o : ℕ) : IsR (a.lat n p o) := by
  unfold Args.lat
  refine IsR.relu (IsR.add (IsR.sum fun kh => IsR.sum fun kw => IsR.sum fun c => IsR.mul ?_ (h.w2 o c kh kw)) (h.b2 o))
  exact IsR.pdn (h.hid n c) _ _

/-- The codes' scores are reals. -/
theorem Finite.score (n p k : ℕ) : IsR (a.score n p k) :=
  (IsR.sum fun _ => (h.cb _ _).mul (h.cb _ _)).sub (IsR.mul ⟨2, two_eq⟩ (IsR.sum fun _ => (h.lat _ _ _).mul (h.cb _ _)))

/-- The images' shares of the loss are reals. -/
theorem Finite.share (n : ℕ) : IsR (a.share n) :=
  (IsR.sum fun _ => IsR.sum fun _ => (h.lat _ _ _).mul (h.lat _ _ _)).add (IsR.sum fun _ => h.score _ _ _)

/-- The code of a place is the first of least scaled distance. -/
theorem Finite.code_eq (n p : ℕ) :
    amin (fun k : Fin 512 => Ideal.div (∑ c : Fin 64, a.lat n p c * a.lat n p c - Ideal.ofBits FTy.f32 0x40000000#32 * ∑ c : Fin 64, a.lat n p c * a.cb k c
        + ∑ c : Fin 64, a.cb k c * a.cb k c) (Ideal.ofBits FTy.f32 0x42800000#32)) = a.code n p :=
  amin_dist (IsR.sum fun _ => (h.lat _ _ _).mul (h.lat _ _ _)) (fun _ => IsR.sum fun _ => (h.lat _ _ _).mul (h.cb _ _))
    fun _ => IsR.sum fun _ => (h.cb _ _).mul (h.cb _ _)

/-- An image's squared differences add up to its share. -/
theorem Finite.share_eq (n : ℕ) :
    ∑ r : Fin 64, ∑ s : Fin 64, ∑ c : Fin 64, (a.quant n r s c - a.lat n (r * 64 + s) c) * (a.quant n r s c - a.lat n (r * 64 + s) c) = a.share n := by
  refine (sum_places fun p => ∑ c : Fin 64, (a.cb (a.code n p) c - a.lat n p c) * (a.cb (a.code n p) c - a.lat n p c)).trans ?_
  unfold Args.share
  rw [← Finset.sum_add_distrib]
  exact Finset.sum_congr rfl fun p _ => sq_dist (fun _ => h.lat _ _ _) fun _ => h.cb _ _

/-- The two means of squares are the loss. -/
theorem Finite.loss_eq :
    Ideal.div (∑ n : Fin 32, a.share n) (Ideal.ofBits FTy.f32 0x4B000000#32)
        + Ideal.ofBits FTy.f32 0x3E800000#32 * Ideal.div (∑ n : Fin 32, a.share n) (Ideal.ofBits FTy.f32 0x4B000000#32) = a.loss :=
  mean_share fun _ => h.share _

/-- The vector of a place with its difference from the code's row added back is that row. -/
theorem Finite.back (n r s c : ℕ) : a.lat n (r * 64 + s) c + (a.quant n r s c - a.lat n (r * 64 + s) c) = a.quant n r s c :=
  back_eq (h.lat _ _ _) (h.cb _ _)

end Args

end Cert.Spec
-- ==== Proof.RVal.lean ====
/-
  The reference's three results: its stages chained, each array read as the network's function of the arguments.
-/
module
public import proofs.«01_k».proof.Proof.RConv2
public import proofs.«01_k».proof.Proof.RDeconv
public import proofs.«01_k».proof.Proof.RArg
public import proofs.«01_k».proof.Proof.Pure
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Spec
open StableHlo View

variable (W : Valuation τ sig (Elt Ideal))

/-- The network's arguments, read from the reference's ten argument arrays. -/
def netOf : Args where
  x n i j := rd4 (W (Proc.devRef .tc main_arg0) : Vec Ideal S32x1x256x256 .f32) n 0 i j
  w1 o kh kw := rd4 (W (Proc.devRef .tc main_arg1) : Vec Ideal S64x1x4x4 .f32) o 0 kh kw
  b1 o := rd1 (W (Proc.devRef .tc main_arg2) : Vec Ideal S64 .f32) o
  w2 o i kh kw := rd4 (W (Proc.devRef .tc main_arg3) : Vec Ideal S64x64x4x4 .f32) o i kh kw
  b2 o := rd1 (W (Proc.devRef .tc main_arg4) : Vec Ideal S64 .f32) o
  w3 i o kh kw := rd4 (W (Proc.devRef .tc main_arg5) : Vec Ideal S64x64x4x4 .f32) i o kh kw
  b3 o := rd1 (W (Proc.devRef .tc main_arg6) : Vec Ideal S64 .f32) o
  w4 i kh kw := rd4 (W (Proc.devRef .tc main_arg7) : Vec Ideal S64x1x4x4 .f32) i 0 kh kw
  b4 := rd1 (W (Proc.devRef .tc main_arg8) : Vec Ideal S1 .f32) 0
  cb k l := rd2 (W (Proc.devRef .tc main_arg9) : Vec Ideal S512x64 .f32) k l

/-- The contents after the first convolution. -/
def at1 : Valuation τ sig (Elt Ideal) := after conv1Ops W
/-- The contents after the second convolution. -/
def at2 : Valuation τ sig (Elt Ideal) := after conv2Ops (at1 W)
/-- The contents after the products with the codes. -/
def at3 : Valuation τ sig (Elt Ideal) := after dotOps (at2 W)
/-- The contents after the search for the codes. -/
def at4 : Valuation τ sig (Elt Ideal) := after argOps (at3 W)
/-- The contents after the codebook rows are looked up. -/
def at5 : Valuation τ sig (Elt Ideal) := after gatherOps (at4 W)
/-- The contents after the loss. -/
def at6 : Valuation τ sig (Elt Ideal) := after lossOps (at5 W)
/-- The contents after the differences are added back. -/
def at7 : Valuation τ sig (Elt Ideal) := after stOps (at6 W)
/-- The contents after the first transposed convolution. -/
def at8 : Valuation τ sig (Elt Ideal) := after deconv1OpsB (after deconv1OpsA (at7 W))
/-- The contents after the second transposed convolution. -/
def at9 : Valuation τ sig (Elt Ideal) := after deconv2Ops (at8 W)
/-- The contents at the end. -/
def at10 : Valuation τ sig (Elt Ideal) := after tailOps (at9 W)

/-- The program leaves the last stage's contents. -/
theorem after_ops : after ops W = at10 W := by
  unfold at10 at9 at8 at7 at6 at5 at4 at3 at2 at1
  simp only [ops, opsPart0, opsPart1, opsPart2, after_append]

/-- The ten arguments' buffers. -/
abbrev argRefs : List (Ref sig .tc) := [main_arg0, main_arg1, main_arg2, main_arg3, main_arg4, main_arg5, main_arg6, main_arg7, main_arg8, main_arg9]

/-- The first stage keeps the arguments. -/
theorem keep1 (r : Ref sig .tc) (h : r ∈ argRefs) : at1 W (Proc.devRef .tc r) = W (Proc.devRef .tc r) :=
  conv1Ops_keep W r ((by decide : ∀ r ∈ argRefs, r ∉ conv1OpsW) r h)
/-- The first two stages keep the arguments. -/
theorem keep2 (r : Ref sig .tc) (h : r ∈ argRefs) : at2 W (Proc.devRef .tc r) = W (Proc.devRef .tc r) :=
  (conv2Ops_keep _ r ((by decide : ∀ r ∈ argRefs, r ∉ conv2OpsW) r h)).trans (keep1 W r h)
/-- The first three stages keep the arguments. -/
theorem keep3 (r : Ref sig .tc) (h : r ∈ argRefs) : at3 W (Proc.devRef .tc r) = W (Proc.devRef .tc r) :=
  (dotOps_keep _ r ((by decide : ∀ r ∈ argRefs, r ∉ dotOpsW) r h)).trans (keep2 W r h)
/-- The first four stages keep the arguments. -/
theorem keep4 (r : Ref sig .tc) (h : r ∈ argRefs) : at4 W (Proc.devRef .tc r) = W (Proc.devRef .tc r) :=
  (argOps_keep _ r ((by decide : ∀ r ∈ argRefs, r ∉ argOpsW) r h)).trans (keep3 W r h)
/-- The first five stages keep the arguments. -/
theorem keep5 (r : Ref sig .tc) (h : r ∈ argRefs) : at5 W (Proc.devRef .tc r) = W (Proc.devRef .tc r) :=
  (gatherOps_keep _ r ((by decide : ∀ r ∈ argRefs, r ∉ gatherOpsW) r h)).trans (keep4 W r h)
/-- The first six stages keep the arguments. -/
theorem keep6 (r : Ref sig .tc) (h : r ∈ argRefs) : at6 W (Proc.devRef .tc r) = W (Proc.devRef .tc r) :=
  (lossOps_keep _ r ((by decide : ∀ r ∈ argRefs, r ∉ lossOpsW) r h)).trans (keep5 W r h)
/-- The first seven stages keep the arguments. -/
theorem keep7 (r : Ref sig .tc) (h : r ∈ argRefs) : at7 W (Proc.devRef .tc r) = W (Proc.devRef .tc r) :=
  (stOps_keep _ r ((by decide : ∀ r ∈ argRefs, r ∉ stOpsW) r h)).trans (keep6 W r h)
/-- The first eight stages keep the arguments. -/
theorem keep8 (r : Ref sig .tc) (h : r ∈ argRefs) : at8 W (Proc.devRef .tc r) = W (Proc.devRef .tc r) :=
  (deconv1OpsB_keep _ r ((by decide : ∀ r ∈ argRefs, r ∉ deconv1OpsBW) r h)).trans
    ((deconv1OpsA_keep _ r ((by decide : ∀ r ∈ argRefs, r ∉ deconv1OpsAW) r h)).trans (keep7 W r h))
/-- The program keeps the arguments. -/
theorem keep10 (r : Ref sig .tc) (h : r ∈ argRefs) : at10 W (Proc.devRef .tc r) = W (Proc.devRef .tc r) :=
  (tailOps_keep _ r ((by decide : ∀ r ∈ argRefs, r ∉ tailOpsW) r h)).trans
    ((deconv2Ops_keep _ r ((by decide : ∀ r ∈ argRefs, r ∉ deconv2OpsW) r h)).trans (keep8 W r h))

/-- The hidden image. -/
theorem hid_at (n : Fin 32) (o : Fin 64) (i j : Fin 128) : (at1 W (Proc.devRef .tc main_v24) : Vec Ideal S32x64x128x128 .f32) (ix4 n o i j) = (netOf W).hid n o i j := by
  refine (conv1 W n o i j).trans ?_
  simp only [rd4_ix, rd1_ix]
  rfl

/-- The hidden image, bordered. -/
theorem hid_pad (n : Fin 32) (o : Fin 64) (r s : ℕ) :
    pdn 128 (fun r s => rd4 (at1 W (Proc.devRef .tc main_v24) : Vec Ideal S32x64x128x128 .f32) n o r s) r s = pdn 128 ((netOf W).hid n o) r s :=
  pdn_congr (fun i hi j hj => (rd4_ix _ n o ⟨i, hi⟩ ⟨j, hj⟩).symm.trans (hid_at W n o ⟨i, hi⟩ ⟨j, hj⟩)) r s

/-- The vectors, channels last. -/
theorem lat_at (n : Fin 32) (r s o : Fin 64) : (at2 W (Proc.devRef .tc main_v50) : Vec Ideal S32x64x64x64 .f32) (ix4 n r s o) = (netOf W).lat n (r * 64 + s) o := by
  refine (conv2_last (at1 W) n r s o).trans ((conv2 (at1 W) n o r s).trans ?_)
  rw [keep1 W main_arg3 (by decide), keep1 W main_arg4 (by decide)]
  have d : ((r : ℕ) * 64 + s) / 64 = r := by omega
  have e : ((r : ℕ) * 64 + s) % 64 = s := by omega
  unfold Args.lat
  rw [d, e, rd1_ix (W (Proc.devRef .tc main_arg4) : Vec Ideal S64 .f32) o]
  refine congrArg (fun t => max (t + (netOf W).b2 o) 0) (Finset.sum_congr rfl fun kh _ => Finset.sum_congr rfl fun kw _ => Finset.sum_congr rfl fun c _ => ?_)
  exact congrArg₂ (· * ·) (hid_pad W n c _ _) (rd4_ix (W (Proc.devRef .tc main_arg3) : Vec Ideal S64x64x4x4 .f32) o c kh kw)

/-- The vectors as the rows of a table. -/
theorem row_at (r : Fin 131072) (o : Fin 64) : rd2 (at2 W (Proc.devRef .tc main_v51) : Vec Ideal S131072x64 .f32) r o = (netOf W).lat (r / 4096) (r % 4096) o := by
  refine (rd2_ix _ r o).symm.trans ((conv2_row (at1 W) r o).trans ((lat_at W _ _ _ o).trans ?_))
  exact congrArg (fun p => (netOf W).lat (r / 4096) p o) (by show (r : ℕ) / 64 % 64 * 64 + r % 64 = r % 4096; omega)

variable (h : (netOf W).Finite)
include h

/-- The codes found. -/
theorem code_at (r : Fin 131072) : (at4 W (Proc.devRef .tc main_v68) : Vec Ideal S131072 .i32) (ix1 r) = BitVec.ofNat 32 ((netOf W).code (r / 4096) (r % 4096) : ℕ) := by
  refine (arg_code (at3 W) r _ fun k => ?_).trans (congrArg (fun k : Fin 512 => BitVec.ofNat 32 (k : ℕ)) (h.code_eq (r / 4096) (r % 4096)))
  refine (dists_at _ _ _ r k).trans ?_
  have e1 : rd2 (at3 W (Proc.devRef .tc main_v54) : Vec Ideal S131072x1 .f32) r 0 = ∑ c : Fin 64, (netOf W).lat (r / 4096) (r % 4096) c * (netOf W).lat (r / 4096) (r % 4096) c := by
    have t : ∑ c : Fin 64, (rd2 (at2 W (Proc.devRef .tc main_v51) : Vec Ideal S131072x64 .f32) r c * rd2 (at2 W (Proc.devRef .tc main_v51) : Vec Ideal S131072x64 .f32) r c : EReal)
        = ∑ c : Fin 64, (netOf W).lat (r / 4096) (r % 4096) c * (netOf W).lat (r / 4096) (r % 4096) c :=
      Finset.sum_congr rfl fun c _ => congrArg₂ (· * ·) (row_at W r c) (row_at W r c)
    exact (rd2_ix _ r (0 : Fin 1)).symm.trans ((dot_norm (at2 W) r).trans t)
  have e2 : rd2 (at3 W (Proc.devRef .tc main_v56) : Vec Ideal S131072x512 .f32) r k = ∑ c : Fin 64, (netOf W).lat (r / 4096) (r % 4096) c * (netOf W).cb k c := by
    have t : ∑ c : Fin 64, (rd2 (at2 W (Proc.devRef .tc main_v51) : Vec Ideal S131072x64 .f32) r c * rd2 (at2 W (Proc.devRef .tc main_arg9) : Vec Ideal S512x64 .f32) k c : EReal)
        = ∑ c : Fin 64, (netOf W).lat (r / 4096) (r % 4096) c * (netOf W).cb k c := by
      rw [keep2 W main_arg9 (by decide)]
      exact Finset.sum_congr rfl fun c _ => congrArg (· * (netOf W).cb k c) (row_at W r c)
    exact (rd2_ix _ r k).symm.trans ((dot_code (at2 W) r k).trans t)
  rw [e1, e2, keep3 W main_arg9 (by decide)]
  rfl

/-- The codebook rows put at the places. -/
theorem quant_at (n : Fin 32) (r s l : Fin 64) : (at5 W (Proc.devRef .tc main_v76) : Vec Ideal S32x64x64x64 .f32) (ix4 n r s l) = (netOf W).quant n r s l := by
  refine (gather_row (at4 W) ((netOf W).code n (r * 64 + s)) n r s l ?_).trans ?_
  · refine (code_at W h _).trans ?_
    have d : ((n : ℕ) * 4096 + r * 64 + s) / 4096 = n := by omega
    have e : ((n : ℕ) * 4096 + r * 64 + s) % 4096 = r * 64 + s := by omega
    show BitVec.ofNat 32 ((netOf W).code (((n : ℕ) * 4096 + r * 64 + s) / 4096) (((n : ℕ) * 4096 + r * 64 + s) % 4096) : ℕ) = _
    rw [d, e]
  · rw [keep4 W main_arg9 (by decide)]
    exact rd2_ix _ _ l

omit h in
/-- The vectors stay until the codebook rows are looked up. -/
theorem lat5_at (n : Fin 32) (r s o : Fin 64) : rd4 (at5 W (Proc.devRef .tc main_v50) : Vec Ideal S32x64x64x64 .f32) n r s o = (netOf W).lat n (r * 64 + s) o := by
  have e : at5 W (Proc.devRef .tc main_v50) = at2 W (Proc.devRef .tc main_v50) :=
    (gatherOps_keep _ _ (by decide)).trans ((argOps_keep _ _ (by decide)).trans (dotOps_keep _ _ (by decide)))
  rw [e]
  exact (rd4_ix _ n r s o).symm.trans (lat_at W n r s o)

/-- The loss. -/
theorem loss_at_end : (at10 W (Proc.devRef .tc main_v86) : Vec Ideal S_ .f32) ix0 = (netOf W).loss := by
  have e : at10 W (Proc.devRef .tc main_v86) = at6 W (Proc.devRef .tc main_v86) :=
    (tailOps_keep _ _ (by decide)).trans ((deconv2Ops_keep _ _ (by decide)).trans ((deconv1OpsB_keep _ _ (by decide)).trans
      ((deconv1OpsA_keep _ _ (by decide)).trans (stOps_keep _ _ (by decide)))))
  rw [e]
  refine (loss_val (at5 W)).trans ?_
  have q : ∀ (n : Fin 32) (r s l : Fin 64), rd4 (at5 W (Proc.devRef .tc main_v76) : Vec Ideal S32x64x64x64 .f32) n r s l = (netOf W).quant n r s l :=
    fun n r s l => (rd4_ix _ n r s l).symm.trans (quant_at W h n r s l)
  have d : ∀ (n : Fin 32) (r s l : Fin 64), rd4 (at5 W (Proc.devRef .tc main_v76) : Vec Ideal S32x64x64x64 .f32) n r s l - rd4 (at5 W (Proc.devRef .tc main_v50) : Vec Ideal S32x64x64x64 .f32) n r s l
      = (netOf W).quant n r s l - (netOf W).lat n (r * 64 + s) l := fun n r s l => congrArg₂ (· - ·) (q n r s l) (lat5_at W n r s l)
  have t := Finset.sum_congr (rfl : (Finset.univ : Finset (Fin 32)) = Finset.univ) fun n _ =>
    (Finset.sum_congr rfl fun r _ => Finset.sum_congr rfl fun s _ => Finset.sum_congr rfl fun l _ => congrArg₂ (· * ·) (d n r s l) (d n r s l)).trans (h.share_eq n)
  exact (congrArg (fun t => Ideal.div t (Ideal.ofBits FTy.f32 0x4B000000#32) + Ideal.ofBits FTy.f32 0x3E800000#32 * Ideal.div t (Ideal.ofBits FTy.f32 0x4B000000#32)) t).trans h.loss_eq

/-- The codebook rows handed to the decoder, channels first. -/
theorem st_quant (n : Fin 32) (c r s : Fin 64) : (at7 W (Proc.devRef .tc main_v89) : Vec Ideal S32x64x64x64 .f32) (ix4 n c r s) = (netOf W).quant n r s c := by
  refine (st_at (at6 W) n c r s).trans ?_
  have e1 : at6 W (Proc.devRef .tc main_v50) = at5 W (Proc.devRef .tc main_v50) := lossOps_keep _ _ (by decide)
  have e2 : at6 W (Proc.devRef .tc main_v76) = at5 W (Proc.devRef .tc main_v76) := lossOps_keep _ _ (by decide)
  rw [e1, e2, lat5_at, (rd4_ix _ n r s c).symm.trans (quant_at W h n r s c)]
  exact h.back n r s c

/-- The first transposed convolution's image. -/
theorem up_at (n : Fin 32) (o : Fin 64) (i j : Fin 128) : (at8 W (Proc.devRef .tc main_v115) : Vec Ideal S32x64x128x128 .f32) (ix4 n o i j) = (netOf W).up n o i j := by
  refine (deconv1 (at7 W) n o i j).trans ?_
  rw [keep7 W main_arg5 (by decide), keep7 W main_arg6 (by decide), rd1_ix (W (Proc.devRef .tc main_arg6) : Vec Ideal S64 .f32) o]
  refine congrArg (fun t => max (t + (netOf W).b3 o) 0) (dect_congr (fun kh _ kw _ r s => Finset.sum_congr rfl fun c _ => ?_) i j)
  refine congrArg (· * (netOf W).w3 c o kh kw) (pdn_congr (fun r hr s hs => ?_) r s)
  exact (rd4_ix _ n c ⟨r, hr⟩ ⟨s, hs⟩).symm.trans (st_quant W h n c ⟨r, hr⟩ ⟨s, hs⟩)

/-- The pictures rebuilt. -/
theorem pix_at (n : Fin 32) (y x : Fin 256) : (at10 W (Proc.devRef .tc main_v146) : Vec Ideal S32x1x256x256 .f32) (ix4 n 0 y x) = (netOf W).pix n y x := by
  refine (tail_pix (at9 W) n y x).trans (congrArg Ideal.logistic ((deconv2 (at8 W) n 0 y x).trans ?_))
  rw [keep8 W main_arg7 (by decide), keep8 W main_arg8 (by decide), rd1_ix (W (Proc.devRef .tc main_arg8) : Vec Ideal S1 .f32) 0]
  refine congrArg (fun t => t + (netOf W).b4) (dect_congr (fun kh _ kw _ r s => Finset.sum_congr rfl fun c _ => ?_) y x)
  refine congrArg (· * (netOf W).w4 c kh kw) (pdn_congr (fun r hr s hs => ?_) r s)
  exact (rd4_ix _ n c ⟨r, hr⟩ ⟨s, hs⟩).symm.trans (up_at W h n c ⟨r, hr⟩ ⟨s, hs⟩)

/-- The codes in one column. -/
theorem codes_at_end (r : Fin 131072) : (at10 W (Proc.devRef .tc main_v147) : Vec Ideal S131072x1 .i32) (ix2 r 0) = BitVec.ofNat 32 ((netOf W).code (r / 4096) (r % 4096) : ℕ) := by
  refine (tail_code (at9 W) r).trans ?_
  have e : at9 W (Proc.devRef .tc main_v68) = at4 W (Proc.devRef .tc main_v68) :=
    (deconv2Ops_keep _ _ (by decide)).trans ((deconv1OpsB_keep _ _ (by decide)).trans ((deconv1OpsA_keep _ _ (by decide)).trans
      ((stOps_keep _ _ (by decide)).trans ((lossOps_keep _ _ (by decide)).trans (gatherOps_keep _ _ (by decide))))))
  rw [e]
  exact code_at W h r
end Cert.ReferenceIdeal.Value
-- ==== Proof.Claims.lean ====
/-
  The claims about the reference and about the two programs together: the reference's frame, what the precondition
  says of the arguments' entries, and the equality of the three results.
-/
module
public import proofs.«01_k».proof.Defs
public import proofs.«01_k».proof.Proof.KFin
public import proofs.«01_k».proof.Proof.RVal
public import Idealize.ShloMosaic.Adequacy
public import Idealize.ShloMosaic.Init
@[expose] public section
set_option maxRecDepth 16384
noncomputable section
open Idealize.ShloMosaic Idealize.ShloMosaic.TcCoe Idealize.SL.Sem
namespace Cert.Proof
open Cert.Spec
open StableHlo

/-- The shapes the precondition broadcasts to. -/
instance preFacts : Cert.Pre_finite.Facts where
  bcast_S_S32x1x256x256 := by decide
  bcast_S_S64x1x4x4 := by decide
  bcast_S_S64 := by decide
  bcast_S_S64x64x4x4 := by decide
  bcast_S_S512x64 := by decide

/-- An array whose entries compare below plus infinity in magnitude holds reals. -/
theorem isR_of_cmp {s : Shape} (x : FVec Ideal s .f32) (h)
    (e : cmpf .olt (Host.absf x) (broadcastInDim s ![] h (constant (F := Ideal) Cert.Pre_finite.S_ .f32 0x7F800000#32)) = fun _ => 1#1) (i : s.Idx) : IsR (x i) := by
  have hi : Ideal.cmp .olt (max (x i) (-(x i))) (Ideal.ofBits FTy.f32 0x7F800000#32) = 1#1 := congrFun e i
  have ht : Ideal.ofBits FTy.f32 0x7F800000#32 = ⊤ := by simp [Ideal.ofBits, Ideal.ieee]
  rw [ht] at hi
  generalize x i = y at hi ⊢
  induction y using EReal.rec with
  | bot => simp [Ideal.cmp] at hi
  | coe r => exact ⟨r, rfl⟩
  | top => simp [Ideal.cmp] at hi

/-- An array of reals of rank one reads reals everywhere. -/
theorem isR_rd1 {a : ℕ} {x : (⟨1, ![a]⟩ : Shape).Idx → EReal} (h : ∀ i, IsR (x i)) (i : ℕ) : IsR (rd1 x i) := by
  unfold rd1
  split
  · exact h _
  · exact .zero

/-- An array of reals of rank two reads reals everywhere. -/
theorem isR_rd2 {a b : ℕ} {x : (⟨2, ![a, b]⟩ : Shape).Idx → EReal} (h : ∀ i, IsR (x i)) (i j : ℕ) : IsR (rd2 x i j) := by
  unfold rd2
  split
  · exact h _
  · exact .zero

/-- An array of reals of rank four reads reals everywhere. -/
theorem isR_rd4 {a b c d : ℕ} {x : (⟨4, ![a, b, c, d]⟩ : Shape).Idx → EReal} (h : ∀ i, IsR (x i)) (i j k l : ℕ) : IsR (rd4 x i j k l) := by
  unfold rd4
  split
  · exact h _
  · exact .zero

/-- Under the precondition the network's arguments are reals. -/
theorem net_finite (m : (ℓ : Loc Cert.KernelIdeal.nD Cert.KernelIdeal.τ Cert.KernelIdeal.sig) → Buf (Elt Ideal) ℓ)
    (hpre : Cert.Pre_KernelIdeal_finite m) (c : Dev Cert.KernelIdeal.nD) : (Cert.KernelIdeal.Value.net m c).Finite := by
  obtain ⟨h0, h1, h2, h3, h4, h9⟩ := hpre c
  exact
    { x := fun n i j => isR_rd4 (isR_of_cmp _ _ h0) n 0 i j
      w1 := fun o i j => isR_rd4 (isR_of_cmp _ _ h1) o 0 i j
      b1 := fun o => isR_rd1 (isR_of_cmp _ _ h2) o
      w2 := fun o c i j => isR_rd4 (isR_of_cmp _ _ h3) o c i j
      b2 := fun o => isR_rd1 (isR_of_cmp _ _ h4) o
      cb := fun k c => isR_rd2 (isR_of_cmp _ _ h9) k c }

/-- The reference ends with its arguments unchanged and no counter raised. -/
theorem frame_reference : Cert.quiescent_ReferenceIdeal := fun m ρ _ =>
  (θ_run Cert.ReferenceIdeal.defs _ _).mono (fun r h => ⟨fun c => by
      have k : ∀ b ∈ Cert.ReferenceIdeal.Value.argRefs, r.2.mem ((c.tc : Thread Cert.ReferenceIdeal.nD Cert.ReferenceIdeal.τ).loc b) = m ((c.tc : Thread Cert.ReferenceIdeal.nD Cert.ReferenceIdeal.τ).loc b) := fun b hb =>
        (h c b).trans ((congrFun (Cert.ReferenceIdeal.Value.after_ops (launchContents m c)) _).trans (Cert.ReferenceIdeal.Value.keep10 (launchContents m c) b hb))
      exact ⟨k _ (by decide), k _ (by decide), k _ (by decide), k _ (by decide), k _ (by decide), k _ (by decide), k _ (by decide), k _ (by decide), k _ (by decide), k _ (by decide)⟩,
    Idealize.ShloMosaic.sem_eq_zero_of_no_sems (by decide) r.2⟩)
    (Cert.ReferenceIdeal.Value.run_ops (F := Ideal) m ρ)

/-- Where the two memories agree on the arguments, so do the networks read from them. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.netOf (launchContents m' c) = Cert.KernelIdeal.Value.net m c := by
  unfold Cert.ReferenceIdeal.Value.netOf Cert.KernelIdeal.Value.net
  congr 1
  · exact funext fun n => funext fun i => funext fun j => congrArg (fun X : FVec Ideal Cert.KernelIdeal.S32x1x256x256 .f32 => rd4 X n 0 i j) h0
  · exact funext fun o => funext fun i => funext fun j => congrArg (fun X : FVec Ideal Cert.KernelIdeal.S64x1x4x4 .f32 => rd4 X o 0 i j) h1
  · exact funext fun o => congrArg (fun X : FVec Ideal Cert.KernelIdeal.S64 .f32 => rd1 X o) h2
  · exact funext fun o => funext fun n => funext fun i => funext fun j => congrArg (fun X : FVec Ideal Cert.KernelIdeal.S64x64x4x4 .f32 => rd4 X o n i j) h3
  · exact funext fun o => congrArg (fun X : FVec Ideal Cert.KernelIdeal.S64 .f32 => rd1 X o) h4
  · exact funext fun o => funext fun n => funext fun i => funext fun j => congrArg (fun X : FVec Ideal Cert.KernelIdeal.S64x64x4x4 .f32 => rd4 X o n i j) h5
  · exact funext fun o => congrArg (fun X : FVec Ideal Cert.KernelIdeal.S64 .f32 => rd1 X o) h6
  · exact funext fun o => funext fun i => funext fun j => congrArg (fun X : FVec Ideal Cert.KernelIdeal.S64x1x4x4 .f32 => rd4 X o 0 i j) h7
  · exact congrArg (fun X : FVec Ideal Cert.KernelIdeal.S1 .f32 => rd1 X 0) h8
  · exact funext fun k => funext fun l => congrArg (fun X : FVec Ideal Cert.KernelIdeal.S512x64 .f32 => rd2 X k l) h9

/-- A scalar is its one entry. -/
theorem scalar_ext {a b : (⟨0, ![]⟩ : Shape).Idx → EReal} (h : a ix0 = b ix0) : a = b :=
  funext fun i => by rw [show i = ix0 from funext fun d => d.elim0]; exact h

/-- A column is its entries. -/
theorem column_ext {T : Type} {n : ℕ} {a b : (⟨2, ![n, 1]⟩ : Shape).Idx → T} (h : ∀ r, a (ix2 r 0) = b (ix2 r 0)) : a = b :=
  funext fun i => by
    have e : i = ix2 (i 0) 0 := (eq_ix2 i).trans (congrArg (ix2 (i 0)) (Subsingleton.elim (α := Fin 1) _ _))
    rw [e]; exact h (i 0)

/-- A stack of one-channel pictures is its entries. -/
theorem picture_ext {n p q : ℕ} {a b : (⟨4, ![n, 1, p, q]⟩ : Shape).Idx → EReal} (h : ∀ r y x, a (ix4 r 0 y x) = b (ix4 r 0 y x)) : a = b :=
  funext fun i => by
    have e : i = ix4 (i 0) 0 (i 2) (i 3) := (eq_ix4 i).trans (congrArg (fun z => ix4 (i 0) z (i 2) (i 3)) (Subsingleton.elim (α := Fin 1) _ _))
    rw [e]; exact h (i 0) (i 2) (i 3)

/-- From memories that agree on arguments of which the ones the codes come from are finite, the kernel and the reference
    both end, with the same loss, the same codes and the same pictures, and their arguments unchanged. -/
theorem algebraic : Cert.algebraic_KernelIdeal_ReferenceIdeal_pre_finite := by
  intro m ρ m' ρ' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v223,
    fun c => Pipeline.afterTail₀ Cert.KernelIdeal.cfgs (Cert.KernelIdeal.Gen.dats m) 0 (Cert.KernelIdeal.Gen.V0 m) [Cert.KernelIdeal.Gen.hostOps1] c Cert.KernelIdeal.main_v220,
    fun c => Pipeline.afterTail₀ Cert.KernelIdeal.cfgs (Cert.KernelIdeal.Gen.dats m) 0 (Cert.KernelIdeal.Gen.V0 m) [Cert.KernelIdeal.Gen.hostOps1] c Cert.KernelIdeal.main_v222, ?_, ?_⟩
  · exact (θ_run Cert.KernelIdeal.defs _ _).mono (fun r h c =>
      ⟨(h.1 c).2 Cert.KernelIdeal.main_v223 (by decide), (h.1 c).2 Cert.KernelIdeal.main_v220 (by decide), (h.1 c).2 Cert.KernelIdeal.main_v222 (by decide), h.2 c⟩)
      (θ_run_and (Cert.KernelIdeal.Gen.run_main m ρ) (Cert.KernelIdeal.Gen.unchanged m ρ))
  · refine (θ_run Cert.ReferenceIdeal.defs _ _).mono (fun r h => ?_) (Cert.ReferenceIdeal.Value.run_ops (F := Ideal) m' ρ')
    intro c
    obtain ⟨h0, h1, h2, h3, h4, h5, h6, h7, h8, h9⟩ := hagree c
    have hn := net_eq m m' c h0 h1 h2 h3 h4 h5 h6 h7 h8 h9
    have hf : (Cert.ReferenceIdeal.Value.netOf (launchContents m' c)).Finite := hn ▸ net_finite m hpre c
    have o := fun b : Ref Cert.ReferenceIdeal.sig .tc => (h c b).trans (congrFun (Cert.ReferenceIdeal.Value.after_ops (launchContents m' c)) (Proc.devRef .tc b))
    have k : ∀ b ∈ Cert.ReferenceIdeal.Value.argRefs, r.2.mem ((c.tc : Thread Cert.ReferenceIdeal.nD Cert.ReferenceIdeal.τ).loc b) = m' ((c.tc : Thread Cert.ReferenceIdeal.nD Cert.ReferenceIdeal.τ).loc b) := fun b hb =>
      (o b).trans (Cert.ReferenceIdeal.Value.keep10 (launchContents m' c) b hb)
    refine ⟨(o _).trans ?_, (o _).trans ?_, (o _).trans ?_, k _ (by decide), k _ (by decide), k _ (by decide), k _ (by decide), k _ (by decide), k _ (by decide), k _ (by decide), k _ (by decide), k _ (by decide), k _ (by decide)⟩
    · refine scalar_ext ((Cert.ReferenceIdeal.Value.loss_at_end _ hf).trans ?_)
      rw [hn]
      exact (Cert.KernelIdeal.Value.res_loss m c).symm
    · refine column_ext fun i => (Cert.ReferenceIdeal.Value.codes_at_end _ hf i).trans ?_
      rw [hn]
      exact (Cert.KernelIdeal.Value.res_codes m c i).symm
    · refine picture_ext fun n y x => (Cert.ReferenceIdeal.Value.pix_at _ hf n y x).trans ?_
      rw [hn]
      exact (Cert.KernelIdeal.Value.res_pics m c n y x).symm
end Cert.Proof
-- ==== Proof.lean ====
/-
  The certificate: the frames of the kernel, of the same text over the extended reals and of the reference, the relation
  between the kernel's two readings, and the equality of the three results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
